-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S6x256x48x96 : Shape := ⟨4, ![6, 256, 48, 96]⟩
abbrev S6x256x48 : Shape := ⟨3, ![6, 256, 48]⟩
abbrev S6x256x48x128 : Shape := ⟨4, ![6, 256, 48, 128]⟩
abbrev S6x48x128x96 : Shape := ⟨4, ![6, 48, 128, 96]⟩
abbrev S48x96 : Shape := ⟨2, ![48, 96]⟩
abbrev S6144 : Shape := ⟨1, ![6144]⟩
abbrev S_ : Shape := ⟨0, ![]⟩

class Facts : Prop where
  bcast_S_S6x256x48x96 : S_.BroadcastsInDim S6x256x48x96 (![] : Fin 0 → Fin S6x256x48x96.rank)
  reducesTo_S6x256x48x96_S_d0_1_2_3 : S6x256x48x96.ReducesTo [0, 1, 2, 3] S_
  h_S_ : 0 < S_.numel
  bcast_S_S6x256x48 : S_.BroadcastsInDim S6x256x48 (![] : Fin 0 → Fin S6x256x48.rank)
  reducesTo_S6x256x48_S_d0_1_2 : S6x256x48.ReducesTo [0, 1, 2] S_
  bcast_S_S6x256x48x128 : S_.BroadcastsInDim S6x256x48x128 (![] : Fin 0 → Fin S6x256x48x128.rank)
  reducesTo_S6x256x48x128_S_d0_1_2_3 : S6x256x48x128.ReducesTo [0, 1, 2, 3] S_
  bcast_S_S6x48x128x96 : S_.BroadcastsInDim S6x48x128x96 (![] : Fin 0 → Fin S6x48x128x96.rank)
  reducesTo_S6x48x128x96_S_d0_1_2_3 : S6x48x128x96.ReducesTo [0, 1, 2, 3] S_
  bcast_S_S48x96 : S_.BroadcastsInDim S48x96 (![] : Fin 0 → Fin S48x96.rank)
  reducesTo_S48x96_S_d0_1 : S48x96.ReducesTo [0, 1] S_

variable [Facts]

def fn_part4 {F : FTy → Type} [FloatOps F] (main_arg10 : FVec F S48x96 .f32) (main_v61 : IVec S_ 1) (main_v66 : IVec S6x48x128x96 1) : IVec S_ 1 :=
  let main_c_27 : IVec S_ 1 := constantI S_ 1 1#1
  let main_v67 : IVec S_ 1 := (fun x v => Host.reduce IntOp.andi x v reducesTo_S6x48x128x96_S_d0_1_2_3 h_S_) main_v66 main_c_27
  let main_v68 : IVec S_ 1 := andi main_v61 main_v67
  let main_cst_28 : FVec F S_ .f32 := constant S_ .f32 0x7F800000#32
  let main_v69 : FVec F S48x96 .f32 := broadcastInDim S48x96 ![] bcast_S_S48x96 main_cst_28
  let main_v70 : IVec S48x96 1 := cmpf .olt main_arg10 main_v69
  let main_cst_29 : FVec F S_ .f32 := constant S_ .f32 0xFF800000#32
  let main_v71 : FVec F S48x96 .f32 := broadcastInDim S48x96 ![] bcast_S_S48x96 main_cst_29
  let main_v72 : IVec S48x96 1 := cmpf .ogt main_arg10 main_v71
  let main_v73 : IVec S48x96 1 := andi main_v70 main_v72
  let main_c_30 : IVec S_ 1 := constantI S_ 1 1#1
  let main_v74 : IVec S_ 1 := (fun x v => Host.reduce IntOp.andi x v reducesTo_S48x96_S_d0_1 h_S_) main_v73 main_c_30
  let main_v75 : IVec S_ 1 := andi main_v68 main_v74
  main_v75

def fn_part3 {F : FTy → Type} [FloatOps F] (main_arg7 : FVec F S6x256x48x96 .bf16) (main_arg8 : FVec F S6x256x48x96 .f32) (main_arg9 : FVec F S6x48x128x96 .f32) (main_arg10 : FVec F S48x96 .f32) (main_v47 : IVec S_ 1) (main_v49 : IVec S6x256x48x96 1) : IVec S_ 1 :=
  let main_cst_20 : FVec F S_ .bf16 := constant S_ .bf16 0xFF80#16
  let main_v50 : FVec F S6x256x48x96 .bf16 := broadcastInDim S6x256x48x96 ![] bcast_S_S6x256x48x96 main_cst_20
  let main_v51 : IVec S6x256x48x96 1 := cmpf .ogt main_arg7 main_v50
  let main_v52 : IVec S6x256x48x96 1 := andi main_v49 main_v51
  let main_c_21 : IVec S_ 1 := constantI S_ 1 1#1
  let main_v53 : IVec S_ 1 := (fun x v => Host.reduce IntOp.andi x v reducesTo_S6x256x48x96_S_d0_1_2_3 h_S_) main_v52 main_c_21
  let main_v54 : IVec S_ 1 := andi main_v47 main_v53
  let main_cst_22 : FVec F S_ .f32 := constant S_ .f32 0x7F800000#32
  let main_v55 : FVec F S6x256x48x96 .f32 := broadcastInDim S6x256x48x96 ![] bcast_S_S6x256x48x96 main_cst_22
  let main_v56 : IVec S6x256x48x96 1 := cmpf .olt main_arg8 main_v55
  let main_cst_23 : FVec F S_ .f32 := constant S_ .f32 0xFF800000#32
  let main_v57 : FVec F S6x256x48x96 .f32 := broadcastInDim S6x256x48x96 ![] bcast_S_S6x256x48x96 main_cst_23
  let main_v58 : IVec S6x256x48x96 1 := cmpf .ogt main_arg8 main_v57
  let main_v59 : IVec S6x256x48x96 1 := andi main_v56 main_v58
  let main_c_24 : IVec S_ 1 := constantI S_ 1 1#1
  let main_v60 : IVec S_ 1 := (fun x v => Host.reduce IntOp.andi x v reducesTo_S6x256x48x96_S_d0_1_2_3 h_S_) main_v59 main_c_24
  let main_v61 : IVec S_ 1 := andi main_v54 main_v60
  let main_cst_25 : FVec F S_ .f32 := constant S_ .f32 0x7F800000#32
  let main_v62 : FVec F S6x48x128x96 .f32 := broadcastInDim S6x48x128x96 ![] bcast_S_S6x48x128x96 main_cst_25
  let main_v63 : IVec S6x48x128x96 1 := cmpf .olt main_arg9 main_v62
  let main_cst_26 : FVec F S_ .f32 := constant S_ .f32 0xFF800000#32
  let main_v64 : FVec F S6x48x128x96 .f32 := broadcastInDim S6x48x128x96 ![] bcast_S_S6x48x128x96 main_cst_26
  let main_v65 : IVec S6x48x128x96 1 := cmpf .ogt main_arg9 main_v64
  let main_v66 : IVec S6x48x128x96 1 := andi main_v63 main_v65
  fn_part4 (F := F) main_arg10 main_v61 main_v66

def fn_part2 {F : FTy → Type} [FloatOps F] (main_arg5 : FVec F S6x256x48 .f32) (main_arg6 : FVec F S6x256x48x96 .bf16) (main_arg7 : FVec F S6x256x48x96 .bf16) (main_arg8 : FVec F S6x256x48x96 .f32) (main_arg9 : FVec F S6x48x128x96 .f32) (main_arg10 : FVec F S48x96 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S6x256x48 .f32 := broadcastInDim S6x256x48 ![] bcast_S_S6x256x48 main_cst_13
  let main_v35 : IVec S6x256x48 1 := cmpf .olt main_arg5 main_v34
  let main_cst_14 : FVec F S_ .f32 := constant S_ .f32 0xFF800000#32
  let main_v36 : FVec F S6x256x48 .f32 := broadcastInDim S6x256x48 ![] bcast_S_S6x256x48 main_cst_14
  let main_v37 : IVec S6x256x48 1 := cmpf .ogt main_arg5 main_v36
  let main_v38 : IVec S6x256x48 1 := andi main_v35 main_v37
  let main_c_15 : IVec S_ 1 := constantI S_ 1 1#1
  let main_v39 : IVec S_ 1 := (fun x v => Host.reduce IntOp.andi x v reducesTo_S6x256x48_S_d0_1_2 h_S_) main_v38 main_c_15
  let main_v40 : IVec S_ 1 := andi main_v33 main_v39
  let main_cst_16 : FVec F S_ .bf16 := constant S_ .bf16 0x7F80#16
  let main_v41 : FVec F S6x256x48x96 .bf16 := broadcastInDim S6x256x48x96 ![] bcast_S_S6x256x48x96 main_cst_16
  let main_v42 : IVec S6x256x48x96 1 := cmpf .olt main_arg6 main_v41
  let main_cst_17 : FVec F S_ .bf16 := constant S_ .bf16 0xFF80#16
  let main_v43 : FVec F S6x256x48x96 .bf16 := broadcastInDim S6x256x48x96 ![] bcast_S_S6x256x48x96 main_cst_17
  let main_v44 : IVec S6x256x48x96 1 := cmpf .ogt main_arg6 main_v43
  let main_v45 : IVec S6x256x48x96 1 := andi main_v42 main_v44
  let main_c_18 : IVec S_ 1 := constantI S_ 1 1#1
  let main_v46 : IVec S_ 1 := (fun x v => Host.reduce IntOp.andi x v reducesTo_S6x256x48x96_S_d0_1_2_3 h_S_) main_v45 main_c_18
  let main_v47 : IVec S_ 1 := andi main_v40 main_v46
  let main_cst_19 : FVec F S_ .bf16 := constant S_ .bf16 0x7F80#16
  let main_v48 : FVec F S6x256x48x96 .bf16 := broadcastInDim S6x256x48x96 ![] bcast_S_S6x256x48x96 main_cst_19
  let main_v49 : IVec S6x256x48x96 1 := cmpf .olt main_arg7 main_v48
  fn_part3 (F := F) main_arg7 main_arg8 main_arg9 main_arg10 main_v47 main_v49

def fn_part1 {F : FTy → Type} [FloatOps F] (main_arg2 : FVec F S6x256x48x96 .f32) (main_arg3 : FVec F S6x256x48 .f32) (main_arg4 : FVec F S6x256x48x128 .f32) (main_arg5 : FVec F S6x256x48 .f32) (main_arg6 : FVec F S6x256x48x96 .bf16) (main_arg7 : FVec F S6x256x48x96 .bf16) (main_arg8 : FVec F S6x256x48x96 .f32) (main_arg9 : FVec F S6x48x128x96 .f32) (main_arg10 : FVec F S48x96 .f32) (main_v12 : IVec S_ 1) (main_v14 : IVec S6x256x48x96 1) (main_v15 : FVec F S6x256x48x96 .f32) : IVec S_ 1 :=
  let main_v16 : IVec S6x256x48x96 1 := cmpf .ogt main_arg2 main_v15
  let main_v17 : IVec S6x256x48x96 1 := andi main_v14 main_v16
  let main_c_6 : IVec S_ 1 := constantI S_ 1 1#1
  let main_v18 : IVec S_ 1 := (fun x v => Host.reduce IntOp.andi x v reducesTo_S6x256x48x96_S_d0_1_2_3 h_S_) main_v17 main_c_6
  let main_v19 : IVec S_ 1 := andi main_v12 main_v18
  let main_cst_7 : FVec F S_ .f32 := constant S_ .f32 0x7F800000#32
  let main_v20 : FVec F S6x256x48 .f32 := broadcastInDim S6x256x48 ![] bcast_S_S6x256x48 main_cst_7
  let main_v21 : IVec S6x256x48 1 := cmpf .olt main_arg3 main_v20
  let main_cst_8 : FVec F S_ .f32 := constant S_ .f32 0xFF800000#32
  let main_v22 : FVec F S6x256x48 .f32 := broadcastInDim S6x256x48 ![] bcast_S_S6x256x48 main_cst_8
  let main_v23 : IVec S6x256x48 1 := cmpf .ogt main_arg3 main_v22
  let main_v24 : IVec S6x256x48 1 := andi main_v21 main_v23
  let main_c_9 : IVec S_ 1 := constantI S_ 1 1#1
  let main_v25 : IVec S_ 1 := (fun x v => Host.reduce IntOp.andi x v reducesTo_S6x256x48_S_d0_1_2 h_S_) main_v24 main_c_9
  let main_v26 : IVec S_ 1 := andi main_v19 main_v25
  let main_cst_10 : FVec F S_ .f32 := constant S_ .f32 0x7F800000#32
  let main_v27 : FVec F S6x256x48x128 .f32 := broadcastInDim S6x256x48x128 ![] bcast_S_S6x256x48x128 main_cst_10
  let main_v28 : IVec S6x256x48x128 1 := cmpf .olt main_arg4 main_v27
  let main_cst_11 : FVec F S_ .f32 := constant S_ .f32 0xFF800000#32
  let main_v29 : FVec F S6x256x48x128 .f32 := broadcastInDim S6x256x48x128 ![] bcast_S_S6x256x48x128 main_cst_11
  let main_v30 : IVec S6x256x48x128 1 := cmpf .ogt main_arg4 main_v29
  let main_v31 : IVec S6x256x48x128 1 := andi main_v28 main_v30
  let main_c_12 : IVec S_ 1 := constantI S_ 1 1#1
  let main_v32 : IVec S_ 1 := (fun x v => Host.reduce IntOp.andi x v reducesTo_S6x256x48x128_S_d0_1_2_3 h_S_) main_v31 main_c_12
  fn_part2 (F := F) main_arg5 main_arg6 main_arg7 main_arg8 main_arg9 main_arg10 main_v26 main_v32

def fn {F : FTy → Type} [FloatOps F] (main_arg0 : FVec F S6x256x48x96 .f32) (main_arg1 : FVec F S6x256x48 .f32) (main_arg2 : FVec F S6x256x48x96 .f32) (main_arg3 : FVec F S6x256x48 .f32) (main_arg4 : FVec F S6x256x48x128 .f32) (main_arg5 : FVec F S6x256x48 .f32) (main_arg6 : FVec F S6x256x48x96 .bf16) (main_arg7 : FVec F S6x256x48x96 .bf16) (main_arg8 : FVec F S6x256x48x96 .f32) (main_arg9 : FVec F S6x48x128x96 .f32) (main_arg10 : FVec F S48x96 .f32) (main_arg11 : FVec F S6144 .f32) (main_arg12 : FVec F S6144 .f32) : IVec S_ 1 :=
  let main_cst : FVec F S_ .f32 := constant S_ .f32 0x7F800000#32
  let main_v0 : FVec F S6x256x48x96 .f32 := broadcastInDim S6x256x48x96 ![] bcast_S_S6x256x48x96 main_cst
  let main_v1 : IVec S6x256x48x96 1 := cmpf .olt main_arg0 main_v0
  let main_cst_0 : FVec F S_ .f32 := constant S_ .f32 0xFF800000#32
  let main_v2 : FVec F S6x256x48x96 .f32 := broadcastInDim S6x256x48x96 ![] bcast_S_S6x256x48x96 main_cst_0
  let main_v3 : IVec S6x256x48x96 1 := cmpf .ogt main_arg0 main_v2
  let main_v4 : IVec S6x256x48x96 1 := andi main_v1 main_v3
  let main_c : IVec S_ 1 := constantI S_ 1 1#1
  let main_v5 : IVec S_ 1 := (fun x v => Host.reduce IntOp.andi x v reducesTo_S6x256x48x96_S_d0_1_2_3 h_S_) main_v4 main_c
  let main_cst_1 : FVec F S_ .f32 := constant S_ .f32 0x7F800000#32
  let main_v6 : FVec F S6x256x48 .f32 := broadcastInDim S6x256x48 ![] bcast_S_S6x256x48 main_cst_1
  let main_v7 : IVec S6x256x48 1 := cmpf .olt main_arg1 main_v6
  let main_cst_2 : FVec F S_ .f32 := constant S_ .f32 0xFF800000#32
  let main_v8 : FVec F S6x256x48 .f32 := broadcastInDim S6x256x48 ![] bcast_S_S6x256x48 main_cst_2
  let main_v9 : IVec S6x256x48 1 := cmpf .ogt main_arg1 main_v8
  let main_v10 : IVec S6x256x48 1 := andi main_v7 main_v9
  let main_c_3 : IVec S_ 1 := constantI S_ 1 1#1
  let main_v11 : IVec S_ 1 := (fun x v => Host.reduce IntOp.andi x v reducesTo_S6x256x48_S_d0_1_2 h_S_) main_v10 main_c_3
  let main_v12 : IVec S_ 1 := andi main_v5 main_v11
  let main_cst_4 : FVec F S_ .f32 := constant S_ .f32 0x7F800000#32
  let main_v13 : FVec F S6x256x48x96 .f32 := broadcastInDim S6x256x48x96 ![] bcast_S_S6x256x48x96 main_cst_4
  let main_v14 : IVec S6x256x48x96 1 := cmpf .olt main_arg2 main_v13
  let main_cst_5 : FVec F S_ .f32 := constant S_ .f32 0xFF800000#32
  let main_v15 : FVec F S6x256x48x96 .f32 := broadcastInDim S6x256x48x96 ![] bcast_S_S6x256x48x96 main_cst_5
  fn_part1 (F := F) main_arg2 main_arg3 main_arg4 main_arg5 main_arg6 main_arg7 main_arg8 main_arg9 main_arg10 main_v12 main_v14 main_v15
-- ==== Kernel.lean ====
abbrev S6x256x48x96 : Shape := ⟨4, ![6, 256, 48, 96]⟩
abbrev S6x256x48 : Shape := ⟨3, ![6, 256, 48]⟩
abbrev S6x256x48x128 : Shape := ⟨4, ![6, 256, 48, 128]⟩
abbrev S6x48x128x96 : Shape := ⟨4, ![6, 48, 128, 96]⟩
abbrev S48x96 : Shape := ⟨2, ![48, 96]⟩
abbrev S6144 : Shape := ⟨1, ![6144]⟩
abbrev S_ : Shape := ⟨0, ![]⟩
abbrev S48x128 : Shape := ⟨2, ![48, 128]⟩
abbrev S6x256x6144 : Shape := ⟨3, ![6, 256, 6144]⟩
abbrev S1x32x48x96 : Shape := ⟨4, ![1, 32, 48, 96]⟩
abbrev S1x32x48 : Shape := ⟨3, ![1, 32, 48]⟩
abbrev S1x32x48x128 : Shape := ⟨4, ![1, 32, 48, 128]⟩
abbrev S1x48x128x96 : Shape := ⟨4, ![1, 48, 128, 96]⟩
abbrev S1x32x6144 : Shape := ⟨3, ![1, 32, 6144]⟩
abbrev S1716x128 : Shape := ⟨2, ![1716, 128]⟩
abbrev S1664x128 : Shape := ⟨2, ![1664, 128]⟩
abbrev S48x96x128 : Shape := ⟨3, ![48, 96, 128]⟩
abbrev S128x128 : Shape := ⟨2, ![128, 128]⟩
abbrev S1x1x128x96 : Shape := ⟨4, ![1, 1, 128, 96]⟩
abbrev S128x96 : Shape := ⟨2, ![128, 96]⟩
abbrev S96x128 : Shape := ⟨2, ![96, 128]⟩
abbrev S1x96x128 : Shape := ⟨3, ![1, 96, 128]⟩
abbrev S1x1x48x96 : Shape := ⟨4, ![1, 1, 48, 96]⟩
abbrev S1x1x48x128 : Shape := ⟨4, ![1, 1, 48, 128]⟩
abbrev S32x48 : Shape := ⟨2, ![32, 48]⟩
abbrev S32x80 : Shape := ⟨2, ![32, 80]⟩
abbrev S32x128 : Shape := ⟨2, ![32, 128]⟩
abbrev S64x128 : Shape := ⟨2, ![64, 128]⟩
abbrev S8x128 : Shape := ⟨2, ![8, 128]⟩
abbrev S32x1 : Shape := ⟨2, ![32, 1]⟩
abbrev S1x128 : Shape := ⟨2, ![1, 128]⟩
abbrev S32 : Shape := ⟨1, ![32]⟩
abbrev S32x32 : Shape := ⟨2, ![32, 32]⟩
abbrev S8x128x1 : Shape := ⟨3, ![8, 128, 1]⟩
abbrev S1x32x128 : Shape := ⟨3, ![1, 32, 128]⟩

abbrev nBuf : Space → Nat
  | .hbm => 23
  | .vmem => 35
  | .smem => 0
  | _ => 0

abbrev bufTy : (tb : Table) → Fin (tcTables nBuf tb) → BufTy
  | .hbm, ⟨0, _⟩ => ⟨S6x256x48x96, .f32⟩
  | .hbm, ⟨1, _⟩ => ⟨S6x256x48, .f32⟩
  | .hbm, ⟨2, _⟩ => ⟨S6x256x48x96, .f32⟩
  | .hbm, ⟨3, _⟩ => ⟨S6x256x48, .f32⟩
  | .hbm, ⟨4, _⟩ => ⟨S6x256x48x128, .f32⟩
  | .hbm, ⟨5, _⟩ => ⟨S6x256x48, .f32⟩
  | .hbm, ⟨6, _⟩ => ⟨S6x256x48x96, .bf16⟩
  | .hbm, ⟨7, _⟩ => ⟨S6x256x48x96, .bf16⟩
  | .hbm, ⟨8, _⟩ => ⟨S6x256x48x96, .f32⟩
  | .hbm, ⟨9, _⟩ => ⟨S6x48x128x96, .f32⟩
  | .hbm, ⟨10, _⟩ => ⟨S48x96, .f32⟩
  | .hbm, ⟨11, _⟩ => ⟨S6144, .f32⟩
  | .hbm, ⟨12, _⟩ => ⟨S6144, .f32⟩
  | .hbm, ⟨13, _⟩ => ⟨S6x256x48x96, .fp8e4m3⟩
  | .hbm, ⟨14, _⟩ => ⟨S6x256x48x96, .fp8e4m3⟩
  | .hbm, ⟨15, _⟩ => ⟨S6x256x48x128, .fp8e4m3⟩
  | .hbm, ⟨16, _⟩ => ⟨S_, .i32⟩
  | .hbm, ⟨17, _⟩ => ⟨S_, .f32⟩
  | .hbm, ⟨18, _⟩ => ⟨S48x128, .f32⟩
  | .hbm, ⟨19, _⟩ => ⟨S48x128, .f32⟩
  | .hbm, ⟨20, _⟩ => ⟨S48x128, .f32⟩
  | .hbm, ⟨21, _⟩ => ⟨S6x256x6144, .bf16⟩
  | .hbm, ⟨22, _⟩ => ⟨S6x48x128x96, .f32⟩
  | .local _ .vmem, ⟨0, _⟩ => ⟨S1x32x48x96, .fp8e4m3⟩
  | .local _ .vmem, ⟨1, _⟩ => ⟨S1x32x48x96, .fp8e4m3⟩
  | .local _ .vmem, ⟨2, _⟩ => ⟨S1x32x48, .f32⟩
  | .local _ .vmem, ⟨3, _⟩ => ⟨S1x32x48, .f32⟩
  | .local _ .vmem, ⟨4, _⟩ => ⟨S1x32x48x96, .fp8e4m3⟩
  | .local _ .vmem, ⟨5, _⟩ => ⟨S1x32x48x96, .fp8e4m3⟩
  | .local _ .vmem, ⟨6, _⟩ => ⟨S1x32x48, .f32⟩
  | .local _ .vmem, ⟨7, _⟩ => ⟨S1x32x48, .f32⟩
  | .local _ .vmem, ⟨8, _⟩ => ⟨S1x32x48x128, .fp8e4m3⟩
  | .local _ .vmem, ⟨9, _⟩ => ⟨S1x32x48x128, .fp8e4m3⟩
  | .local _ .vmem, ⟨10, _⟩ => ⟨S1x32x48, .f32⟩
  | .local _ .vmem, ⟨11, _⟩ => ⟨S1x32x48, .f32⟩
  | .local _ .vmem, ⟨12, _⟩ => ⟨S1x32x48x96, .bf16⟩
  | .local _ .vmem, ⟨13, _⟩ => ⟨S1x32x48x96, .bf16⟩
  | .local _ .vmem, ⟨14, _⟩ => ⟨S1x32x48x96, .bf16⟩
  | .local _ .vmem, ⟨15, _⟩ => ⟨S1x32x48x96, .bf16⟩
  | .local _ .vmem, ⟨16, _⟩ => ⟨S1x32x48x96, .f32⟩
  | .local _ .vmem, ⟨17, _⟩ => ⟨S1x32x48x96, .f32⟩
  | .local _ .vmem, ⟨18, _⟩ => ⟨S1x48x128x96, .f32⟩
  | .local _ .vmem, ⟨19, _⟩ => ⟨S1x48x128x96, .f32⟩
  | .local _ .vmem, ⟨20, _⟩ => ⟨S48x128, .f32⟩
  | .local _ .vmem, ⟨21, _⟩ => ⟨S48x128, .f32⟩
  | .local _ .vmem, ⟨22, _⟩ => ⟨S48x128, .f32⟩
  | .local _ .vmem, ⟨23, _⟩ => ⟨S1x32x6144, .bf16⟩
  | .local _ .vmem, ⟨24, _⟩ => ⟨S1x32x6144, .bf16⟩
  | .local _ .vmem, ⟨25, _⟩ => ⟨S1x48x128x96, .f32⟩
  | .local _ .vmem, ⟨26, _⟩ => ⟨S1x48x128x96, .f32⟩
  | .local _ .vmem, ⟨27, _⟩ => ⟨S1716x128, .f32⟩
  | .local _ .vmem, ⟨28, _⟩ => ⟨S1664x128, .f32⟩
  | .local _ .vmem, ⟨29, _⟩ => ⟨S1664x128, .f32⟩
  | .local _ .vmem, ⟨30, _⟩ => ⟨S1664x128, .f32⟩
  | .local _ .vmem, ⟨31, _⟩ => ⟨S1664x128, .f32⟩
  | .local _ .vmem, ⟨32, _⟩ => ⟨S1664x128, .f32⟩
  | .local _ .vmem, ⟨33, _⟩ => ⟨S48x96x128, .f32⟩
  | .local _ .vmem, ⟨34, _⟩ => ⟨S128x128, .f32⟩
  | _, _ => ⟨S6x256x48x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call0_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![6, 8], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_1163 : BitVec 32 := 0#32
  let c48_i32 : BitVec 32 := 48#32
  let v1312 : BitVec 32 := Scalar.addi c0_i32_1163 c48_i32
  let c1_i32_1164 : BitVec 32 := 1#32
  ⟨c0_i32_1163, v1312, c1_i32_1164⟩
def k0_off1 (k0_t1 : Fin k0_t1_loop.trips) : Fin 4 → Nat :=
  let c0_1166 : Index := 0#32
  let c0_i32_1163 : BitVec 32 := 0#32
  let c1_i32_1164 : BitVec 32 := 1#32
  let arg25 : BitVec 32 := Scf.iv c0_i32_1163 c1_i32_1164 k0_t1
  let v1313 : Index := Scalar.indexCast arg25
  let c0_1167 : Index := 0#32
  let c0_1168 : Index := 0#32
  ![0, v1313.toNat, 0, 0]
def k0_off2 (k0_t1 : Fin k0_t1_loop.trips) : Fin 3 → Nat :=
  let c0_i32_1163 : BitVec 32 := 0#32
  let c1_i32_1164 : BitVec 32 := 1#32
  let arg25 : BitVec 32 := Scf.iv c0_i32_1163 c1_i32_1164 k0_t1
  let v1317 : Index := Scalar.indexCast arg25
  let c0_1169 : Index := 0#32
  let c0_1170 : Index := 0#32
  ![v1317.toNat, 0, 0]
@[reducible] def k0_t2_loop : Scf.Loop 32 :=
  let c0_i32_1159 : BitVec 32 := 0#32
  let c12_i32 : BitVec 32 := 12#32
  let v1308 : BitVec 32 := Scalar.addi c0_i32_1159 c12_i32
  let c1_i32_1160 : BitVec 32 := 1#32
  ⟨c0_i32_1159, v1308, c1_i32_1160⟩
def k0_off3 (k0_t2 : Fin k0_t2_loop.trips) (c0_i32_1166 : BitVec 32) (c0_i32_1167 : BitVec 32) : Fin 2 → Nat :=
  let c0_i32_1159 : BitVec 32 := 0#32
  let c1_i32_1160 : BitVec 32 := 1#32
  let arg25 : BitVec 32 := Scf.iv c0_i32_1159 c1_i32_1160 k0_t2
  let c4_i32_1165 : BitVec 32 := 4#32
  let v1318 : BitVec 32 := Scalar.muli arg25 c4_i32_1165
  let v1319 : BitVec 32 := Scalar.addi v1318 c0_i32_1166
  let v1322 : BitVec 32 := Scalar.addi v1319 c0_i32_1167
  let v1323 : Index := Scalar.indexCast v1322
  let c0_1168 : Index := 0#32
  ![v1323.toNat, 0]
def k0_off4 (k0_t2 : Fin k0_t2_loop.trips) (c0_i32_1166 : BitVec 32) : Fin 2 → Nat :=
  let c0_i32_1159 : BitVec 32 := 0#32
  let c1_i32_1160 : BitVec 32 := 1#32
  let arg25 : BitVec 32 := Scf.iv c0_i32_1159 c1_i32_1160 k0_t2
  let c4_i32_1165 : BitVec 32 := 4#32
  let v1318 : BitVec 32 := Scalar.muli arg25 c4_i32_1165
  let v1319 : BitVec 32 := Scalar.addi v1318 c0_i32_1166
  let c0_i32_1171 : BitVec 32 := 0#32
  let v1337 : BitVec 32 := Scalar.addi v1319 c0_i32_1171
  let v1338 : Index := Scalar.indexCast v1337
  let c0_1172 : Index := 0#32
  ![v1338.toNat, 0]
def k0_off5 (k0_t2 : Fin k0_t2_loop.trips) (c0_i32_1166 : BitVec 32) : Fin 2 → Nat :=
  let c0_i32_1159 : BitVec 32 := 0#32
  let c1_i32_1160 : BitVec 32 := 1#32
  let arg25 : BitVec 32 := Scf.iv c0_i32_1159 c1_i32_1160 k0_t2
  let c4_i32_1165 : BitVec 32 := 4#32
  let v1318 : BitVec 32 := Scalar.muli arg25 c4_i32_1165
  let v1319 : BitVec 32 := Scalar.addi v1318 c0_i32_1166
  let v1355 : Index := Scalar.indexCast v1319
  let c0_1181 : Index := 0#32
  ![v1355.toNat, 0]
def k0_off6 (k0_t2 : Fin k0_t2_loop.trips) (c0_i32_1166 : BitVec 32) : Fin 2 → Nat :=
  let c0_i32_1159 : BitVec 32 := 0#32
  let c1_i32_1160 : BitVec 32 := 1#32
  let arg25 : BitVec 32 := Scf.iv c0_i32_1159 c1_i32_1160 k0_t2
  let c4_i32_1165 : BitVec 32 := 4#32
  let v1318 : BitVec 32 := Scalar.muli arg25 c4_i32_1165
  let v1319 : BitVec 32 := Scalar.addi v1318 c0_i32_1166
  let v1377 : Index := Scalar.indexCast v1319
  let c0_1186 : Index := 0#32
  ![v1377.toNat, 0]
def k0_off7 (k0_t2 : Fin k0_t2_loop.trips) (c0_i32_1166 : BitVec 32) : Fin 3 → Nat :=
  let c0_i32_1159 : BitVec 32 := 0#32
  let c1_i32_1160 : BitVec 32 := 1#32
  let arg25 : BitVec 32 := Scf.iv c0_i32_1159 c1_i32_1160 k0_t2
  let c4_i32_1165 : BitVec 32 := 4#32
  let v1318 : BitVec 32 := Scalar.muli arg25 c4_i32_1165
  let v1319 : BitVec 32 := Scalar.addi v1318 c0_i32_1166
  let v3381 : Index := Scalar.indexCast v1319
  let c0_1672 : Index := 0#32
  let c0_1673 : Index := 0#32
  ![v3381.toNat, 0, 0]
def k0_mult1 (k0_t2 : Fin k0_t2_loop.trips) : BitVec 32 :=
  let c0_i32_1159 : BitVec 32 := 0#32
  let c1_i32_1160 : BitVec 32 := 1#32
  let arg25 : BitVec 32 := Scf.iv c0_i32_1159 c1_i32_1160 k0_t2
  let c4_i32_1165 : BitVec 32 := 4#32
  let v1318 : BitVec 32 := Scalar.muli arg25 c4_i32_1165
  let c0_i32_1166 : BitVec 32 := 0#32
  let v1319 : BitVec 32 := Scalar.addi v1318 c0_i32_1166
  let c128_i32_1686 : BitVec 32 := 128#32
  let v3436 : BitVec 32 := Scalar.muli v1319 c128_i32_1686
  v3436
def k0_off8 (k0_t2 : Fin k0_t2_loop.trips) (c0_i32_1166 : BitVec 32) : Fin 3 → Nat :=
  let c0_1687 : Index := 0#32
  let c0_1688 : Index := 0#32
  let c0_i32_1159 : BitVec 32 := 0#32
  let c1_i32_1160 : BitVec 32 := 1#32
  let arg25 : BitVec 32 := Scf.iv c0_i32_1159 c1_i32_1160 k0_t2
  let c4_i32_1165 : BitVec 32 := 4#32
  let v1318 : BitVec 32 := Scalar.muli arg25 c4_i32_1165
  let v1319 : BitVec 32 := Scalar.addi v1318 c0_i32_1166
  let c128_i32_1686 : BitVec 32 := 128#32
  let v3436 : BitVec 32 := Scalar.muli v1319 c128_i32_1686
  let v3437 : BitVec 32 := v3436
  let v3438 : Index := Scalar.indexCast v3437
  ![0, 0, v3438.toNat]
def k0_mult2 (k0_t2 : Fin k0_t2_loop.trips) : BitVec 32 :=
  let c0_i32_1159 : BitVec 32 := 0#32
  let c1_i32_1160 : BitVec 32 := 1#32
  let arg25 : BitVec 32 := Scf.iv c0_i32_1159 c1_i32_1160 k0_t2
  let c4_i32_1188 : BitVec 32 := 4#32
  let v1388 : BitVec 32 := Scalar.muli arg25 c4_i32_1188
  let c1_i32_1189 : BitVec 32 := 1#32
  let v1389 : BitVec 32 := Scalar.addi v1388 c1_i32_1189
  let c128_i32_1704 : BitVec 32 := 128#32
  let v3500 : BitVec 32 := Scalar.muli v1389 c128_i32_1704
  v3500
def k0_mult3 (k0_t2 : Fin k0_t2_loop.trips) : BitVec 32 :=
  let c0_i32_1159 : BitVec 32 := 0#32
  let c1_i32_1160 : BitVec 32 := 1#32
  let arg25 : BitVec 32 := Scf.iv c0_i32_1159 c1_i32_1160 k0_t2
  let c4_i32_1212 : BitVec 32 := 4#32
  let v1459 : BitVec 32 := Scalar.muli arg25 c4_i32_1212
  let c2_i32 : BitVec 32 := 2#32
  let v1460 : BitVec 32 := Scalar.addi v1459 c2_i32
  let c128_i32_1722 : BitVec 32 := 128#32
  let v3564 : BitVec 32 := Scalar.muli v1460 c128_i32_1722
  v3564
def k0_mult4 (k0_t2 : Fin k0_t2_loop.trips) : BitVec 32 :=
  let c0_i32_1159 : BitVec 32 := 0#32
  let c1_i32_1160 : BitVec 32 := 1#32
  let arg25 : BitVec 32 := Scf.iv c0_i32_1159 c1_i32_1160 k0_t2
  let c4_i32_1235 : BitVec 32 := 4#32
  let v1530 : BitVec 32 := Scalar.muli arg25 c4_i32_1235
  let c3_i32 : BitVec 32 := 3#32
  let v1531 : BitVec 32 := Scalar.addi v1530 c3_i32
  let c128_i32_1740 : BitVec 32 := 128#32
  let v3628 : BitVec 32 := Scalar.muli v1531 c128_i32_1740
  v3628
def k0_cond3 (i : grid0.Coords) : BitVec 1 :=
  let arg1 : BitVec 32 := BitVec.ofNat 32 (i 1).val
  let c7_i32 : BitVec 32 := 7#32
  let v1309 : BitVec 1 := Scalar.cmpi .eq arg1 c7_i32
  let v1310 : BitVec 32 := Scalar.extui v1309
  let c0_i32_1162 : BitVec 32 := 0#32
  let v1311 : BitVec 1 := Scalar.cmpi .ne v1310 c0_i32_1162
  v1311

@[reducible] def k0_t3_loop : Scf.Loop 32 :=
  let c0_i32_1163 : BitVec 32 := 0#32
  let c48_i32 : BitVec 32 := 48#32
  let v1312 : BitVec 32 := Scalar.addi c0_i32_1163 c48_i32
  let c1_i32_1164 : BitVec 32 := 1#32
  ⟨c0_i32_1163, v1312, c1_i32_1164⟩
def k0_off9 (k0_t3 : Fin k0_t3_loop.trips) : Fin 3 → Nat :=
  let c0_i32_1163 : BitVec 32 := 0#32
  let c1_i32_1164 : BitVec 32 := 1#32
  let arg25 : BitVec 32 := Scf.iv c0_i32_1163 c1_i32_1164 k0_t3
  let v1313 : Index := Scalar.indexCast arg25
  let c0_1166 : Index := 0#32
  let c0_1167 : Index := 0#32
  ![v1313.toNat, 0, 0]
def k0_off10 (k0_t3 : Fin k0_t3_loop.trips) : Fin 4 → Nat :=
  let c0_1168 : Index := 0#32
  let c0_i32_1163 : BitVec 32 := 0#32
  let c1_i32_1164 : BitVec 32 := 1#32
  let arg25 : BitVec 32 := Scf.iv c0_i32_1163 c1_i32_1164 k0_t3
  let v1317 : Index := Scalar.indexCast arg25
  let c0_1169 : Index := 0#32
  let c0_1170 : Index := 0#32
  ![0, v1317.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x48x96 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x48x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x48x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x48x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x48x96 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x48x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x48x128x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S48x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S48x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S48x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x32x6144 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x48x128x96 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S6x256x48x96 : Shape := ⟨4, ![6, 256, 48, 96]⟩
abbrev S6x256x48 : Shape := ⟨3, ![6, 256, 48]⟩
abbrev S6x256x48x128 : Shape := ⟨4, ![6, 256, 48, 128]⟩
abbrev S6x48x128x96 : Shape := ⟨4, ![6, 48, 128, 96]⟩
abbrev S48x96 : Shape := ⟨2, ![48, 96]⟩
abbrev S6144 : Shape := ⟨1, ![6144]⟩
abbrev S6x256x6144 : Shape := ⟨3, ![6, 256, 6144]⟩
abbrev S6x1x48x96 : Shape := ⟨4, ![6, 1, 48, 96]⟩
abbrev S6x48x96 : Shape := ⟨3, ![6, 48, 96]⟩
abbrev S6x1x48 : Shape := ⟨3, ![6, 1, 48]⟩
abbrev S6x48 : Shape := ⟨2, ![6, 48]⟩
abbrev S6x48x1 : Shape := ⟨3, ![6, 48, 1]⟩
abbrev S6x1x48x128 : Shape := ⟨4, ![6, 1, 48, 128]⟩
abbrev S6x48x128 : Shape := ⟨3, ![6, 48, 128]⟩
abbrev S1x48x96 : Shape := ⟨3, ![1, 48, 96]⟩
abbrev S6x48x1x96 : Shape := ⟨4, ![6, 48, 1, 96]⟩
abbrev S6x48x128x1 : Shape := ⟨4, ![6, 48, 128, 1]⟩
abbrev S1x48x128 : Shape := ⟨3, ![1, 48, 128]⟩
abbrev S6x1x6144 : Shape := ⟨3, ![6, 1, 6144]⟩

abbrev nBuf : Space → Nat
  | .hbm => 18
  | .vmem => 15
  | .smem => 0
  | _ => 0

abbrev bufTy : (tb : Table) → Fin (tcTables nBuf tb) → BufTy
  | .hbm, ⟨0, _⟩ => ⟨S6x256x48x96, .f32⟩
  | .hbm, ⟨1, _⟩ => ⟨S6x256x48, .f32⟩
  | .hbm, ⟨2, _⟩ => ⟨S6x256x48x96, .f32⟩
  | .hbm, ⟨3, _⟩ => ⟨S6x256x48, .f32⟩
  | .hbm, ⟨4, _⟩ => ⟨S6x256x48x128, .f32⟩
  | .hbm, ⟨5, _⟩ => ⟨S6x256x48, .f32⟩
  | .hbm, ⟨6, _⟩ => ⟨S6x256x48x96, .bf16⟩
  | .hbm, ⟨7, _⟩ => ⟨S6x256x48x96, .bf16⟩
  | .hbm, ⟨8, _⟩ => ⟨S6x256x48x96, .f32⟩
  | .hbm, ⟨9, _⟩ => ⟨S6x48x128x96, .f32⟩
  | .hbm, ⟨10, _⟩ => ⟨S48x96, .f32⟩
  | .hbm, ⟨11, _⟩ => ⟨S6144, .f32⟩
  | .hbm, ⟨12, _⟩ => ⟨S6144, .f32⟩
  | .hbm, ⟨13, _⟩ => ⟨S6x256x48x96, .fp8e4m3⟩
  | .hbm, ⟨14, _⟩ => ⟨S6x256x48x96, .fp8e4m3⟩
  | .hbm, ⟨15, _⟩ => ⟨S6x256x48x128, .fp8e4m3⟩
  | .hbm, ⟨16, _⟩ => ⟨S6x256x6144, .bf16⟩
  | .hbm, ⟨17, _⟩ => ⟨S6x48x128x96, .f32⟩
  | .local _ .vmem, ⟨0, _⟩ => ⟨S6x256x48x96, .fp8e4m3⟩
  | .local _ .vmem, ⟨1, _⟩ => ⟨S6x256x48, .f32⟩
  | .local _ .vmem, ⟨2, _⟩ => ⟨S6x256x48x96, .fp8e4m3⟩
  | .local _ .vmem, ⟨3, _⟩ => ⟨S6x256x48, .f32⟩
  | .local _ .vmem, ⟨4, _⟩ => ⟨S6x256x48x128, .fp8e4m3⟩
  | .local _ .vmem, ⟨5, _⟩ => ⟨S6x256x48, .f32⟩
  | .local _ .vmem, ⟨6, _⟩ => ⟨S6x256x48x96, .bf16⟩
  | .local _ .vmem, ⟨7, _⟩ => ⟨S6x256x48x96, .bf16⟩
  | .local _ .vmem, ⟨8, _⟩ => ⟨S6x256x48x96, .f32⟩
  | .local _ .vmem, ⟨9, _⟩ => ⟨S6x48x128x96, .f32⟩
  | .local _ .vmem, ⟨10, _⟩ => ⟨S48x96, .f32⟩
  | .local _ .vmem, ⟨11, _⟩ => ⟨S6144, .f32⟩
  | .local _ .vmem, ⟨12, _⟩ => ⟨S6144, .f32⟩
  | .local _ .vmem, ⟨13, _⟩ => ⟨S6x256x6144, .bf16⟩
  | .local _ .vmem, ⟨14, _⟩ => ⟨S6x48x128x96, .f32⟩
  | _, _ => ⟨S6x256x48x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3_0 : Ref sig .tc := ⟨.hbm, 16, rfl⟩
abbrev main_v3_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c256_i32 : BitVec 32 := 256#32
  let v3 : BitVec 32 := Scalar.addi c0_i32 c256_i32
  let c1_i32 : BitVec 32 := 1#32
  ⟨c0_i32, v3, c1_i32⟩
def k0_off1 (k0_t1 : Fin k0_t1_loop.trips) : Fin 4 → Nat :=
  let c0_11 : Index := 0#32
  let c0_i32 : BitVec 32 := 0#32
  let c1_i32 : BitVec 32 := 1#32
  let arg15 : BitVec 32 := Scf.iv c0_i32 c1_i32 k0_t1
  let v8 : Index := Scalar.indexCast arg15
  let c0_12 : Index := 0#32
  let c0_13 : Index := 0#32
  ![0, v8.toNat, 0, 0]
def k0_off2 (k0_t1 : Fin k0_t1_loop.trips) : Fin 3 → Nat :=
  let c0_14 : Index := 0#32
  let c0_i32 : BitVec 32 := 0#32
  let c1_i32 : BitVec 32 := 1#32
  let arg15 : BitVec 32 := Scf.iv c0_i32 c1_i32 k0_t1
  let v12 : Index := Scalar.indexCast arg15
  let c0_15 : Index := 0#32
  ![0, v12.toNat, 0]
def k0_off3 (k0_t1 : Fin k0_t1_loop.trips) : Fin 4 → Nat :=
  let c0_21 : Index := 0#32
  let c0_i32 : BitVec 32 := 0#32
  let c1_i32 : BitVec 32 := 1#32
  let arg15 : BitVec 32 := Scf.iv c0_i32 c1_i32 k0_t1
  let v28 : Index := Scalar.indexCast arg15
  let c0_22 : Index := 0#32
  let c0_23 : Index := 0#32
  ![0, v28.toNat, 0, 0]
abbrev stage0_0 : Fin 1 → Memref sig .tc .vmem S6x256x48x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x48x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x48x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x48x96 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x48x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256x48x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x48x128x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x256x6144 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x48x128x96 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Kern.WeakRun.lean ====
/-
  One run of the kernel's body of `Kernel`, saying only what the frame claim needs: from its windows' staging buffers and
  its scratch at any contents the body runs to its end, with the inputs' buffers as they were and every other
  buffer at some contents.
-/
module

public import proofs.«01_k».proof.Proof.Gen.Kernel.Frame
public import proofs.«01_k».proof.Proof.Gen.Kernel.Skeleton
public import proofs.«01_k».proof.Proof.Gen.Kernel.Loops

@[expose] public section

set_option maxRecDepth 16384
set_option maxHeartbeats 8000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's first branch: both grid coordinates are zero. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The body runs from any contents; the inputs come back as they were. -/
theorem kernelRun (c : Dev nD) (E : Set ℕ) (i : grid0.Coords)
    (arg2 : Memref sig .tc .vmem S1x32x48x96 .fp8e4m3) (harg2 : arg2.IsWhole) (arg3 : Memref sig .tc .vmem S1x32x48 .f32) (harg3 : arg3.IsWhole) (arg4 : Memref sig .tc .vmem S1x32x48x96 .fp8e4m3) (harg4 : arg4.IsWhole) (arg5 : Memref sig .tc .vmem S1x32x48 .f32) (harg5 : arg5.IsWhole) (arg6 : Memref sig .tc .vmem S1x32x48x128 .fp8e4m3) (harg6 : arg6.IsWhole) (arg7 : Memref sig .tc .vmem S1x32x48 .f32) (harg7 : arg7.IsWhole) (arg8 : Memref sig .tc .vmem S1x32x48x96 .bf16) (harg8 : arg8.IsWhole) (arg9 : Memref sig .tc .vmem S1x32x48x96 .bf16) (harg9 : arg9.IsWhole) (arg10 : Memref sig .tc .vmem S1x32x48x96 .f32) (harg10 : arg10.IsWhole) (arg11 : Memref sig .tc .vmem S1x48x128x96 .f32) (harg11 : arg11.IsWhole) (arg12 : Memref sig .tc .vmem S48x128 .f32) (harg12 : arg12.IsWhole) (arg13 : Memref sig .tc .vmem S48x128 .f32) (harg13 : arg13.IsWhole) (arg14 : Memref sig .tc .vmem S48x128 .f32) (harg14 : arg14.IsWhole) (arg15 : Memref sig .tc .vmem S1x32x6144 .bf16) (harg15 : arg15.IsWhole) (arg16 : Memref sig .tc .vmem S1x48x128x96 .f32) (harg16 : arg16.IsWhole) (arg17 : Memref sig .tc .vmem S1716x128 .f32) (harg17 : arg17.IsWhole) (arg18 : Memref sig .tc .vmem S1664x128 .f32) (harg18 : arg18.IsWhole) (arg19 : Memref sig .tc .vmem S1664x128 .f32) (harg19 : arg19.IsWhole) (arg20 : Memref sig .tc .vmem S1664x128 .f32) (harg20 : arg20.IsWhole) (arg21 : Memref sig .tc .vmem S1664x128 .f32) (harg21 : arg21.IsWhole) (arg22 : Memref sig .tc .vmem S1664x128 .f32) (harg22 : arg22.IsWhole) (arg23 : Memref sig .tc .vmem S48x96x128 .f32) (harg23 : arg23.IsWhole) (arg24 : Memref sig .tc .vmem S128x128 .f32) (harg24 : arg24.IsWhole)
    (x2 : Vec F S1x32x48x96 .fp8e4m3) (x3 : Vec F S1x32x48 .f32) (x4 : Vec F S1x32x48x96 .fp8e4m3) (x5 : Vec F S1x32x48 .f32) (x6 : Vec F S1x32x48x128 .fp8e4m3) (x7 : Vec F S1x32x48 .f32) (x8 : Vec F S1x32x48x96 .bf16) (x9 : Vec F S1x32x48x96 .bf16) (x10 : Vec F S1x32x48x96 .f32) (x11 : Vec F S1x48x128x96 .f32) (x12 : Vec F S48x128 .f32) (x13 : Vec F S48x128 .f32) (x14 : Vec F S48x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
      ⊢ wp frame (wpE (defs₀ (F := F)) Variants.none c none) E (cc0_rwkv7_time_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  by_cases h1 : cond1 i = 1#1 <;> by_cases h2 : k0_cond2 i = 1#1 <;> by_cases h3 : k0_cond3 i = 1#1
  all_goals
    unfold cond1 at h1
    simp only [cc0_rwkv7_time_mix_eq_skeleton]; unfold cc0_rwkv7_time_mix_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    sl_exec (disch := assumption)
    sl_step
    iapply Hk
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexists _, _; isplitr; swap; · iexact H24
    ipureintro; rfl

end Cert.Kernel.Hand

end
-- ==== Proof.Kern.Body.lean ====
/-
  The frame of `Kernel`: every execution terminates, the arguments end as they were launched, the counters at zero.
  Both outputs and the scratch are left unnamed here.
-/
module

public import proofs.«01_k».proof.Proof.Kern.WeakRun
public import Idealize.ShloMosaic.Lib.Pipeline.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant between points: the scratch at some contents, the generator register at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA
  rw [scopedRest0_eq]; simp only [owns_whole]; try rfl

/-- The two output windows, whose contents nothing here reads. -/
def forgets0 : Fin 15 → Bool
  | ⟨13, _⟩ => true
  | ⟨14, _⟩ => true
  | _ => false

/-- The proof data on core `c`: each input's buffer at its block after the body, the outputs' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The windows' arrays are those the region starts from. -/
theorem A_eq (c : Dev nD) (w : Fin cfg0.W) : (dats m 0 c).A w = V m c (Pipeline.arrRef spec0 w) := by
  dsimp only [dats]

/-- What window 0 holds after a point's body. -/
theorem after0_0 (c : Dev nD) (t : Fin cfg0.N) : (dats m 0 c).after 0 t = iblk m c 0 t := by dsimp only [dats]
/-- What window 0 holds before a point's body: its block, as fetched. -/
theorem before0_0 (c : Dev nD) (t : Fin cfg0.N) (d) : (dats m 0 c).before 0 t d = iblk m c 0 t :=
  before0_0_of m (dats m 0 c) (A_eq m c 0) (after0_0 m c) t d
/-- What window 1 holds after a point's body. -/
theorem after0_1 (c : Dev nD) (t : Fin cfg0.N) : (dats m 0 c).after 1 t = iblk m c 1 t := by dsimp only [dats]
/-- What window 1 holds before a point's body: its block, as fetched. -/
theorem before0_1 (c : Dev nD) (t : Fin cfg0.N) (d) : (dats m 0 c).before 1 t d = iblk m c 1 t :=
  before0_1_of m (dats m 0 c) (A_eq m c 1) (after0_1 m c) t d
/-- What window 2 holds after a point's body. -/
theorem after0_2 (c : Dev nD) (t : Fin cfg0.N) : (dats m 0 c).after 2 t = iblk m c 2 t := by dsimp only [dats]
/-- What window 2 holds before a point's body: its block, as fetched. -/
theorem before0_2 (c : Dev nD) (t : Fin cfg0.N) (d) : (dats m 0 c).before 2 t d = iblk m c 2 t :=
  before0_2_of m (dats m 0 c) (A_eq m c 2) (after0_2 m c) t d
/-- What window 3 holds after a point's body. -/
theorem after0_3 (c : Dev nD) (t : Fin cfg0.N) : (dats m 0 c).after 3 t = iblk m c 3 t := by dsimp only [dats]
/-- What window 3 holds before a point's body: its block, as fetched. -/
theorem before0_3 (c : Dev nD) (t : Fin cfg0.N) (d) : (dats m 0 c).before 3 t d = iblk m c 3 t :=
  before0_3_of m (dats m 0 c) (A_eq m c 3) (after0_3 m c) t d
/-- What window 4 holds after a point's body. -/
theorem after0_4 (c : Dev nD) (t : Fin cfg0.N) : (dats m 0 c).after 4 t = iblk m c 4 t := by dsimp only [dats]
/-- What window 4 holds before a point's body: its block, as fetched. -/
theorem before0_4 (c : Dev nD) (t : Fin cfg0.N) (d) : (dats m 0 c).before 4 t d = iblk m c 4 t :=
  before0_4_of m (dats m 0 c) (A_eq m c 4) (after0_4 m c) t d
/-- What window 5 holds after a point's body. -/
theorem after0_5 (c : Dev nD) (t : Fin cfg0.N) : (dats m 0 c).after 5 t = iblk m c 5 t := by dsimp only [dats]
/-- What window 5 holds before a point's body: its block, as fetched. -/
theorem before0_5 (c : Dev nD) (t : Fin cfg0.N) (d) : (dats m 0 c).before 5 t d = iblk m c 5 t :=
  before0_5_of m (dats m 0 c) (A_eq m c 5) (after0_5 m c) t d
/-- What window 6 holds after a point's body. -/
theorem after0_6 (c : Dev nD) (t : Fin cfg0.N) : (dats m 0 c).after 6 t = iblk m c 6 t := by dsimp only [dats]
/-- What window 6 holds before a point's body: its block, as fetched. -/
theorem before0_6 (c : Dev nD) (t : Fin cfg0.N) (d) : (dats m 0 c).before 6 t d = iblk m c 6 t :=
  before0_6_of m (dats m 0 c) (A_eq m c 6) (after0_6 m c) t d
/-- What window 7 holds after a point's body. -/
theorem after0_7 (c : Dev nD) (t : Fin cfg0.N) : (dats m 0 c).after 7 t = iblk m c 7 t := by dsimp only [dats]
/-- What window 7 holds before a point's body: its block, as fetched. -/
theorem before0_7 (c : Dev nD) (t : Fin cfg0.N) (d) : (dats m 0 c).before 7 t d = iblk m c 7 t :=
  before0_7_of m (dats m 0 c) (A_eq m c 7) (after0_7 m c) t d
/-- What window 8 holds after a point's body. -/
theorem after0_8 (c : Dev nD) (t : Fin cfg0.N) : (dats m 0 c).after 8 t = iblk m c 8 t := by dsimp only [dats]
/-- What window 8 holds before a point's body: its block, as fetched. -/
theorem before0_8 (c : Dev nD) (t : Fin cfg0.N) (d) : (dats m 0 c).before 8 t d = iblk m c 8 t :=
  before0_8_of m (dats m 0 c) (A_eq m c 8) (after0_8 m c) t d
/-- What window 9 holds after a point's body. -/
theorem after0_9 (c : Dev nD) (t : Fin cfg0.N) : (dats m 0 c).after 9 t = iblk m c 9 t := by dsimp only [dats]
/-- What window 9 holds before a point's body: its block, as fetched. -/
theorem before0_9 (c : Dev nD) (t : Fin cfg0.N) (d) : (dats m 0 c).before 9 t d = iblk m c 9 t :=
  before0_9_of m (dats m 0 c) (A_eq m c 9) (after0_9 m c) t d
/-- What window 10 holds after a point's body. -/
theorem after0_10 (c : Dev nD) (t : Fin cfg0.N) : (dats m 0 c).after 10 t = iblk m c 10 t := by dsimp only [dats]
/-- What window 10 holds before a point's body: its block, as fetched. -/
theorem before0_10 (c : Dev nD) (t : Fin cfg0.N) (d) : (dats m 0 c).before 10 t d = iblk m c 10 t :=
  before0_10_of m (dats m 0 c) (A_eq m c 10) (after0_10 m c) t d
/-- What window 11 holds after a point's body. -/
theorem after0_11 (c : Dev nD) (t : Fin cfg0.N) : (dats m 0 c).after 11 t = iblk m c 11 t := by dsimp only [dats]
/-- What window 11 holds before a point's body: its block, as fetched. -/
theorem before0_11 (c : Dev nD) (t : Fin cfg0.N) (d) : (dats m 0 c).before 11 t d = iblk m c 11 t :=
  before0_11_of m (dats m 0 c) (A_eq m c 11) (after0_11 m c) t d
/-- What window 12 holds after a point's body. -/
theorem after0_12 (c : Dev nD) (t : Fin cfg0.N) : (dats m 0 c).after 12 t = iblk m c 12 t := by dsimp only [dats]
/-- What window 12 holds before a point's body: its block, as fetched. -/
theorem before0_12 (c : Dev nD) (t : Fin cfg0.N) (d) : (dats m 0 c).before 12 t d = iblk m c 12 t :=
  before0_12_of m (dats m 0 c) (A_eq m c 12) (after0_12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare d)
    ∗ (∃ d, owns (c : Thread nD τ) (st0_14 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ (∃ d, owns (c : Thread nD τ) (st0_13 t) fullShare d)
    ∗ (∃ d, owns (c : Thread nD τ) (st0_14 t) fullShare d))

/-- The body at any point, by `kernelRun`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, before0_12, after0_12]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14⟩
  iapply (kernelRun c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, H10, H11, H12, H13, H14, S0, S1, S2, S3, S4, S5, S6, S7⟩
  isplitl [S0 S1 S2 S3 S4 S5 S6 S7 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The one body of the program's table. -/
theorem defs₀_row (t : Fin cfg0.N) : defs₀ (F := F) .tc cfg0.body (cfg0.bodyArgs t (cfg0.slots t)) = bodyAt0 t := by
  unfold defs₀; rw [Defs.onTc_tc]

/-- The pipeline's body obligation, the two outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

variable [∀ e, Nonempty (Elt F e)]

set_option backward.isDefEq.respectTransparency.types false in
/-- The launch: every execution of @main terminates with the arrays no window writes as they were and the counters at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any value instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r hr => by
    obtain ⟨h, hs⟩ := hr
    refine ⟨fun c => ?_, hs⟩
    exact ⟨((h c).2 main_arg0 (Pipeline.mem_restRefs_of main_arg0 (by decide) (by decide))).trans (V_main_arg0 m c),
      (((dats m 0 c).toRForget_arrAt_iff (fgt := forgets0) (w := 1) rfl _ _).mp ((h c).1 1)).trans (((dats m 0 c).arrAt_in 1 rfl _).trans ((A_eq m c 1).trans (V_main_arg1 m c))),
      ((h c).2 main_arg2 (Pipeline.mem_restRefs_of main_arg2 (by decide) (by decide))).trans (V_main_arg2 m c),
      (((dats m 0 c).toRForget_arrAt_iff (fgt := forgets0) (w := 3) rfl _ _).mp ((h c).1 3)).trans (((dats m 0 c).arrAt_in 3 rfl _).trans ((A_eq m c 3).trans (V_main_arg3 m c))),
      ((h c).2 main_arg4 (Pipeline.mem_restRefs_of main_arg4 (by decide) (by decide))).trans (V_main_arg4 m c),
      (((dats m 0 c).toRForget_arrAt_iff (fgt := forgets0) (w := 5) rfl _ _).mp ((h c).1 5)).trans (((dats m 0 c).arrAt_in 5 rfl _).trans ((A_eq m c 5).trans (V_main_arg5 m c))),
      (((dats m 0 c).toRForget_arrAt_iff (fgt := forgets0) (w := 6) rfl _ _).mp ((h c).1 6)).trans (((dats m 0 c).arrAt_in 6 rfl _).trans ((A_eq m c 6).trans (V_main_arg6 m c))),
      (((dats m 0 c).toRForget_arrAt_iff (fgt := forgets0) (w := 7) rfl _ _).mp ((h c).1 7)).trans (((dats m 0 c).arrAt_in 7 rfl _).trans ((A_eq m c 7).trans (V_main_arg7 m c))),
      (((dats m 0 c).toRForget_arrAt_iff (fgt := forgets0) (w := 8) rfl _ _).mp ((h c).1 8)).trans (((dats m 0 c).arrAt_in 8 rfl _).trans ((A_eq m c 8).trans (V_main_arg8 m c))),
      (((dats m 0 c).toRForget_arrAt_iff (fgt := forgets0) (w := 9) rfl _ _).mp ((h c).1 9)).trans (((dats m 0 c).arrAt_in 9 rfl _).trans ((A_eq m c 9).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ)

end Cert.Kernel.Hand

end
-- ==== Proof.Kern.WeakRunIdeal.lean ====
/-
  One run of the kernel's body of `KernelIdeal`, saying only what the frame claim needs: from its windows' staging buffers and
  its scratch at any contents the body runs to its end, with the inputs' buffers as they were and every other
  buffer at some contents.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384
set_option maxHeartbeats 8000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The condition of the body's first branch: both grid coordinates are zero. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The body runs from any contents; the inputs come back as they were. -/
theorem kernelRun (c : Dev nD) (E : Set ℕ) (i : grid0.Coords)
    (arg2 : Memref sig .tc .vmem S1x32x48x96 .fp8e4m3) (harg2 : arg2.IsWhole) (arg3 : Memref sig .tc .vmem S1x32x48 .f32) (harg3 : arg3.IsWhole) (arg4 : Memref sig .tc .vmem S1x32x48x96 .fp8e4m3) (harg4 : arg4.IsWhole) (arg5 : Memref sig .tc .vmem S1x32x48 .f32) (harg5 : arg5.IsWhole) (arg6 : Memref sig .tc .vmem S1x32x48x128 .fp8e4m3) (harg6 : arg6.IsWhole) (arg7 : Memref sig .tc .vmem S1x32x48 .f32) (harg7 : arg7.IsWhole) (arg8 : Memref sig .tc .vmem S1x32x48x96 .bf16) (harg8 : arg8.IsWhole) (arg9 : Memref sig .tc .vmem S1x32x48x96 .bf16) (harg9 : arg9.IsWhole) (arg10 : Memref sig .tc .vmem S1x32x48x96 .f32) (harg10 : arg10.IsWhole) (arg11 : Memref sig .tc .vmem S1x48x128x96 .f32) (harg11 : arg11.IsWhole) (arg12 : Memref sig .tc .vmem S48x128 .f32) (harg12 : arg12.IsWhole) (arg13 : Memref sig .tc .vmem S48x128 .f32) (harg13 : arg13.IsWhole) (arg14 : Memref sig .tc .vmem S48x128 .f32) (harg14 : arg14.IsWhole) (arg15 : Memref sig .tc .vmem S1x32x6144 .bf16) (harg15 : arg15.IsWhole) (arg16 : Memref sig .tc .vmem S1x48x128x96 .f32) (harg16 : arg16.IsWhole) (arg17 : Memref sig .tc .vmem S1716x128 .f32) (harg17 : arg17.IsWhole) (arg18 : Memref sig .tc .vmem S1664x128 .f32) (harg18 : arg18.IsWhole) (arg19 : Memref sig .tc .vmem S1664x128 .f32) (harg19 : arg19.IsWhole) (arg20 : Memref sig .tc .vmem S1664x128 .f32) (harg20 : arg20.IsWhole) (arg21 : Memref sig .tc .vmem S1664x128 .f32) (harg21 : arg21.IsWhole) (arg22 : Memref sig .tc .vmem S1664x128 .f32) (harg22 : arg22.IsWhole) (arg23 : Memref sig .tc .vmem S48x96x128 .f32) (harg23 : arg23.IsWhole) (arg24 : Memref sig .tc .vmem S128x128 .f32) (harg24 : arg24.IsWhole)
    (x2 : Vec F S1x32x48x96 .fp8e4m3) (x3 : Vec F S1x32x48 .f32) (x4 : Vec F S1x32x48x96 .fp8e4m3) (x5 : Vec F S1x32x48 .f32) (x6 : Vec F S1x32x48x128 .fp8e4m3) (x7 : Vec F S1x32x48 .f32) (x8 : Vec F S1x32x48x96 .bf16) (x9 : Vec F S1x32x48x96 .bf16) (x10 : Vec F S1x32x48x96 .f32) (x11 : Vec F S1x48x128x96 .f32) (x12 : Vec F S48x128 .f32) (x13 : Vec F S48x128 .f32) (x14 : Vec F S48x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
      ⊢ wp frame (wpE (defs₀ (F := F)) Variants.none c none) E (cc0_rwkv7_time_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  by_cases h1 : cond1 i = 1#1 <;> by_cases h2 : k0_cond2 i = 1#1 <;> by_cases h3 : k0_cond3 i = 1#1
  all_goals
    unfold cond1 at h1
    simp only [cc0_rwkv7_time_mix_eq_skeleton]; unfold cc0_rwkv7_time_mix_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    sl_exec (disch := assumption)
    sl_step
    iapply Hk
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists f8; isplitr; · ipureintro; exact hf8
      iexact H8
    isplitl [H9]
    · iexists f9; isplitr; · ipureintro; exact hf9
      iexact H9
    isplitl [H10]
    · iexists f10; isplitr; · ipureintro; exact hf10
      iexact H10
    isplitl [H11]
    · iexists f11; isplitr; · ipureintro; exact hf11
      iexact H11
    isplitl [H12]
    · iexists f12; isplitr; · ipureintro; exact hf12
      iexact H12
    isplitl [H13]
    · iexists f13; isplitr; · ipureintro; exact hf13
      iexact H13
    isplitl [H14]
    · iexists f14; isplitr; · ipureintro; exact hf14
      iexact H14
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    iexists _, _; isplitr; swap; · iexact H24
    ipureintro; rfl

end Cert.KernelIdeal.Hand

end
-- ==== Proof.Kern.BodyIdeal.lean ====
/-
  The frame of `KernelIdeal`: every execution terminates, the arguments end as they were launched, the counters at zero.
  Both outputs and the scratch are left unnamed here.
-/
module

public import proofs.«01_k».proof.Proof.Kern.WeakRunIdeal
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The invariant between points: the scratch at some contents, the generator register at some state. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA
  rw [scopedRest0_eq]; simp only [owns_whole]; try rfl

/-- The two output windows, whose contents nothing here reads. -/
def forgets0 : Fin 15 → Bool
  | ⟨13, _⟩ => true
  | ⟨14, _⟩ => true
  | _ => false

/-- The proof data on core `c`: each input's buffer at its block after the body, the outputs' unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The windows' arrays are those the region starts from. -/
theorem A_eq (c : Dev nD) (w : Fin cfg0.W) : (dats m 0 c).A w = V m c (Pipeline.arrRef spec0 w) := by
  dsimp only [dats]

/-- What window 0 holds after a point's body. -/
theorem after0_0 (c : Dev nD) (t : Fin cfg0.N) : (dats m 0 c).after 0 t = iblk m c 0 t := by dsimp only [dats]
/-- What window 0 holds before a point's body: its block, as fetched. -/
theorem before0_0 (c : Dev nD) (t : Fin cfg0.N) (d) : (dats m 0 c).before 0 t d = iblk m c 0 t :=
  before0_0_of m (dats m 0 c) (A_eq m c 0) (after0_0 m c) t d
/-- What window 1 holds after a point's body. -/
theorem after0_1 (c : Dev nD) (t : Fin cfg0.N) : (dats m 0 c).after 1 t = iblk m c 1 t := by dsimp only [dats]
/-- What window 1 holds before a point's body: its block, as fetched. -/
theorem before0_1 (c : Dev nD) (t : Fin cfg0.N) (d) : (dats m 0 c).before 1 t d = iblk m c 1 t :=
  before0_1_of m (dats m 0 c) (A_eq m c 1) (after0_1 m c) t d
/-- What window 2 holds after a point's body. -/
theorem after0_2 (c : Dev nD) (t : Fin cfg0.N) : (dats m 0 c).after 2 t = iblk m c 2 t := by dsimp only [dats]
/-- What window 2 holds before a point's body: its block, as fetched. -/
theorem before0_2 (c : Dev nD) (t : Fin cfg0.N) (d) : (dats m 0 c).before 2 t d = iblk m c 2 t :=
  before0_2_of m (dats m 0 c) (A_eq m c 2) (after0_2 m c) t d
/-- What window 3 holds after a point's body. -/
theorem after0_3 (c : Dev nD) (t : Fin cfg0.N) : (dats m 0 c).after 3 t = iblk m c 3 t := by dsimp only [dats]
/-- What window 3 holds before a point's body: its block, as fetched. -/
theorem before0_3 (c : Dev nD) (t : Fin cfg0.N) (d) : (dats m 0 c).before 3 t d = iblk m c 3 t :=
  before0_3_of m (dats m 0 c) (A_eq m c 3) (after0_3 m c) t d
/-- What window 4 holds after a point's body. -/
theorem after0_4 (c : Dev nD) (t : Fin cfg0.N) : (dats m 0 c).after 4 t = iblk m c 4 t := by dsimp only [dats]
/-- What window 4 holds before a point's body: its block, as fetched. -/
theorem before0_4 (c : Dev nD) (t : Fin cfg0.N) (d) : (dats m 0 c).before 4 t d = iblk m c 4 t :=
  before0_4_of m (dats m 0 c) (A_eq m c 4) (after0_4 m c) t d
/-- What window 5 holds after a point's body. -/
theorem after0_5 (c : Dev nD) (t : Fin cfg0.N) : (dats m 0 c).after 5 t = iblk m c 5 t := by dsimp only [dats]
/-- What window 5 holds before a point's body: its block, as fetched. -/
theorem before0_5 (c : Dev nD) (t : Fin cfg0.N) (d) : (dats m 0 c).before 5 t d = iblk m c 5 t :=
  before0_5_of m (dats m 0 c) (A_eq m c 5) (after0_5 m c) t d
/-- What window 6 holds after a point's body. -/
theorem after0_6 (c : Dev nD) (t : Fin cfg0.N) : (dats m 0 c).after 6 t = iblk m c 6 t := by dsimp only [dats]
/-- What window 6 holds before a point's body: its block, as fetched. -/
theorem before0_6 (c : Dev nD) (t : Fin cfg0.N) (d) : (dats m 0 c).before 6 t d = iblk m c 6 t :=
  before0_6_of m (dats m 0 c) (A_eq m c 6) (after0_6 m c) t d
/-- What window 7 holds after a point's body. -/
theorem after0_7 (c : Dev nD) (t : Fin cfg0.N) : (dats m 0 c).after 7 t = iblk m c 7 t := by dsimp only [dats]
/-- What window 7 holds before a point's body: its block, as fetched. -/
theorem before0_7 (c : Dev nD) (t : Fin cfg0.N) (d) : (dats m 0 c).before 7 t d = iblk m c 7 t :=
  before0_7_of m (dats m 0 c) (A_eq m c 7) (after0_7 m c) t d
/-- What window 8 holds after a point's body. -/
theorem after0_8 (c : Dev nD) (t : Fin cfg0.N) : (dats m 0 c).after 8 t = iblk m c 8 t := by dsimp only [dats]
/-- What window 8 holds before a point's body: its block, as fetched. -/
theorem before0_8 (c : Dev nD) (t : Fin cfg0.N) (d) : (dats m 0 c).before 8 t d = iblk m c 8 t :=
  before0_8_of m (dats m 0 c) (A_eq m c 8) (after0_8 m c) t d
/-- What window 9 holds after a point's body. -/
theorem after0_9 (c : Dev nD) (t : Fin cfg0.N) : (dats m 0 c).after 9 t = iblk m c 9 t := by dsimp only [dats]
/-- What window 9 holds before a point's body: its block, as fetched. -/
theorem before0_9 (c : Dev nD) (t : Fin cfg0.N) (d) : (dats m 0 c).before 9 t d = iblk m c 9 t :=
  before0_9_of m (dats m 0 c) (A_eq m c 9) (after0_9 m c) t d
/-- What window 10 holds after a point's body. -/
theorem after0_10 (c : Dev nD) (t : Fin cfg0.N) : (dats m 0 c).after 10 t = iblk m c 10 t := by dsimp only [dats]
/-- What window 10 holds before a point's body: its block, as fetched. -/
theorem before0_10 (c : Dev nD) (t : Fin cfg0.N) (d) : (dats m 0 c).before 10 t d = iblk m c 10 t :=
  before0_10_of m (dats m 0 c) (A_eq m c 10) (after0_10 m c) t d
/-- What window 11 holds after a point's body. -/
theorem after0_11 (c : Dev nD) (t : Fin cfg0.N) : (dats m 0 c).after 11 t = iblk m c 11 t := by dsimp only [dats]
/-- What window 11 holds before a point's body: its block, as fetched. -/
theorem before0_11 (c : Dev nD) (t : Fin cfg0.N) (d) : (dats m 0 c).before 11 t d = iblk m c 11 t :=
  before0_11_of m (dats m 0 c) (A_eq m c 11) (after0_11 m c) t d
/-- What window 12 holds after a point's body. -/
theorem after0_12 (c : Dev nD) (t : Fin cfg0.N) : (dats m 0 c).after 12 t = iblk m c 12 t := by dsimp only [dats]
/-- What window 12 holds before a point's body: its block, as fetched. -/
theorem before0_12 (c : Dev nD) (t : Fin cfg0.N) (d) : (dats m 0 c).before 12 t d = iblk m c 12 t :=
  before0_12_of m (dats m 0 c) (A_eq m c 12) (after0_12 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare d)
    ∗ (∃ d, owns (c : Thread nD τ) (st0_14 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ (∃ d, owns (c : Thread nD τ) (st0_13 t) fullShare d)
    ∗ (∃ d, owns (c : Thread nD τ) (st0_14 t) fullShare d))

/-- The body at any point, by `kernelRun`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, before0_12, after0_12]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨S0, S1, S2, S3, S4, S5, S6, S7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14⟩
  iapply (kernelRun c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, H4, H5, H6, H7, H8, H9, H10, H11, H12, H13, H14, S0, S1, S2, S3, S4, S5, S6, S7⟩
  isplitl [S0 S1 S2 S3 S4 S5 S6 S7 Hg]
  · isplitr [Hg]; swap; · iexact Hg
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The one body of the program's table. -/
theorem defs₀_row (t : Fin cfg0.N) : defs₀ (F := F) .tc cfg0.body (cfg0.bodyArgs t (cfg0.slots t)) = bodyAt0 t := by
  unfold defs₀; rw [Defs.onTc_tc]

/-- The pipeline's body obligation, the two outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

variable [∀ e, Nonempty (Elt F e)]

set_option backward.isDefEq.respectTransparency.types false in
/-- The launch: every execution of @main terminates with the arrays no window writes as they were and the counters at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any value instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r hr => by
    obtain ⟨h, hs⟩ := hr
    refine ⟨fun c => ?_, hs⟩
    exact ⟨((h c).2 main_arg0 (Pipeline.mem_restRefs_of main_arg0 (by decide) (by decide))).trans (V_main_arg0 m c),
      (((dats m 0 c).toRForget_arrAt_iff (fgt := forgets0) (w := 1) rfl _ _).mp ((h c).1 1)).trans (((dats m 0 c).arrAt_in 1 rfl _).trans ((A_eq m c 1).trans (V_main_arg1 m c))),
      ((h c).2 main_arg2 (Pipeline.mem_restRefs_of main_arg2 (by decide) (by decide))).trans (V_main_arg2 m c),
      (((dats m 0 c).toRForget_arrAt_iff (fgt := forgets0) (w := 3) rfl _ _).mp ((h c).1 3)).trans (((dats m 0 c).arrAt_in 3 rfl _).trans ((A_eq m c 3).trans (V_main_arg3 m c))),
      ((h c).2 main_arg4 (Pipeline.mem_restRefs_of main_arg4 (by decide) (by decide))).trans (V_main_arg4 m c),
      (((dats m 0 c).toRForget_arrAt_iff (fgt := forgets0) (w := 5) rfl _ _).mp ((h c).1 5)).trans (((dats m 0 c).arrAt_in 5 rfl _).trans ((A_eq m c 5).trans (V_main_arg5 m c))),
      (((dats m 0 c).toRForget_arrAt_iff (fgt := forgets0) (w := 6) rfl _ _).mp ((h c).1 6)).trans (((dats m 0 c).arrAt_in 6 rfl _).trans ((A_eq m c 6).trans (V_main_arg6 m c))),
      (((dats m 0 c).toRForget_arrAt_iff (fgt := forgets0) (w := 7) rfl _ _).mp ((h c).1 7)).trans (((dats m 0 c).arrAt_in 7 rfl _).trans ((A_eq m c 7).trans (V_main_arg7 m c))),
      (((dats m 0 c).toRForget_arrAt_iff (fgt := forgets0) (w := 8) rfl _ _).mp ((h c).1 8)).trans (((dats m 0 c).arrAt_in 8 rfl _).trans ((A_eq m c 8).trans (V_main_arg8 m c))),
      (((dats m 0 c).toRForget_arrAt_iff (fgt := forgets0) (w := 9) rfl _ _).mp ((h c).1 9)).trans (((dats m 0 c).arrAt_in 9 rfl _).trans ((A_eq m c 9).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (run_main m ρ)

end Cert.KernelIdeal.Hand

end
-- ==== Proof.Kern.Finite.lean ====
/-
  What the precondition says over the extended reals: every element of the arrays it names is a real number.
-/
module

public import proofs.«01_k».proof.Defs
public import Idealize.ShloMosaic.Lib.ReduceAll
public import Idealize.ShloMosaic.Lib.Affine
public import Idealize.ShloMosaic.Lib.Pointwise

@[expose] public section

noncomputable section

namespace Cert.Finite

open Idealize.ShloMosaic Cert.Pre_finite_inputs

/-- The shape facts of the precondition. -/
theorem facts : Cert.Pre_finite_inputs.Facts := by
  constructor <;> decide

/-- The predicate's f32 bound from above is plus infinity, -/
theorem top32 (i : S_.Idx) : constant (F := Ideal) S_ .f32 0x7F800000#32 i = (⊤ : EReal) := by
  show Ideal.ofBits .f32 0x7F800000#32 = ⊤
  simp [Ideal.ofBits, Ideal.ieee]
/-- its bound from below minus infinity; -/
theorem bot32 (i : S_.Idx) : constant (F := Ideal) S_ .f32 0xFF800000#32 i = (⊥ : EReal) := by
  show Ideal.ofBits .f32 0xFF800000#32 = ⊥
  simp [Ideal.ofBits, Ideal.ieee]
/-- so is the bf16 bound from above, -/
theorem top16 (i : S_.Idx) : constant (F := Ideal) S_ .bf16 0x7F80#16 i = (⊤ : EReal) := by
  show Ideal.ofBits .bf16 0x7F80#16 = ⊤
  simp [Ideal.ofBits, Ideal.ieee]
/-- and minus infinity the one from below. -/
theorem bot16 (i : S_.Idx) : constant (F := Ideal) S_ .bf16 0xFF80#16 i = (⊥ : EReal) := by
  show Ideal.ofBits .bf16 0xFF80#16 = ⊥
  simp [Ideal.ofBits, Ideal.ieee]

instance : Subsingleton S_.Idx := ⟨fun a b => funext fun x => x.elim0⟩

/-- An array every element of which lies between the infinities holds real numbers. -/
theorem real_of {φ : FTy} {s : Shape} {axes : List (Fin s.rank)} (x : FVec Ideal s φ) (hi lo : FVec Ideal S_ φ)
    (ht : ∀ i, hi i = (⊤ : EReal)) (hb : ∀ i, lo i = (⊥ : EReal)) (b : S_.BroadcastsInDim s (![] : Fin 0 → Fin s.rank))
    (init : IVec S_ 1) (hr : s.ReducesTo axes S_) (hu : 0 < S_.numel) (j : S_.Idx)
    (e : Host.reduce IntOp.andi (andi (cmpf .olt x (broadcastInDim s ![] b hi)) (cmpf .ogt x (broadcastInDim s ![] b lo))) init hr hu j = 1#1)
    (i : s.Idx) : ((x i : EReal).toReal : EReal) = (x i : EReal) := by
  obtain ⟨h1, h2⟩ := IntOp.andi_eq_one.mp (Host.reduce_andi_all _ _ hr hu j e i)
  have e1 : BitVec.ofBool (decide ((x i : EReal) < hi _)) = 1#1 := h1
  have e2 : BitVec.ofBool (decide ((lo _ : EReal) < x i)) = 1#1 := h2
  rw [ht] at e1
  rw [hb] at e2
  have f1 : (x i : EReal) < ⊤ := by
    by_contra h
    rw [decide_eq_false h] at e1
    exact absurd e1 (by decide)
  have f2 : (⊥ : EReal) < x i := by
    by_contra h
    rw [decide_eq_false h] at e2
    exact absurd e2 (by decide)
  exact EReal.coe_toReal (ne_of_lt f1) (ne_of_gt f2)

variable [Cert.Pre_finite_inputs.Facts]

/-- The precondition: the arrays it names hold real numbers. -/
theorem all_real (a0 : FVec Ideal S6x256x48x96 .f32) (a1 : FVec Ideal S6x256x48 .f32) (a2 : FVec Ideal S6x256x48x96 .f32)
    (a3 : FVec Ideal S6x256x48 .f32) (a4 : FVec Ideal S6x256x48x128 .f32) (a5 : FVec Ideal S6x256x48 .f32)
    (a6 a7 : FVec Ideal S6x256x48x96 .bf16) (a8 : FVec Ideal S6x256x48x96 .f32) (a9 : FVec Ideal S6x48x128x96 .f32)
    (a10 : FVec Ideal S48x96 .f32) (a11 a12 : FVec Ideal S6144 .f32) (j : S_.Idx)
    (e : fn (F := Ideal) a0 a1 a2 a3 a4 a5 a6 a7 a8 a9 a10 a11 a12 j = 1#1) :
    (∀ i, ((a0 i : EReal).toReal : EReal) = (a0 i : EReal)) ∧ (∀ i, ((a1 i : EReal).toReal : EReal) = (a1 i : EReal))
    ∧ (∀ i, ((a2 i : EReal).toReal : EReal) = (a2 i : EReal)) ∧ (∀ i, ((a3 i : EReal).toReal : EReal) = (a3 i : EReal))
    ∧ (∀ i, ((a4 i : EReal).toReal : EReal) = (a4 i : EReal)) ∧ (∀ i, ((a5 i : EReal).toReal : EReal) = (a5 i : EReal))
    ∧ (∀ i, ((a6 i : EReal).toReal : EReal) = (a6 i : EReal)) ∧ (∀ i, ((a7 i : EReal).toReal : EReal) = (a7 i : EReal))
    ∧ (∀ i, ((a8 i : EReal).toReal : EReal) = (a8 i : EReal)) ∧ (∀ i, ((a9 i : EReal).toReal : EReal) = (a9 i : EReal))
    ∧ (∀ i, ((a10 i : EReal).toReal : EReal) = (a10 i : EReal)) := by
  obtain ⟨e, e10⟩ := IntOp.andi_eq_one.mp e
  obtain ⟨e, e9⟩ := IntOp.andi_eq_one.mp e
  obtain ⟨e, e8⟩ := IntOp.andi_eq_one.mp e
  obtain ⟨e, e7⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨real_of _ _ _ top32 bot32 _ _ _ _ j e0, real_of _ _ _ top32 bot32 _ _ _ _ j e1, real_of _ _ _ top32 bot32 _ _ _ _ j e2,
    real_of _ _ _ top32 bot32 _ _ _ _ j e3, real_of _ _ _ top32 bot32 _ _ _ _ j e4, real_of _ _ _ top32 bot32 _ _ _ _ j e5,
    real_of _ _ _ top16 bot16 _ _ _ _ j e6, real_of _ _ _ top16 bot16 _ _ _ _ j e7, real_of _ _ _ top32 bot32 _ _ _ _ j e8,
    real_of _ _ _ top32 bot32 _ _ _ _ j e9, real_of _ _ _ top32 bot32 _ _ _ _ j e10⟩

end Cert.Finite

end
-- ==== Proof.Kern.HeadOps.lean ====
/-
  What one trip of the kernel's loop over groups of four heads computes, as functions of vectors: one head's
  values are written once (`HeadVecs`, `pm`, `lhs`, …) and used four times; the elimination that inverts the four
  triangular blocks side by side is a recursion on its step.
-/
module

public import proofs.«01_k».proof.Proof.Gen.KernelIdeal.Loops

@[expose] public section

noncomputable section

namespace Cert.KernelIdeal.Hand

open Cert.KernelIdeal Cert.KernelIdeal.Gen
open Idealize.ShloMosaic

/-- What one head of a chunk is computed from: the running log-decay before and after each token, the receptance,
    key, value, removal and replacement rows, the two columns of scales, and the rows of the bonus, of the key-value
    scales (by lane) and of the layer norm, and the head's state. -/
structure HeadVecs where
  gp : FVec Ideal S32x128 .f32
  gt : FVec Ideal S32x128 .f32
  r : FVec Ideal S32x128 .f32
  k : FVec Ideal S32x128 .f32
  v : FVec Ideal S32x128 .f32
  a : FVec Ideal S32x128 .f32
  b : FVec Ideal S32x128 .f32
  rs : FVec Ideal S32x1 .f32
  kvs : FVec Ideal S32x1 .f32
  rk : FVec Ideal S1x128 .f32
  kvr : FVec Ideal S1x128 .f32
  lnw : FVec Ideal S1x128 .f32
  lnb : FVec Ideal S1x128 .f32
  s0 : FVec Ideal S1x96x128 .f32

/-- The float zero the body writes. -/
def fzero : Ideal .f32 := FloatOps.ofBits .f32 0#32

/-- The scaled receptance. -/
def rr (X : HeadVecs) : FVec Ideal S32x128 .f32 := mulf X.r (broadcastTo S32x128 X.rs broadcasts_S32x1_S32x128)

/-- The bonus `Σ r k r_k`, with the key's and the value's scale. -/
def bonus (X : HeadVecs) : FVec Ideal S32x1 .f32 :=
  mulf (shapeCast S32x1 (multiReduction .add [1] S32
    (mulf (mulf (rr X) X.k) (broadcastTo S32x128 (shapeCast S1x128 X.rk shapeCasts_S1x128_S1x128) broadcasts_S1x128_S32x128))
    0x00000000#32 reduces_S32x128_S32 (.inl rfl) rfl) shapeCasts_S32_S32x1) X.kvs

/-- The last row of the running log-decay. -/
def gc (X : HeadVecs) : FVec Ideal S1x128 .f32 := extractStridedSlice S1x128 ![31, 0] X.gt slices_S32x128_o31_0_S1x128

/-- The decay from a token to the chunk's end. -/
def eend (X : HeadVecs) : FVec Ideal S32x128 .f32 :=
  exp2 (subf (broadcastTo S32x128 (gc X) broadcasts_S1x128_S32x128) X.gt)

/-- The inverse of the decay from the chunk's start to a token. -/
def eneg (X : HeadVecs) : FVec Ideal S32x128 .f32 := exp2 (subf (broadcast S32x128 fzero) X.gt)

/-- The removal rows over the receptance rows, both decayed from the chunk's start. -/
def ar (X : HeadVecs) : FVec Ideal S64x128 .f32 :=
  concatenate S64x128 0 [⟨S32x128, mulf X.a (exp2 X.gp)⟩, ⟨S32x128, mulf (rr X) (exp2 X.gt)⟩] concatenates_S32x128_S32x128_S64x128_d0

/-- The replacement rows and the key rows, brought back to the chunk's start, with zero rows between. -/
def bk (X : HeadVecs) : FVec Ideal S128x128 .f32 :=
  concatenate S128x128 0 [⟨S32x128, mulf X.b (eneg X)⟩, ⟨S64x128, broadcast S64x128 fzero⟩, ⟨S32x128, mulf X.k (eneg X)⟩]
    concatenates_S32x128_S64x128_S32x128_S128x128_d0

/-- All products of those rows, kept where a row meets an earlier token (or, for receptance, its own). -/
def pm (tri : IVec S64x128 1) (X : HeadVecs) : FVec Ideal S64x128 .f32 :=
  select tri (matmul dot_S64x128_S128x128_S64x128_1_1_0_0_n_n (some .fp32) (ar X) (bk X) (constant S64x128 .f32 0#32))
    (broadcast S64x128 fzero)

/-- The left factor: the decayed rows, and in the last lanes their products with the keys. -/
def lhs (tri tail : IVec S64x128 1) (X : HeadVecs) : FVec Ideal S64x128 .f32 :=
  select tail (mulf (pm tri X) (broadcastTo S64x128 X.kvr broadcasts_S1x128_S64x128)) (ar X)

/-- The removal-replacement products. -/
def ab (tri : IVec S64x128 1) (X : HeadVecs) : FVec Ideal S32x32 .f32 := extractStridedSlice S32x32 ![0, 0] (pm tri X) slices_S64x128_o0_0_S32x32

/-- The receptance-replacement products. -/
def arb (tri : IVec S64x128 1) (X : HeadVecs) : FVec Ideal S32x32 .f32 := extractStridedSlice S32x32 ![32, 0] (pm tri X) slices_S64x128_o32_0_S32x32

/-- A zero block. -/
def zblk : FVec Ideal S32x32 .f32 := broadcast S32x32 fzero

/-- Four blocks side by side. -/
def quad (w x y z : FVec Ideal S32x32 .f32) : FVec Ideal S32x128 .f32 :=
  concatenate S32x128 1 [⟨S32x32, w⟩, ⟨S32x32, x⟩, ⟨S32x32, y⟩, ⟨S32x32, z⟩] concatenates_S32x32_S32x32_S32x32_S32x32_S32x128_d1

/-- The four heads' removal-replacement products side by side. -/
def packed (w x y z : FVec Ideal S32x32 .f32) : FVec Ideal S32x128 .f32 :=
  addf (addf (addf (quad w zblk zblk zblk) (quad zblk x zblk zblk)) (quad zblk zblk y zblk)) (quad zblk zblk zblk z)

/-- The first lane of a lane's block. -/
def lbase (lane : IVec S8x128 32) : IVec S8x128 32 :=
  muli (select (andi (cmpi .ne (subi (extui 32 (cmpi .sgt lane (broadcast S8x128 0#32)) natLt_1_32) (extui 32 (cmpi .slt lane (broadcast S8x128 0#32)) natLt_1_32)) (broadcast S8x128 1#32))
    (cmpi .ne (remsi lane (broadcast S8x128 32#32)) (broadcast S8x128 0#32)))
    (subi (divsi lane (broadcast S8x128 32#32)) (broadcast S8x128 1#32)) (divsi lane (broadcast S8x128 32#32))) (broadcast S8x128 32#32)

/-- The lane of a block's column `j`. -/
def lidx (lane : IVec S8x128 32) (j : ℕ) : IVec S8x128 32 :=
  shapeCast S8x128 (shapeCast S8x128x1 (select (cmpi .slt (addi (lbase lane) (broadcast S8x128 (BitVec.ofNat 32 j))) (broadcast S8x128 0#32))
    (addi (addi (lbase lane) (broadcast S8x128 (BitVec.ofNat 32 j))) (broadcast S8x128 128#32))
    (addi (lbase lane) (broadcast S8x128 (BitVec.ofNat 32 j)))) shapeCasts_S8x128_S8x128x1) shapeCasts_S8x128x1_S8x128

/-- Row `q` of a tile of eight rows is in it. -/
theorem slices8 (q : Fin 8) : S8x128.Slices ![q.val, 0] S1x128 := by revert q; decide

/-- Tile `q` of eight rows is in the matrix of 32. -/
theorem slices32 (q : Fin 4) : S32x128.Slices ![8 * q.val, 0] S8x128 := by revert q; decide

/-- Eight rows of a packed matrix. -/
def rows8 (x : FVec Ideal S32x128 .f32) (i : Fin 4) : FVec Ideal S8x128 .f32 := extractStridedSlice S8x128 ![8 * i.val, 0] x (slices32 i)

/-- One tile after one step of the elimination: column `j` of the block times row `j` added. -/
def tile1 (lane : IVec S8x128 32) (j : ℕ) (A T R : FVec Ideal S8x128 .f32) : FVec Ideal S8x128 .f32 :=
  addf T (mulf (dynamicGather 1 A (lidx lane j))
    (broadcastTo S8x128 (extractStridedSlice S1x128 ![j % 8, 0] R (slices8 ⟨j % 8, Nat.mod_lt _ (by decide)⟩)) broadcasts_S1x128_S8x128))

/-- The tiles after `j` steps of the elimination. -/
def elim (lane : IVec S8x128 32) (A E : FVec Ideal S32x128 .f32) : ℕ → Fin 4 → FVec Ideal S8x128 .f32
  | 0 => rows8 E
  | j + 1 => fun i => if j / 8 ≤ i.val then tile1 lane j (rows8 A i) (elim lane A E j i) (elim lane A E j (Fin.ofNat 4 (j / 8))) else elim lane A E j i

/-- The inverses of the four blocks side by side. -/
def inv4 (lane : IVec S8x128 32) (A E : FVec Ideal S32x128 .f32) : FVec Ideal S32x128 .f32 :=
  concatenate S32x128 0 [⟨S8x128, elim lane A E 31 0⟩, ⟨S8x128, elim lane A E 31 1⟩, ⟨S8x128, elim lane A E 31 2⟩, ⟨S8x128, elim lane A E 31 3⟩]
    concatenates_S8x128_S8x128_S8x128_S8x128_S32x128_d0

/-- The head's state as a matrix. -/
def s0m (X : HeadVecs) : FVec Ideal S96x128 .f32 := shapeCast S96x128 X.s0 shapeCasts_S1x96x128_S96x128

/-- The values read by the removal rows, over the outputs' part that does not need them. -/
def ur (tri tail : IVec S64x128 1) (T : FVec Ideal S32x32 .f32) (X : HeadVecs) : FVec Ideal S64x128 .f32 :=
  matmul dot_S64x128_S128x128_S64x128_1_0_0_1_n_n (some .fp32)
    (concatenate S64x128 0 [⟨S32x128, matmul dot_S32x32_S32x128_S32x128_1_0_0_1_n_n (some .fp32) T (extractStridedSlice S32x128 ![0, 0] (lhs tri tail X) slices_S64x128_o0_0_S32x128) (constant S32x128 .f32 0#32)⟩,
      ⟨S32x128, extractStridedSlice S32x128 ![32, 0] (lhs tri tail X) slices_S64x128_o32_0_S32x128⟩] concatenates_S32x128_S32x128_S64x128_d0)
    (concatenate S128x128 0 [⟨S96x128, s0m X⟩, ⟨S32x128, X.v⟩] concatenates_S96x128_S32x128_S128x128_d0) (constant S64x128 .f32 0#32)

/-- The values the removal rows read. -/
def uu (tri tail : IVec S64x128 1) (T : FVec Ideal S32x32 .f32) (X : HeadVecs) : FVec Ideal S32x128 .f32 :=
  extractStridedSlice S32x128 ![0, 0] (ur tri tail T X) slices_S64x128_o0_0_S32x128

/-- The outputs before the layer norm. -/
def oo (tri tail : IVec S64x128 1) (T : FVec Ideal S32x32 .f32) (X : HeadVecs) : FVec Ideal S32x128 .f32 :=
  addf (extractStridedSlice S32x128 ![32, 0] (ur tri tail T X) slices_S64x128_o32_0_S32x128)
    (matmul dot_S32x32_S32x128_S32x128_1_0_0_1_n_n (some .fp32) (arb tri X) (uu tri tail T X) (constant S32x128 .f32 0#32))

/-- The key rows decayed to the chunk's end, scaled. -/
def kb (X : HeadVecs) : FVec Ideal S32x128 .f32 := mulf (mulf X.k (eend X)) (broadcastTo S32x128 X.kvs broadcasts_S32x1_S32x128)

/-- The state after the chunk. -/
def newState (tri tail : IVec S64x128 1) (T : FVec Ideal S32x32 .f32) (X : HeadVecs) : FVec Ideal S1x96x128 .f32 :=
  shapeCast S1x96x128 (addf
    (mulf (s0m X) (extractStridedSlice S96x128 ![0, 0] (transpose S128x128 [1, 0] (broadcastTo S128x128 (shapeCast S1x128 (exp2 (gc X)) shapeCasts_S1x128_S1x128) broadcasts_S1x128_S128x128) transposes_S128x128_p1_0_S128x128) slices_S128x128_o0_0_S96x128))
    (extractStridedSlice S96x128 ![0, 0] (matmul dot_S64x128_S64x128_S128x128_0_0_1_1_n_n (some .fp32)
      (concatenate S64x128 0 [⟨S32x128, mulf X.b (eend X)⟩, ⟨S32x128, kb X⟩] concatenates_S32x128_S32x128_S64x128_d0)
      (concatenate S64x128 0 [⟨S32x128, uu tri tail T X⟩, ⟨S32x128, X.v⟩] concatenates_S32x128_S32x128_S64x128_d0) (constant S128x128 .f32 0#32)) slices_S128x128_o0_0_S96x128))
    shapeCasts_S96x128_S1x96x128

/-- The mean over the lanes, as a column. -/
def meanCol (x : FVec Ideal S32x128 .f32) : FVec Ideal S32x1 .f32 :=
  divf (shapeCast S32x1 (multiReduction .add [1] S32 x 0x00000000#32 reduces_S32x128_S32 (.inl rfl) rfl) shapeCasts_S32_S32x1)
    (broadcast S32x1 (FloatOps.ofBits .f32 1124073472#32))

/-- The rows less their means. -/
def centred (x : FVec Ideal S32x128 .f32) : FVec Ideal S32x128 .f32 := subf x (broadcastTo S32x128 (meanCol x) broadcasts_S32x1_S32x128)

/-- Layer norm of the rows, and the bonus. -/
def lnorm (o : FVec Ideal S32x128 .f32) (X : HeadVecs) : FVec Ideal S1x32x128 .bf16 :=
  shapeCast S1x32x128 (truncf .bf16 (addf (addf
    (mulf (mulf (centred o) (broadcastTo S32x128 (rsqrt (addf (meanCol (mulf (centred o) (centred o))) (broadcast S32x1 (FloatOps.ofBits .f32 975685036#32)))) broadcasts_S32x1_S32x128))
      (broadcastTo S32x128 (shapeCast S1x128 X.lnw shapeCasts_S1x128_S1x128) broadcasts_S1x128_S32x128))
    (broadcastTo S32x128 (shapeCast S1x128 X.lnb shapeCasts_S1x128_S1x128) broadcasts_S1x128_S32x128))
    (mulf (broadcastTo S32x128 (bonus X) broadcasts_S32x1_S32x128) X.v)) bitsLt_bf16_f32) shapeCasts_S32x128_S1x32x128

end Cert.KernelIdeal.Hand
-- ==== Proof.Kern.HeadMath.lean ====
/-
  The mathematics of one chunk, over the reals: the kernel's closed form — decays brought to the chunk's start, the
  removal-replacement products inverted as a triangular system, one product with the state — is the recurrence
  `s ← s·e + u·b + v·k`, `u = Σ s a`, `o = Σ s r` token by token.
-/
module

public import Idealize.ShloMosaic.PureOps.Ideal
import Mathlib.Tactic.FieldSimp
import Mathlib.Tactic.Ring

@[expose] public section

noncomputable section

namespace Cert.Chunk

open Finset

variable {n : ℕ} (s0 : Fin n → ℝ) (e a b k r : ℕ → Fin n → ℝ) (v : ℕ → ℝ)

/-- The state (one value lane) before token `t`. -/
def st : ℕ → Fin n → ℝ
  | 0 => s0
  | t + 1 => fun c => st t c * e t c + (∑ c', st t c' * a t c') * b t c + v t * k t c

/-- What the removal row reads at token `t`. -/
def rd (t : ℕ) : ℝ := ∑ c, st s0 e a b k v t c * a t c

/-- The output of token `t`. -/
def ot (t : ℕ) : ℝ := ∑ c, st s0 e a b k v (t + 1) c * r t c

/-- The decay from the chunk's start to before token `t`. -/
def dec (t : ℕ) (c : Fin n) : ℝ := ∏ j ∈ range t, e j c

/-- The cumulative decay up to the next token. -/
theorem dec_succ (t : ℕ) (c : Fin n) : dec e (t + 1) c = dec e t c * e t c := prod_range_succ _ _

/-- A product of decays that are not zero is not zero. -/
theorem dec_ne (he : ∀ t c, e t c ≠ 0) (t : ℕ) (c : Fin n) : dec e t c ≠ 0 := prod_ne_zero_iff.mpr fun j _ => he j c

/-- The state in closed form: the start's state and every token's contribution, decayed. -/
theorem st_closed (he : ∀ t c, e t c ≠ 0) (t : ℕ) (c : Fin n) :
    st s0 e a b k v t c = dec e t c * (s0 c + ∑ j ∈ range t, (rd s0 e a b k v j * b j c + v j * k j c) / dec e (j + 1) c) := by
  induction t with
  | zero => simp [st, dec]
  | succ t ih =>
    have h1 := dec_ne e he (t + 1) c
    rw [sum_range_succ, dec_succ] at *
    show st s0 e a b k v t c * e t c + rd s0 e a b k v t * b t c + v t * k t c = _
    rw [ih, ← add_assoc, mul_add _ (s0 c + _), mul_div_cancel₀ _ h1]
    ring

/-- The read value in closed form: a row of a unit triangular system. -/
theorem rd_closed (he : ∀ t c, e t c ≠ 0) (t : ℕ) :
    rd s0 e a b k v t = (∑ c, a t c * dec e t c * s0 c)
      + ∑ j ∈ range t, (v j * (∑ c, a t c * dec e t c * (k j c / dec e (j + 1) c))
        + rd s0 e a b k v j * (∑ c, a t c * dec e t c * (b j c / dec e (j + 1) c))) := by
  conv_lhs => unfold rd
  simp only [st_closed s0 e a b k v he, mul_sum, mul_add, add_mul, sum_add_distrib, sum_mul]
  rw [sum_comm (s := univ) (t := range t)]
  congr 1
  · exact sum_congr rfl fun c _ => by ring
  · rw [← sum_add_distrib]
    refine sum_congr rfl fun j _ => ?_
    rw [← sum_add_distrib]
    exact sum_congr rfl fun c _ => by ring

/-- A solution of the triangular system is the recurrence's read values. -/
theorem rd_unique (he : ∀ t c, e t c ≠ 0) (N : ℕ) (U : ℕ → ℝ)
    (hU : ∀ t < N, U t = (∑ c, a t c * dec e t c * s0 c)
      + ∑ j ∈ range t, (v j * (∑ c, a t c * dec e t c * (k j c / dec e (j + 1) c))
        + U j * (∑ c, a t c * dec e t c * (b j c / dec e (j + 1) c)))) :
    ∀ t < N, U t = rd s0 e a b k v t := by
  intro t
  induction t using Nat.strong_induction_on with
  | _ t ih =>
    intro ht
    rw [hU t ht, rd_closed s0 e a b k v he]
    congr 1
    refine sum_congr rfl fun j hj => ?_
    have := mem_range.mp hj
    rw [ih j this (by omega)]

/-- The output in closed form. -/
theorem ot_closed (he : ∀ t c, e t c ≠ 0) (t : ℕ) :
    ot s0 e a b k r v t = (∑ c, r t c * dec e (t + 1) c * s0 c)
      + ∑ j ∈ range (t + 1), (v j * (∑ c, r t c * dec e (t + 1) c * (k j c / dec e (j + 1) c))
        + rd s0 e a b k v j * (∑ c, r t c * dec e (t + 1) c * (b j c / dec e (j + 1) c))) := by
  unfold ot
  simp only [st_closed s0 e a b k v he, mul_sum, mul_add, add_mul, sum_add_distrib, sum_mul]
  rw [sum_comm (s := univ) (t := range (t + 1))]
  congr 1
  · exact sum_congr rfl fun c _ => by ring
  · rw [← sum_add_distrib]
    refine sum_congr rfl fun j _ => ?_
    rw [← sum_add_distrib]
    exact sum_congr rfl fun c _ => by ring

/-- The state after the chunk in closed form. -/
theorem st_end (he : ∀ t c, e t c ≠ 0) (N : ℕ) (c : Fin n) :
    st s0 e a b k v N c = s0 c * dec e N c
      + ((∑ j ∈ range N, b j c * (dec e N c / dec e (j + 1) c) * rd s0 e a b k v j)
        + ∑ j ∈ range N, k j c * (dec e N c / dec e (j + 1) c) * v j) := by
  rw [st_closed s0 e a b k v he, mul_add, mul_sum, ← sum_add_distrib, mul_comm]
  congr 1
  exact sum_congr rfl fun j _ => by ring

/-- The elimination: with `A` strictly lower triangular and `E (j+1) i l = E j i l + A i j * E j j l` from the unit
    matrix, the result is the unit matrix plus `A` times itself. -/
theorem elim_solves (N : ℕ) (A : ℕ → ℕ → ℝ) (hA : ∀ i j, i ≤ j → A i j = 0) (E : ℕ → ℕ → ℕ → ℝ)
    (h0 : ∀ i l, E 0 i l = if i = l then 1 else 0) (hE : ∀ j < N, ∀ i l, E (j + 1) i l = E j i l + A i j * E j j l) :
    ∀ i ≤ N, ∀ l, E N i l = (if i = l then 1 else 0) + ∑ j ∈ range i, A i j * E N j l := by
  have hstab : ∀ m ≤ N, ∀ i ≤ m, ∀ l, E m i l = E i i l := by
    intro m hm
    induction m with
    | zero => intro i hi l; rw [Nat.le_zero.mp hi]
    | succ m ih =>
      intro i hi l
      rcases Nat.lt_or_ge m i with h | h
      · rw [show i = m + 1 by omega]
      · rw [hE m (by omega), hA i m h, zero_mul, add_zero, ih (by omega) i h]
  have hsum : ∀ m ≤ N, ∀ i l, E m i l = (if i = l then 1 else 0) + ∑ j ∈ range m, A i j * E j j l := by
    intro m hm
    induction m with
    | zero => intro i l; simp [h0]
    | succ m ih => intro i l; rw [hE m (by omega), ih (by omega), sum_range_succ, add_assoc]
  intro i hi l
  rw [hstab N le_rfl i hi l, hsum i hi i l]
  congr 1
  refine sum_congr rfl fun j hj => ?_
  rw [hstab N le_rfl j (by have := mem_range.mp hj; omega) l]

end Cert.Chunk
-- ==== Proof.Kern.HeadVals.lean ====
/-
  The values of one head's vectors: where the vectors loaded hold real numbers, every vector of `HeadOps` holds the
  real number its mathematics says, index by index.
-/
module

public import proofs.«01_k».proof.Proof.Kern.HeadOps
public import proofs.«01_k».proof.Proof.Kern.HeadMath
public import Idealize.ShloMosaic.Lib.Pointwise
public import Idealize.ShloMosaic.Lib.IdealHost

@[expose] public section

set_option maxRecDepth 16384

noncomputable section

namespace Cert.KernelIdeal.Hand

open Cert.KernelIdeal Cert.KernelIdeal.Gen
open Idealize.ShloMosaic Finset

/-- A sum of real numbers, among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

/-- The base-two exponential of a real. -/
theorem exp2_coe (x : ℝ) : FloatOps.exp2 (F := Ideal) (φ := .f32) (x : EReal) = (((2 : ℝ) ^ x : ℝ) : EReal) := rfl

/-- A selection whose bit is set, -/
theorem sel1 {α : Type} (x y : α) : Scalar.select 1#1 x y = x := rfl
/-- and one whose bit is not. -/
theorem sel0 {α : Type} (x y : α) : Scalar.select 0#1 x y = y := rfl

/-- The constant zero is zero. -/
theorem fzero_eq : fzero = (0 : EReal) := Ideal.ofBits_zero_f32

/-- One head's inputs as real numbers. -/
structure HeadReal where
  gp : Fin 32 → Fin 128 → ℝ
  gt : Fin 32 → Fin 128 → ℝ
  r : Fin 32 → Fin 128 → ℝ
  k : Fin 32 → Fin 128 → ℝ
  v : Fin 32 → Fin 128 → ℝ
  a : Fin 32 → Fin 128 → ℝ
  b : Fin 32 → Fin 128 → ℝ
  rs : Fin 32 → ℝ
  kvs : Fin 32 → ℝ
  rk : Fin 128 → ℝ
  s0 : Fin 96 → Fin 128 → ℝ

/-- The vectors hold those real numbers. -/
structure Holds (X : HeadVecs) (Y : HeadReal) : Prop where
  gp : ∀ t l, X.gp (ix2 t l) = (Y.gp t l : EReal)
  gt : ∀ t l, X.gt (ix2 t l) = (Y.gt t l : EReal)
  r : ∀ t l, X.r (ix2 t l) = (Y.r t l : EReal)
  k : ∀ t l, X.k (ix2 t l) = (Y.k t l : EReal)
  v : ∀ t l, X.v (ix2 t l) = (Y.v t l : EReal)
  a : ∀ t l, X.a (ix2 t l) = (Y.a t l : EReal)
  b : ∀ t l, X.b (ix2 t l) = (Y.b t l : EReal)
  rs : ∀ t, X.rs (ix2 t 0) = (Y.rs t : EReal)
  kvs : ∀ t, X.kvs (ix2 t 0) = (Y.kvs t : EReal)
  rk : ∀ l, X.rk (ix2 0 l) = (Y.rk l : EReal)
  kvr : ∀ j : Fin 32, X.kvr (ix2 0 ⟨96 + j.val, by omega⟩) = (Y.kvs j : EReal)
  s0 : ∀ c l, X.s0 (ix3 0 c l) = (Y.s0 c l : EReal)

/-- The decay from the chunk's start to after a token; and to before it; and its inverse; and from it to the end. -/
def HeadReal.p (Y : HeadReal) (t : Fin 32) (l : Fin 128) : ℝ := (2 : ℝ) ^ Y.gt t l
def HeadReal.pp (Y : HeadReal) (t : Fin 32) (l : Fin 128) : ℝ := (2 : ℝ) ^ Y.gp t l
def HeadReal.q (Y : HeadReal) (t : Fin 32) (l : Fin 128) : ℝ := (2 : ℝ) ^ (-Y.gt t l)
def HeadReal.pe (Y : HeadReal) (t : Fin 32) (l : Fin 128) : ℝ := (2 : ℝ) ^ (Y.gt 31 l - Y.gt t l)

/-- The comparisons the masks are made of. -/
structure Masks (tri tail : IVec S64x128 1) : Prop where
  triA : ∀ t j : Fin 32, tri (ix2 ⟨t.val, by omega⟩ ⟨j.val, by omega⟩) = if j.val < t.val then 1#1 else 0#1
  triAk : ∀ t j : Fin 32, tri (ix2 ⟨t.val, by omega⟩ ⟨96 + j.val, by omega⟩) = if j.val < t.val then 1#1 else 0#1
  triR : ∀ t j : Fin 32, tri (ix2 ⟨32 + t.val, by omega⟩ ⟨j.val, by omega⟩) = if j.val ≤ t.val then 1#1 else 0#1
  triRk : ∀ t j : Fin 32, tri (ix2 ⟨32 + t.val, by omega⟩ ⟨96 + j.val, by omega⟩) = if j.val ≤ t.val then 1#1 else 0#1
  tailA : ∀ (s : Fin 64) (c : Fin 96), tail (ix2 s ⟨c.val, by omega⟩) = 0#1
  tailV : ∀ (s : Fin 64) (j : Fin 32), tail (ix2 s ⟨96 + j.val, by omega⟩) = 1#1

variable {X : HeadVecs} {Y : HeadReal} (H : Holds X Y)
include H

/-- The scaled `r` of the head. -/
theorem rr_val (t : Fin 32) (l : Fin 128) : rr X (ix2 t l) = ((Y.r t l * Y.rs t : ℝ) : EReal) := by
  pointwise [rr]
  rw [H.r, H.rs, EReal.coe_mul]

/-- The upper half of the left operand: `a` times the decay before the token, -/
theorem ar_up (t : Fin 32) (l : Fin 128) : ar X (ix2 ⟨t.val, by omega⟩ l) = ((Y.a t l * Y.pp t l : ℝ) : EReal) := by
  pointwise [ar]
  simp [H.a, H.gp, HeadReal.pp, exp2_coe]

/-- its lower half: the scaled `r` times the decay through the token. -/
theorem ar_lo (t : Fin 32) (l : Fin 128) : ar X (ix2 ⟨32 + t.val, by omega⟩ l) = ((Y.r t l * Y.rs t * Y.p t l : ℝ) : EReal) := by
  pointwise [ar]
  simp [rr_val H, H.gt, HeadReal.p, exp2_coe]

/-- The right operand's first rows: `b` over the decay, -/
theorem bk_b (t : Fin 32) (l : Fin 128) : bk X (ix2 ⟨t.val, by omega⟩ l) = ((Y.b t l * Y.q t l : ℝ) : EReal) := by
  pointwise [bk, eneg]
  simp [fzero_eq, H.b, H.gt, HeadReal.q, ← EReal.coe_neg, exp2_coe]

/-- its last rows: `k` over the decay. -/
theorem bk_k (t : Fin 32) (l : Fin 128) : bk X (ix2 ⟨96 + t.val, by omega⟩ l) = ((Y.k t l * Y.q t l : ℝ) : EReal) := by
  have h1 : ¬ 96 + t.val < 32 := by omega
  have h2 : ¬ 96 + t.val - 32 < 64 := by omega
  have h3 : (⟨96 + t.val - 32 - 64, by omega⟩ : Fin 32) = t := by ext; simp; omega
  pointwise [bk, eneg]
  simp [h1, h2, h3, fzero_eq, H.k, H.gt, HeadReal.q, ← EReal.coe_neg, exp2_coe]

variable {tri tail : IVec S64x128 1} (M : Masks tri tail)
include M

/-- The products of removal and replacement rows, of removal and key rows, of receptance and replacement rows, of
    receptance and key rows. -/
def HeadReal.AB (Y : HeadReal) (t j : Fin 32) : ℝ := if j.val < t.val then ∑ l, Y.a t l * Y.pp t l * (Y.b j l * Y.q j l) else 0
def HeadReal.AK (Y : HeadReal) (t j : Fin 32) : ℝ := if j.val < t.val then ∑ l, Y.a t l * Y.pp t l * (Y.k j l * Y.q j l) else 0
def HeadReal.RB (Y : HeadReal) (t j : Fin 32) : ℝ := if j.val ≤ t.val then ∑ l, Y.r t l * Y.rs t * Y.p t l * (Y.b j l * Y.q j l) else 0
def HeadReal.RK (Y : HeadReal) (t j : Fin 32) : ℝ := if j.val ≤ t.val then ∑ l, Y.r t l * Y.rs t * Y.p t l * (Y.k j l * Y.q j l) else 0

/-- The masked product's four blocks: `a` with `b`, -/
theorem pm_ab (t j : Fin 32) : pm tri X (ix2 ⟨t.val, by omega⟩ ⟨j.val, by omega⟩) = (Y.AB t j : EReal) := by
  pointwise [pm]
  rw [M.triA]
  simp only [ar_up H, bk_b H, ← EReal.coe_mul, coe_sum, fzero_eq, HeadReal.AB]
  split <;> simp [sel0, sel1]

/-- `a` with `k`, -/
theorem pm_ak (t j : Fin 32) : pm tri X (ix2 ⟨t.val, by omega⟩ ⟨96 + j.val, by omega⟩) = (Y.AK t j : EReal) := by
  pointwise [pm]
  rw [M.triAk]
  simp only [ar_up H, bk_k H, ← EReal.coe_mul, coe_sum, fzero_eq, HeadReal.AK]
  split <;> simp [sel0, sel1]

/-- `r` with `b`, -/
theorem pm_rb (t j : Fin 32) : pm tri X (ix2 ⟨32 + t.val, by omega⟩ ⟨j.val, by omega⟩) = (Y.RB t j : EReal) := by
  pointwise [pm]
  rw [M.triR]
  simp only [ar_lo H, bk_b H, ← EReal.coe_mul, coe_sum, fzero_eq, HeadReal.RB]
  split <;> simp [sel0, sel1]

/-- `r` with `k`. -/
theorem pm_rk (t j : Fin 32) : pm tri X (ix2 ⟨32 + t.val, by omega⟩ ⟨96 + j.val, by omega⟩) = (Y.RK t j : EReal) := by
  pointwise [pm]
  rw [M.triRk]
  simp only [ar_lo H, bk_k H, ← EReal.coe_mul, coe_sum, fzero_eq, HeadReal.RK]
  split <;> simp [sel0, sel1]

/-- The solve's left operand: in the first 96 lanes `a` with its decay, -/
theorem lhs_a (t : Fin 32) (c : Fin 96) : lhs tri tail X (ix2 ⟨t.val, by omega⟩ ⟨c.val, by omega⟩) = ((Y.a t ⟨c.val, by omega⟩ * Y.pp t ⟨c.val, by omega⟩ : ℝ) : EReal) := by
  pointwise [lhs]
  rw [M.tailA, ar_up H]
  simp [sel0, sel1]

/-- `r` with its decay in the rows below; -/
theorem lhs_r (t : Fin 32) (c : Fin 96) : lhs tri tail X (ix2 ⟨32 + t.val, by omega⟩ ⟨c.val, by omega⟩) = ((Y.r t ⟨c.val, by omega⟩ * Y.rs t * Y.p t ⟨c.val, by omega⟩ : ℝ) : EReal) := by
  pointwise [lhs]
  rw [M.tailA, ar_lo H]
  simp [sel0, sel1]

/-- in the last 32 lanes the coefficients of `a` with `k`, scaled, -/
theorem lhs_ak (t j : Fin 32) : lhs tri tail X (ix2 ⟨t.val, by omega⟩ ⟨96 + j.val, by omega⟩) = ((Y.AK t j * Y.kvs j : ℝ) : EReal) := by
  pointwise [lhs]
  rw [M.tailV, pm_ak H M, H.kvr]
  simp [sel0, sel1]

/-- and those of `r` with `k`. -/
theorem lhs_rk (t j : Fin 32) : lhs tri tail X (ix2 ⟨32 + t.val, by omega⟩ ⟨96 + j.val, by omega⟩) = ((Y.RK t j * Y.kvs j : ℝ) : EReal) := by
  pointwise [lhs]
  rw [M.tailV, pm_rk H M, H.kvr]
  simp [sel0, sel1]

/-- The block of `a` with `b`, cut out. -/
theorem ab_val (t j : Fin 32) : ab tri X (ix2 t j) = (Y.AB t j : EReal) := by
  pointwise [ab]
  exact pm_ab H M t j

/-- The block of `r` with `b`, cut out. -/
theorem arb_val (t j : Fin 32) : arb tri X (ix2 t j) = (Y.RB t j : EReal) := by
  pointwise [arb]
  rw [← pm_rb H M t j]

omit M

/-- The bonus: the weighted product of `r` and `k`, scaled. -/
theorem bonus_val (t : Fin 32) : bonus X (ix2 t 0) = (((∑ l, Y.r t l * Y.rs t * Y.k t l * Y.rk l) * Y.kvs t : ℝ) : EReal) := by
  pointwise [bonus]
  simp only [rr_val H, H.k, H.rk, H.kvs, ← EReal.coe_mul, coe_sum]

/-- The decay to the chunk's end. -/
theorem eend_val (t : Fin 32) (l : Fin 128) : eend X (ix2 t l) = (Y.pe t l : EReal) := by
  pointwise [eend, gc]
  rw [H.gt, H.gt, ← EReal.coe_sub]
  rfl

/-- `k` with its decay to the end, scaled. -/
theorem kb_val (t : Fin 32) (l : Fin 128) : kb X (ix2 t l) = ((Y.k t l * Y.pe t l * Y.kvs t : ℝ) : EReal) := by
  pointwise [kb]
  simp only [eend_val H, H.k, H.kvs, ← EReal.coe_mul]

/-- The state the head starts from. -/
theorem s0m_val (c : Fin 96) (l : Fin 128) : s0m X (ix2 c l) = (Y.s0 c l : EReal) := by
  pointwise [s0m]
  exact H.s0 c l

omit H

/-- A sum over the 128 lanes is one over the 96 key lanes and one over the 32 lanes after them. -/
theorem sum_96_32 {α : Type} [AddCommMonoid α] (f : Fin 128 → α) :
    ∑ l, f l = ∑ c : Fin 96, f ⟨c.val, by omega⟩ + ∑ j : Fin 32, f ⟨96 + j.val, by omega⟩ := Fin.sum_univ_add (a := 96) (b := 32) f

include H M

variable {T : FVec Ideal S32x32 .f32} {R : Fin 32 → Fin 32 → ℝ} (hT : ∀ t j, T (ix2 t j) = (R t j : EReal))
include hT

/-- The values the removal rows read, from the inverse `R`. -/
def HeadReal.U (Y : HeadReal) (R : Fin 32 → Fin 32 → ℝ) (t : Fin 32) (y : Fin 128) : ℝ :=
  (∑ c : Fin 96, (∑ j, R t j * (Y.a j ⟨c.val, by omega⟩ * Y.pp j ⟨c.val, by omega⟩)) * Y.s0 c y)
    + ∑ i : Fin 32, (∑ j, R t j * (Y.AK j i * Y.kvs i)) * Y.v i y

/-- The outputs before the layer norm. -/
def HeadReal.O (Y : HeadReal) (R : Fin 32 → Fin 32 → ℝ) (t : Fin 32) (y : Fin 128) : ℝ :=
  ((∑ c : Fin 96, Y.r t ⟨c.val, by omega⟩ * Y.rs t * Y.p t ⟨c.val, by omega⟩ * Y.s0 c y) + ∑ i : Fin 32, Y.RK t i * Y.kvs i * Y.v i y)
    + ∑ j, Y.RB t j * Y.U R j y

/-- The state after the chunk. -/
def HeadReal.S (Y : HeadReal) (R : Fin 32 → Fin 32 → ℝ) (c : Fin 96) (y : Fin 128) : ℝ :=
  Y.s0 c y * Y.p 31 ⟨c.val, by omega⟩
    + ((∑ j, Y.b j ⟨c.val, by omega⟩ * Y.pe j ⟨c.val, by omega⟩ * Y.U R j y) + ∑ j, Y.k j ⟨c.val, by omega⟩ * Y.pe j ⟨c.val, by omega⟩ * Y.kvs j * Y.v j y)

/-- The solved rows. -/
theorem uu_val (t : Fin 32) (y : Fin 128) : uu tri tail T X (ix2 t y) = (Y.U R t y : EReal) := by
  pointwise [uu, ur]
  simp [hT, lhs_a H M, lhs_ak H M, s0m_val H, H.v, ← EReal.coe_mul, coe_sum, HeadReal.U, ← EReal.coe_add]

/-- The output before the layer norm. -/
theorem oo_val (t : Fin 32) (y : Fin 128) : oo tri tail T X (ix2 t y) = (Y.O R t y : EReal) := by
  pointwise [oo, ur]
  simp only [arb_val H M, uu_val H M hT]
  simp [lhs_r H M, lhs_rk H M, s0m_val H, H.v, ← EReal.coe_mul, coe_sum, HeadReal.O, ← EReal.coe_add]

/-- The state after the chunk. -/
theorem newState_val (c : Fin 96) (y : Fin 128) : newState tri tail T X (ix3 0 c y) = (Y.S R c y : EReal) := by
  pointwise [newState, gc]
  simp [kb_val H, H.b, eend_val H, uu_val H M hT, s0m_val H, H.v, H.gt, exp2_coe, ← EReal.coe_mul, coe_sum, HeadReal.S, ← EReal.coe_add, HeadReal.p]

omit H M hT

/-- The layer norm's divisor and its `eps`. -/
theorem c128 : Ideal.ofBits .f32 1124073472#32 = ((128 : ℝ) : EReal) := by
  simp [Ideal.ofBits, Ideal.ieee, -EReal.coe_mul]; norm_num

def eps : ℝ := (Ideal.ofBits .f32 975685036#32).toReal

/-- The layer norm's constant is its real. -/
theorem ceps : Ideal.ofBits .f32 975685036#32 = ((eps : ℝ) : EReal) := by
  unfold eps; simp [Ideal.ofBits, Ideal.ieee, -EReal.coe_mul]

/-- It is positive. -/
theorem eps_pos : 0 < eps := by
  unfold eps; simp [Ideal.ofBits, Ideal.ieee, -EReal.coe_mul]

/-- The mean of a row, and the mean square of its distances from it. -/
def mean (x : Fin 128 → ℝ) : ℝ := (∑ l, x l) / 128
def vari (x : Fin 128 → ℝ) : ℝ := (∑ l, (x l - mean x) * (x l - mean x)) / 128

/-- A variance is not negative. -/
theorem vari_nonneg (x : Fin 128 → ℝ) : 0 ≤ vari x :=
  div_nonneg (sum_nonneg fun l _ => mul_self_nonneg _) (by norm_num)

/-- A row after the layer norm, with the bonus. -/
def normed (x : Fin 128 → ℝ) (lnw lnb : EReal) (bv : ℝ) (l : Fin 128) : EReal :=
  ((x l - mean x : ℝ) : EReal) * (((Real.sqrt (vari x + eps))⁻¹ : ℝ) : EReal) * lnw + lnb + (bv : EReal)

variable {o : FVec Ideal S32x128 .f32} {O : Fin 32 → Fin 128 → ℝ} (hO : ∀ t l, o (ix2 t l) = (O t l : EReal))
include hO

/-- The column of means. -/
theorem meanCol_val (t : Fin 32) : meanCol o (ix2 t 0) = ((mean (O t) : ℝ) : EReal) := by
  pointwise [meanCol]
  simp only [hO, coe_sum]
  rw [c128, Ideal.div_coe (by norm_num : (128 : ℝ) ≠ 0), ← EReal.coe_mul, mean]
  congr 1
  ring

/-- The centred outputs. -/
theorem centred_val (t : Fin 32) (l : Fin 128) : centred o (ix2 t l) = ((O t l - mean (O t) : ℝ) : EReal) := by
  pointwise [centred]
  rw [hO, meanCol_val hO, EReal.coe_sub]

omit hO in
/-- The inverse square root of a positive real. -/
theorem rsqrt_pos (x : ℝ) (hx : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (by linarith), if_neg (by linarith)]

include H in
/-- The layer norm's result, the bonus added. -/
theorem lnorm_val (t : Fin 32) (y : Fin 128) : lnorm o X (ix3 0 t y)
    = normed (O t) (X.lnw (ix2 0 y)) (X.lnb (ix2 0 y)) ((∑ l, Y.r t l * Y.rs t * Y.k t l * Y.rk l) * Y.kvs t * Y.v t y) y := by
  have hm := meanCol_val (o := mulf (centred o) (centred o)) (O := fun t l => (O t l - mean (O t)) * (O t l - mean (O t)))
    (fun t l => by pointwise []; rw [centred_val hO, EReal.coe_mul]) t
  pointwise [lnorm]
  simp only [centred_val hO, bonus_val H, H.v]
  rw [hm, show (mean fun l => (O t l - mean (O t)) * (O t l - mean (O t))) = vari (O t) from rfl, ceps, ← EReal.coe_add, rsqrt_pos _ (add_pos_of_nonneg_of_pos (vari_nonneg (O t)) eps_pos), ← EReal.coe_mul (_ * _) (Y.v t y)]
  rfl

end Cert.KernelIdeal.Hand
-- ==== Proof.Kern.HeadElim.lean ====
/-
  The values of the elimination: on four strictly lower triangular blocks side by side the trip's tiles hold, block by
  block, the unit matrix plus the block times the tiles themselves.
-/
module

public import proofs.«01_k».proof.Proof.Kern.HeadVals

@[expose] public section

set_option maxRecDepth 16384

noncomputable section

namespace Cert.KernelIdeal.Hand

open Cert.KernelIdeal Cert.KernelIdeal.Gen
open Idealize.ShloMosaic Finset

variable {lane : IVec S8x128 32} (hl : ∀ q l, lane (ix2 q l) = BitVec.ofNat 32 l.val)
include hl

/-- The first lane of a lane's block of 32. -/
theorem lbase_val (q : Fin 8) (l : Fin 128) : lbase lane (ix2 q l) = BitVec.ofNat 32 (32 * (l.val / 32)) := by
  pointwise [lbase]
  rw [hl]
  clear hl
  revert l
  decide +kernel

/-- The lane a gather reads: number `j` of the lane's own block. -/
theorem lidx_val (q : Fin 8) (l : Fin 128) (j : ℕ) (hj : j < 32) : (lidx lane j (ix2 q l)).toNat = 32 * (l.val / 32) + j := by
  pointwise [lidx]
  rw [lbase_val hl]
  have key : ∀ (n : Fin 4) (j : Fin 32),
      (Scalar.select (IntOp.cmpi CmpIPredicate.slt (IntOp.addi (BitVec.ofNat 32 (32 * n.val)) (BitVec.ofNat 32 j.val)) 0#32)
        (IntOp.addi (IntOp.addi (BitVec.ofNat 32 (32 * n.val)) (BitVec.ofNat 32 j.val)) 128#32)
        (IntOp.addi (BitVec.ofNat 32 (32 * n.val)) (BitVec.ofNat 32 j.val))).toNat = 32 * n.val + j.val := by decide +kernel
  exact key ⟨l.val / 32, by omega⟩ ⟨j, hj⟩

/-- One update of a tile of eight rows: a multiple of row `j`, the multiplier taken from the block's column `j`. -/
theorem tile1_val (j : ℕ) (hj : j < 32) (A T R : FVec Ideal S8x128 .f32) (q : Fin 8) (l : Fin 128) :
    tile1 lane j A T R (ix2 q l) = T (ix2 q l) + A (ix2 q ⟨32 * (l.val / 32) + j, by omega⟩) * R (ix2 ⟨j % 8, by omega⟩ l) := by
  pointwise [tile1]
  rw [lidx_val hl q l j hj]
  have h : (⟨(32 * (l.val / 32) + j) % 128, Nat.mod_lt _ (by decide)⟩ : Fin 128) = ⟨32 * (l.val / 32) + j, by omega⟩ :=
    Fin.ext (Nat.mod_eq_of_lt (by omega))
  rw [h]

omit hl

/-- Four blocks packed side by side, read at a lane of block `i`. -/
theorem packed_val (W : Fin 4 → FVec Ideal S32x32 .f32) (t : Fin 32) (i : Fin 4) (j : Fin 32) :
    packed (W 0) (W 1) (W 2) (W 3) (ix2 t ⟨32 * i.val + j.val, by omega⟩) = W i (ix2 t j) := by
  pointwise [packed, quad, zblk, fzero]
  obtain ⟨i, hi⟩ := i
  have hj := j.isLt
  interval_cases i
  all_goals
    dsimp only
    split_ifs
    all_goals first
      | (exfalso; omega)
      | (simp only [add_zero, zero_add]
         exact congrArg (W _) (congrArg (ix2 t) (Fin.ext (by dsimp only; omega))))

/-- The elimination of one block over the reals. -/
def ee (A : ℕ → ℕ → ℝ) : ℕ → ℕ → ℕ → ℝ
  | 0 => fun i l => if i = l then 1 else 0
  | j + 1 => fun i l => ee A j i l + A i j * ee A j j l

include hl

/-- A tile after `j` steps holds the blocks' eliminations after `j` steps. -/
theorem elim_val (A E : FVec Ideal S32x128 .f32) (B : ℕ → ℕ → ℕ → ℝ) (hB : ∀ b i j, i ≤ j → B b i j = 0)
    (hA : ∀ (t : Fin 32) (l : Fin 128), A (ix2 t l) = ((B (l.val / 32) t.val (l.val % 32) : ℝ) : EReal))
    (hE : ∀ (t : Fin 32) (l : Fin 128), E (ix2 t l) = (((if t.val = l.val % 32 then 1 else 0 : ℝ)) : EReal))
    (j : ℕ) (hj : j ≤ 31) (i : Fin 4) (q : Fin 8) (l : Fin 128) :
    elim lane A E j i (ix2 q l) = ((ee (B (l.val / 32)) j (8 * i.val + q.val) (l.val % 32) : ℝ) : EReal) := by
  induction j generalizing i q with
  | zero =>
    show rows8 E i (ix2 q l) = _
    pointwise [rows8]
    rw [hE]
    rfl
  | succ j ih =>
    show (if j / 8 ≤ i.val then tile1 lane j (rows8 A i) (elim lane A E j i) (elim lane A E j (Fin.ofNat 4 (j / 8))) else elim lane A E j i) (ix2 q l) = _
    have hA' : rows8 A i (ix2 q ⟨32 * (l.val / 32) + j, by omega⟩) = ((B (l.val / 32) (8 * i.val + q.val) j : ℝ) : EReal) := by
      pointwise [rows8]
      rw [hA]
      simp only []
      rw [show (32 * (l.val / 32) + j) / 32 = l.val / 32 by omega, show (32 * (l.val / 32) + j) % 32 = j by omega]
    split
    · rw [tile1_val hl j (by omega), ih (by omega), ih (by omega), hA', ← EReal.coe_mul, ← EReal.coe_add]
      simp only [ee]
      rw [show 8 * (Fin.ofNat 4 (j / 8)).val + j % 8 = j by simp; omega]
    · rename_i h
      rw [ih (by omega)]
      simp only [ee]
      rw [hB _ (8 * i.val + q.val) j (by omega), zero_mul, add_zero]

/-- The inverses packed, at an index. -/
theorem inv4_val (A E : FVec Ideal S32x128 .f32) (B : ℕ → ℕ → ℕ → ℝ) (hB : ∀ b i j, i ≤ j → B b i j = 0)
    (hA : ∀ (t : Fin 32) (l : Fin 128), A (ix2 t l) = ((B (l.val / 32) t.val (l.val % 32) : ℝ) : EReal))
    (hE : ∀ (t : Fin 32) (l : Fin 128), E (ix2 t l) = (((if t.val = l.val % 32 then 1 else 0 : ℝ)) : EReal))
    (t : Fin 32) (l : Fin 128) :
    inv4 lane A E (ix2 t l) = ((ee (B (l.val / 32)) 31 t.val (l.val % 32) : ℝ) : EReal) := by
  have h := elim_val hl A E B hB hA hE 31 le_rfl
  pointwise [inv4]
  split_ifs
  all_goals
    rw [h]
    congr 3
    try simp
    try omega

end Cert.KernelIdeal.Hand
-- ==== Proof.Kern.HeadSpec.lean ====
/-
  One head of one chunk: what the kernel's vectors hold is the token recurrence run over the chunk's 32 tokens.
-/
module

public import proofs.«01_k».proof.Proof.Kern.HeadElim
import Mathlib.Tactic.Ring
import Mathlib.Tactic.FieldSimp

@[expose] public section

set_option maxRecDepth 16384

noncomputable section

namespace Cert.KernelIdeal.Hand

open Cert.KernelIdeal Cert.KernelIdeal.Gen Cert.Chunk
open Idealize.ShloMosaic Finset

/-- `1 / log 2`. -/
def L2E : ℝ := (Real.log 2)⁻¹

/-- A power of two with the exponent scaled by log2 e is the exponential. -/
theorem two_rpow (x : ℝ) : (2 : ℝ) ^ (x * L2E) = Real.exp x := by
  rw [Real.rpow_def_of_pos (by norm_num), L2E, mul_comm x, ← mul_assoc, mul_inv_cancel₀ (Real.log_pos (by norm_num)).ne', one_mul]

/-- A key lane among the 128 lanes. -/
abbrev kl (c : Fin 96) : Fin 128 := ⟨c.val, by omega⟩

/-- The head's real inputs are tokens' rows: removal `a`, replacement `b`, key `k`, receptance `r`, value `v`, log-decay `w`. -/
structure Tok (Y : HeadReal) (w a b k r : ℕ → Fin 96 → ℝ) (v : ℕ → Fin 128 → ℝ) : Prop where
  gt : ∀ t c, Y.gt t (kl c) = (∑ j ∈ range (t.val + 1), w j c) * L2E
  gp : ∀ t c, Y.gp t (kl c) = (∑ j ∈ range t.val, w j c) * L2E
  a : ∀ t c, Y.a t (kl c) = a t.val c
  a0 : ∀ t (j : Fin 32), Y.a t ⟨96 + j.val, by omega⟩ = 0
  b : ∀ t c, Y.b t (kl c) = b t.val c
  r : ∀ t c, Y.r t (kl c) * Y.rs t = r t.val c
  r0 : ∀ t (j : Fin 32), Y.r t ⟨96 + j.val, by omega⟩ = 0
  kv : ∀ t c y, Y.k t (kl c) * Y.kvs t * Y.v t y = k t.val c * v t.val y

variable {Y : HeadReal} {w a b k r : ℕ → Fin 96 → ℝ} {v : ℕ → Fin 128 → ℝ} (K : Tok Y w a b k r v)

/-- The decay factor of a token. -/
def ew (w : ℕ → Fin 96 → ℝ) (t : ℕ) (c : Fin 96) : ℝ := Real.exp (w t c)

/-- A token's decay is not zero. -/
theorem ew_ne (w : ℕ → Fin 96 → ℝ) (t : ℕ) (c : Fin 96) : ew w t c ≠ 0 := Real.exp_ne_zero _

/-- The cumulative decay is the exponential of the summed logarithms. -/
theorem dec_ew (w : ℕ → Fin 96 → ℝ) (t : ℕ) (c : Fin 96) : dec (ew w) t c = Real.exp (∑ j ∈ range t, w j c) := (Real.exp_sum _ _).symm

include K

/-- The kernel's power at a token is the cumulative decay through it, -/
theorem p_eq (t : Fin 32) (c : Fin 96) : Y.p t (kl c) = dec (ew w) (t.val + 1) c := by
  rw [HeadReal.p, K.gt, two_rpow, dec_ew]
/-- the power one row earlier the cumulative decay before it, -/
theorem pp_eq (t : Fin 32) (c : Fin 96) : Y.pp t (kl c) = dec (ew w) t.val c := by
  rw [HeadReal.pp, K.gp, two_rpow, dec_ew]
/-- the power with the sign changed its inverse, -/
theorem q_eq (t : Fin 32) (c : Fin 96) : Y.q t (kl c) = (dec (ew w) (t.val + 1) c)⁻¹ := by
  rw [HeadReal.q, K.gt, ← neg_mul, two_rpow, dec_ew, Real.exp_neg]
/-- and the power to the chunk's end the decay from the token to the end. -/
theorem pe_eq (t : Fin 32) (c : Fin 96) : Y.pe t (kl c) = dec (ew w) 32 c / dec (ew w) (t.val + 1) c := by
  rw [HeadReal.pe, K.gt, K.gt, ← sub_mul, two_rpow, dec_ew, dec_ew, Real.exp_sub]
  rfl

/-- The strict coefficients of `a` with `b` are the recurrence's. -/
theorem AB_eq (t j : Fin 32) : Y.AB t j = if j.val < t.val then ∑ c, a t.val c * dec (ew w) t.val c * (b j.val c / dec (ew w) (j.val + 1) c) else 0 := by
  unfold HeadReal.AB
  rw [sum_96_32]
  simp only [K.a0, zero_mul, sum_const_zero, add_zero]
  split
  · refine sum_congr rfl fun c _ => ?_
    rw [K.a t c, pp_eq K t c, K.b j c, q_eq K j c, div_eq_mul_inv]
  · rfl

/-- The strict coefficients of `a` with `k`, times the scales and the values, are the recurrence's. -/
theorem AK_kvs (t j : Fin 32) (y : Fin 128) : Y.AK t j * Y.kvs j * Y.v j y
    = if j.val < t.val then v j.val y * ∑ c, a t.val c * dec (ew w) t.val c * (k j.val c / dec (ew w) (j.val + 1) c) else 0 := by
  unfold HeadReal.AK
  rw [sum_96_32]
  simp only [K.a0, zero_mul, sum_const_zero, add_zero]
  split
  · rw [sum_mul, sum_mul, mul_sum]
    refine sum_congr rfl fun c _ => ?_
    rw [K.a t c, pp_eq K t c, q_eq K j c, div_eq_mul_inv]
    have h := K.kv j c y
    calc _ = a t.val c * dec (ew w) t.val c * (dec (ew w) (j.val + 1) c)⁻¹ * (Y.k j (kl c) * Y.kvs j * Y.v j y) := by ring
      _ = _ := by rw [h]; ring
  · simp

/-- The coefficients of `r` with `b` are the recurrence's. -/
theorem RB_eq (t j : Fin 32) : Y.RB t j = if j.val ≤ t.val then ∑ c, r t.val c * dec (ew w) (t.val + 1) c * (b j.val c / dec (ew w) (j.val + 1) c) else 0 := by
  unfold HeadReal.RB
  rw [sum_96_32]
  simp only [K.r0, zero_mul, sum_const_zero, add_zero]
  split
  · refine sum_congr rfl fun c _ => ?_
    rw [K.r t c, p_eq K t c, K.b j c, q_eq K j c, div_eq_mul_inv]
  · rfl

/-- The coefficients of `r` with `k`, times the scales and the values, are the recurrence's. -/
theorem RK_kvs (t j : Fin 32) (y : Fin 128) : Y.RK t j * Y.kvs j * Y.v j y
    = if j.val ≤ t.val then v j.val y * ∑ c, r t.val c * dec (ew w) (t.val + 1) c * (k j.val c / dec (ew w) (j.val + 1) c) else 0 := by
  unfold HeadReal.RK
  rw [sum_96_32]
  simp only [K.r0, zero_mul, sum_const_zero, add_zero]
  split
  · rw [sum_mul, sum_mul, mul_sum]
    refine sum_congr rfl fun c _ => ?_
    rw [K.r t c, p_eq K t c, q_eq K j c, div_eq_mul_inv]
    have h := K.kv j c y
    calc _ = r t.val c * dec (ew w) (t.val + 1) c * (dec (ew w) (j.val + 1) c)⁻¹ * (Y.k j (kl c) * Y.kvs j * Y.v j y) := by ring
      _ = _ := by rw [h]; ring
  · simp

omit K

/-- The removal-replacement products as a matrix over all naturals, zero from the diagonal up. -/
def ABn (Y : HeadReal) (t j : ℕ) : ℝ := if h : j < t ∧ t < 32 then Y.AB ⟨t, h.2⟩ ⟨j, by omega⟩ else 0

/-- The coefficients numbered by naturals are the coefficients. -/
theorem AB_eq_ABn (Y : HeadReal) (t j : Fin 32) : Y.AB t j = ABn Y t.val j.val := by
  unfold ABn
  split
  · rfl
  · rename_i h
    unfold HeadReal.AB
    rw [if_neg (by have := t.isLt; omega)]

/-- The inverse the elimination leaves. -/
def Rinv (Y : HeadReal) (t j : Fin 32) : ℝ := ee (ABn Y) 31 t.val j.val

/-- The inverse's row: the unit row and the coefficients times the rows eliminated before. -/
theorem Rinv_eq (Y : HeadReal) (t j : Fin 32) : Rinv Y t j = (if t = j then 1 else 0) + ∑ m ∈ range t.val, ABn Y t.val m * ee (ABn Y) 31 m j.val := by
  have h := elim_solves 31 (ABn Y) (fun i j hij => dif_neg (by omega)) (ee (ABn Y)) (fun i l => rfl) (fun j _ i l => rfl) t.val (by omega) j.val
  unfold Rinv
  rw [h]
  simp only [Fin.ext_iff]

/-- A sum below a token, over tokens. -/
theorem sum_range_fin (t : Fin 32) (f : ℕ → ℝ) : ∑ m ∈ range t.val, f m = ∑ m : Fin 32, if m.val < t.val then f m.val else 0 := by
  rw [Fin.sum_univ_eq_sum_range (fun m => if m < t.val then f m else 0) 32, ← sum_filter]
  refine sum_congr ?_ fun _ _ => rfl
  ext m; simp; omega

/-- A sum over the tokens up to `t`, as a sum over all tokens of the chunk. -/
theorem sum_range_fin' (t : Fin 32) (f : ℕ → ℝ) : ∑ m ∈ range (t.val + 1), f m = ∑ m : Fin 32, if m.val ≤ t.val then f m.val else 0 := by
  rw [Fin.sum_univ_eq_sum_range (fun m => if m ≤ t.val then f m else 0) 32, ← sum_filter]
  refine sum_congr ?_ fun _ _ => rfl
  ext m; simp; omega

/-- What the inverse is applied to: the state read by the decayed removal row, and the earlier tokens' keys and values. -/
def HeadReal.Lt (Y : HeadReal) (t : Fin 32) (y : Fin 128) : ℝ :=
  (∑ c : Fin 96, Y.a t (kl c) * Y.pp t (kl c) * Y.s0 c y) + ∑ i : Fin 32, Y.AK t i * Y.kvs i * Y.v i y

/-- `U` is the matrix applied to the right-hand sides. -/
theorem U_lin (Y : HeadReal) (R : Fin 32 → Fin 32 → ℝ) (t : Fin 32) (y : Fin 128) : Y.U R t y = ∑ j, R t j * Y.Lt j y := by
  unfold HeadReal.U HeadReal.Lt
  simp only [sum_mul, mul_add, mul_sum, sum_add_distrib]
  congr 1
  · rw [sum_comm]
    exact sum_congr rfl fun j _ => sum_congr rfl fun c _ => by ring
  · rw [sum_comm]
    exact sum_congr rfl fun j _ => sum_congr rfl fun c _ => by ring

/-- `U` with the inverse solves the chunk's triangular system. -/
theorem U_sys (Y : HeadReal) (t : Fin 32) (y : Fin 128) : Y.U (Rinv Y) t y = Y.Lt t y + ∑ m : Fin 32, Y.AB t m * Y.U (Rinv Y) m y := by
  rw [U_lin]
  have h1 : ∀ j, Rinv Y t j * Y.Lt j y = (if t = j then Y.Lt j y else 0) + ∑ m : Fin 32, Y.AB t m * (Rinv Y m j * Y.Lt j y) := by
    intro j
    rw [Rinv_eq, add_mul, sum_range_fin, sum_mul]
    congr 1
    · split <;> simp
    · refine sum_congr rfl fun m _ => ?_
      rw [AB_eq_ABn]
      unfold Rinv
      split
      · ring
      · rename_i h
        rw [show ABn Y t.val m.val = 0 from dif_neg (by omega)]; ring
  rw [sum_congr rfl fun j _ => h1 j, sum_add_distrib, sum_comm]
  congr 1
  · simp
  · exact sum_congr rfl fun m _ => by rw [U_lin, mul_sum]

include K

/-- The kernel's read values are the recurrence's. -/
theorem U_eq (t : Fin 32) (y : Fin 128) : Y.U (Rinv Y) t y = rd (fun c => Y.s0 c y) (ew w) a b k (fun j => v j y) t.val := by
  have h := rd_unique (fun c => Y.s0 c y) (ew w) a b k (fun j => v j y) (ew_ne w) 32
    (fun t => if h : t < 32 then Y.U (Rinv Y) ⟨t, h⟩ y else 0) (fun t ht => by
      simp only [dif_pos ht]
      rw [U_sys, HeadReal.Lt, add_assoc]
      congr 1
      · exact sum_congr rfl fun c _ => by rw [K.a, pp_eq K]
      · have e1 := sum_range_fin ⟨t, ht⟩ (fun j => (fun j => v j y) j * (∑ c, a t c * dec (ew w) t c * (k j c / dec (ew w) (j + 1) c))
          + (if h : j < 32 then Y.U (Rinv Y) ⟨j, h⟩ y else 0) * (∑ c, a t c * dec (ew w) t c * (b j c / dec (ew w) (j + 1) c)))
        refine Eq.trans ?_ e1.symm
        rw [← sum_add_distrib]
        refine sum_congr rfl fun m _ => ?_
        rw [AK_kvs K, AB_eq K]
        simp only [m.isLt, dif_pos]
        split
        · ring
        · ring) t.val t.isLt
  simpa using h

/-- The kernel's outputs before the layer norm are the recurrence's. -/
theorem O_eq (t : Fin 32) (y : Fin 128) : Y.O (Rinv Y) t y = ot (fun c => Y.s0 c y) (ew w) a b k r (fun j => v j y) t.val := by
  rw [ot_closed _ _ _ _ _ _ _ (ew_ne w), HeadReal.O, add_assoc]
  congr 1
  · exact sum_congr rfl fun c _ => by rw [K.r, p_eq K]
  · rw [sum_range_fin', ← sum_add_distrib]
    refine sum_congr rfl fun m _ => ?_
    rw [RK_kvs K, RB_eq K, U_eq K]
    split
    · ring
    · ring

/-- The kernel's state after the chunk is the recurrence's. -/
theorem S_eq (c : Fin 96) (y : Fin 128) : Y.S (Rinv Y) c y = st (fun c => Y.s0 c y) (ew w) a b k (fun j => v j y) 32 c := by
  rw [st_end _ _ _ _ _ _ (ew_ne w), HeadReal.S]
  rw [← Fin.sum_univ_eq_sum_range (fun j => b j c * (dec (ew w) 32 c / dec (ew w) (j + 1) c) * rd (fun c => Y.s0 c y) (ew w) a b k (fun j => v j y) j) 32,
    ← Fin.sum_univ_eq_sum_range (fun j => k j c * (dec (ew w) 32 c / dec (ew w) (j + 1) c) * v j y) 32]
  congr 1
  · rw [p_eq K 31 c]; rfl
  · congr 1
    · exact sum_congr rfl fun j _ => by rw [K.b j c, pe_eq K j c, U_eq K]
    · refine sum_congr rfl fun j _ => ?_
      rw [pe_eq K j c]
      have h := K.kv j c y
      calc _ = dec (ew w) 32 c / dec (ew w) (j.val + 1) c * (Y.k j (kl c) * Y.kvs j * Y.v j y) := by ring
        _ = _ := by rw [h]; ring

/-- The bonus times the value. -/
theorem bonus_eq (t : Fin 32) (y : Fin 128) :
    (∑ l, Y.r t l * Y.rs t * Y.k t l * Y.rk l) * Y.kvs t * Y.v t y = (∑ c : Fin 96, r t.val c * k t.val c * Y.rk (kl c)) * v t.val y := by
  rw [sum_96_32]
  simp only [K.r0, zero_mul, sum_const_zero, add_zero]
  rw [sum_mul, sum_mul, sum_mul]
  refine sum_congr rfl fun c _ => ?_
  have h := K.kv t c y
  rw [← K.r t c]
  calc _ = Y.r t (kl c) * Y.rs t * Y.rk (kl c) * (Y.k t (kl c) * Y.kvs t * Y.v t y) := by ring
    _ = _ := by rw [h]; ring

end Cert.KernelIdeal.Hand
-- ==== Proof.Kern.HeadTrip.lean ====
/-
  One trip of the kernel's loop over groups of four heads in the vocabulary of `HeadOps`: what the trip stores, head by
  head, is the state and the normed output of that head computed from the vectors the trip loads.
-/
module

public import proofs.«01_k».proof.Proof.Kern.HeadOps
public import proofs.«01_k».proof.Proof.Gen.KernelIdeal.Frame

@[expose] public section

set_option maxRecDepth 16384
set_option maxHeartbeats 4000000

noncomputable section

namespace Cert.KernelIdeal.Hand

open Cert.KernelIdeal Cert.KernelIdeal.Gen
open Idealize.ShloMosaic

/-- Column `i` is in the matrix. -/
theorem slicesCol (i : Fin 4) : S32x128.Slices ![0, i.val] S32x1 := by revert i; decide

/-- A column of scales brought to the front lanes for group `k`. -/
def rolled (x : FVec Ideal S32x128 .f32) (k : Fin k0_t2_loop.trips) : FVec Ideal S32x128 .f32 :=
  dynamicRotate 1 (Scalar.subi 128#32 (Scalar.muli 4#32 (Scf.iv 0#32 1#32 k.val))) none x rotates_S32x128_d1

/-- What one trip reads: the memrefs, the vectors computed before the loop, the contents of the memrefs, the trip. -/
structure TripIn where
  arg12 : Memref sig .tc .vmem S48x128 .f32
  arg13 : Memref sig .tc .vmem S48x128 .f32
  arg14 : Memref sig .tc .vmem S48x128 .f32
  arg17 : Memref sig .tc .vmem S1716x128 .f32
  arg18 : Memref sig .tc .vmem S1664x128 .f32
  arg19 : Memref sig .tc .vmem S1664x128 .f32
  arg20 : Memref sig .tc .vmem S1664x128 .f32
  arg21 : Memref sig .tc .vmem S1664x128 .f32
  arg22 : Memref sig .tc .vmem S1664x128 .f32
  arg23 : Memref sig .tc .vmem S48x96x128 .f32
  arg24 : Memref sig .tc .vmem S128x128 .f32
  v1228 : FVec Ideal S32x128 .f32
  v1235 : FVec Ideal S32x128 .f32
  v1282 : IVec S64x128 1
  v1284 : IVec S64x128 1
  v1285 : IVec S8x128 32
  v1286 : IVec S32x128 32
  v1289 : BitVec 32
  v1291 : IVec S32x128 32
  v1293 : IVec S32x128 1
  X_arg12 : BufTy.Contents (Elt Ideal) arg12.view.ty
  X_arg13 : BufTy.Contents (Elt Ideal) arg13.view.ty
  X_arg14 : BufTy.Contents (Elt Ideal) arg14.view.ty
  X_arg17 : BufTy.Contents (Elt Ideal) arg17.view.ty
  X_arg18 : BufTy.Contents (Elt Ideal) arg18.view.ty
  X_arg19 : BufTy.Contents (Elt Ideal) arg19.view.ty
  X_arg20 : BufTy.Contents (Elt Ideal) arg20.view.ty
  X_arg21 : BufTy.Contents (Elt Ideal) arg21.view.ty
  X_arg22 : BufTy.Contents (Elt Ideal) arg22.view.ty
  X_arg24 : BufTy.Contents (Elt Ideal) arg24.view.ty
  k : Fin k0_t2_loop.trips
  f_arg23 : BufTy.Contents (Elt Ideal) arg23.view.ty

variable (Q : TripIn)

/-- The vectors head `4 k + i` is computed from, as the trip loads them. -/
def headVecs (i : Fin 4) : HeadVecs where
  gp := View.readAt (Elt Ideal) Q.arg17.view ⟨k0_off3 Q.k (BitVec.ofNat 32 i.val) 0#32, S32x128.size, ![52, 1], k0_off3_inb Q.k i 0⟩ Q.X_arg17
  gt := View.readAt (Elt Ideal) Q.arg17.view ⟨k0_off3 Q.k (BitVec.ofNat 32 i.val) 52#32, S32x128.size, ![52, 1], k0_off3_inb Q.k i 1⟩ Q.X_arg17
  r := View.readAt (Elt Ideal) Q.arg18.view ⟨k0_off4 Q.k (BitVec.ofNat 32 i.val), S32x128.size, ![52, 1], k0_off4_inb Q.k i⟩ Q.X_arg18
  k := View.readAt (Elt Ideal) Q.arg19.view ⟨k0_off4 Q.k (BitVec.ofNat 32 i.val), S32x128.size, ![52, 1], k0_off4_inb Q.k i⟩ Q.X_arg19
  v := View.readAt (Elt Ideal) Q.arg20.view ⟨k0_off4 Q.k (BitVec.ofNat 32 i.val), S32x128.size, ![52, 1], k0_off4_inb Q.k i⟩ Q.X_arg20
  a := View.readAt (Elt Ideal) Q.arg21.view ⟨k0_off4 Q.k (BitVec.ofNat 32 i.val), S32x128.size, ![52, 1], k0_off4_inb Q.k i⟩ Q.X_arg21
  b := View.readAt (Elt Ideal) Q.arg22.view ⟨k0_off4 Q.k (BitVec.ofNat 32 i.val), S32x128.size, ![52, 1], k0_off4_inb Q.k i⟩ Q.X_arg22
  rs := extractStridedSlice S32x1 ![0, i.val] (rolled Q.v1228 Q.k) (slicesCol i)
  kvs := extractStridedSlice S32x1 ![0, i.val] (rolled Q.v1235 Q.k) (slicesCol i)
  rk := View.readAt (Elt Ideal) Q.arg12.view (Rect.unit (s := S48x128) (k0_off5 Q.k (BitVec.ofNat 32 i.val)) S1x128.size (k0_off5_inb Q.k i)).toLoadRect Q.X_arg12
  kvr := View.readAt (Elt Ideal) Q.arg24.view (Rect.unit (s := S128x128) (k0_off6 Q.k (BitVec.ofNat 32 i.val)) S1x128.size (k0_off6_inb Q.k i)).toLoadRect Q.X_arg24
  lnw := View.readAt (Elt Ideal) Q.arg13.view (Rect.unit (s := S48x128) (k0_off5 Q.k (BitVec.ofNat 32 i.val)) S1x128.size (k0_off5_inb Q.k i)).toLoadRect Q.X_arg13
  lnb := View.readAt (Elt Ideal) Q.arg14.view (Rect.unit (s := S48x128) (k0_off5 Q.k (BitVec.ofNat 32 i.val)) S1x128.size (k0_off5_inb Q.k i)).toLoadRect Q.X_arg14
  s0 := View.readAt (Elt Ideal) Q.arg23.view (Rect.unit (s := S48x96x128) (k0_off7 Q.k (BitVec.ofNat 32 i.val)) S1x96x128.size (k0_off7_inb Q.k i)).toLoadRect Q.f_arg23

/-- The four heads' removal-replacement products, packed side by side. -/
def tripA : FVec Ideal S32x128 .f32 :=
  packed (ab Q.v1282 (headVecs Q 0)) (ab Q.v1282 (headVecs Q 1)) (ab Q.v1282 (headVecs Q 2)) (ab Q.v1282 (headVecs Q 3))

/-- The four blocks' inverses, packed. -/
def tripT : FVec Ideal S32x128 .f32 := inv4 Q.v1285 (tripA Q) (k0_pay1 Q.v1286 Q.v1289 Q.v1291 Q.v1293)

/-- Block `i` of 32 columns is in the matrix. -/
theorem slicesBlk (i : Fin 4) : S32x128.Slices ![0, 32 * i.val] S32x32 := by revert i; decide

/-- The inverse of head `i`'s block. -/
def tripTi (i : Fin 4) : FVec Ideal S32x32 .f32 := extractStridedSlice S32x32 ![0, 32 * i.val] (tripT Q) (slicesBlk i)

/-- The packed products are the ones the trip computes. -/
theorem tripA_eq : @trip_k0_t2.sl.v1598 Ideal _ Q.arg17 Q.arg18 Q.arg19 Q.arg21 Q.arg22 Q.v1228 Q.v1282 Q.X_arg17 Q.X_arg18 Q.X_arg19 Q.X_arg21 Q.X_arg22 Q.k = tripA Q := rfl

/-- The inverses are the ones the trip computes. -/
theorem tripT_eq : @trip_k0_t2.sl.v3377 Ideal _ Q.arg17 Q.arg18 Q.arg19 Q.arg21 Q.arg22 Q.v1228 Q.v1282 Q.v1285 Q.v1286 Q.v1289 Q.v1291 Q.v1293 Q.X_arg17 Q.X_arg18 Q.X_arg19 Q.X_arg21 Q.X_arg22 Q.k = tripT Q := rfl

/-- The state the trip stores for its head 0. -/
theorem state_eq0 : @trip_k0_t2.sl.v3405 Ideal _ Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg17 Q.X_arg18 Q.X_arg19 Q.X_arg20 Q.X_arg21 Q.X_arg22 Q.X_arg24 Q.k Q.f_arg23 = newState Q.v1282 Q.v1284 (tripTi Q 0) (headVecs Q 0) := by
  have h : @trip_k0_t2.sl.v3405 Ideal _ Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg17 Q.X_arg18 Q.X_arg19 Q.X_arg20 Q.X_arg21 Q.X_arg22 Q.X_arg24 Q.k Q.f_arg23 = newState Q.v1282 Q.v1284 (extractStridedSlice S32x32 ![0, 32 * (0 : Fin 4).val] (@trip_k0_t2.sl.v3377 Ideal _ Q.arg17 Q.arg18 Q.arg19 Q.arg21 Q.arg22 Q.v1228 Q.v1282 Q.v1285 Q.v1286 Q.v1289 Q.v1291 Q.v1293 Q.X_arg17 Q.X_arg18 Q.X_arg19 Q.X_arg21 Q.X_arg22 Q.k) (slicesBlk 0)) (headVecs Q 0) := rfl
  rw [h, tripT_eq]; rfl

/-- The output block the trip stores for its head 0. -/
theorem out_eq0 : @trip_k0_t2.sl.v3441 Ideal _ Q.arg12 Q.arg13 Q.arg14 Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg12 Q.X_arg13 Q.X_arg14 Q.X_arg17 Q.X_arg18 Q.X_arg19 Q.X_arg20 Q.X_arg21 Q.X_arg22 Q.X_arg24 Q.k Q.f_arg23 = lnorm (oo Q.v1282 Q.v1284 (tripTi Q 0) (headVecs Q 0)) (headVecs Q 0) := by
  have h : @trip_k0_t2.sl.v3441 Ideal _ Q.arg12 Q.arg13 Q.arg14 Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg12 Q.X_arg13 Q.X_arg14 Q.X_arg17 Q.X_arg18 Q.X_arg19 Q.X_arg20 Q.X_arg21 Q.X_arg22 Q.X_arg24 Q.k Q.f_arg23 = lnorm (oo Q.v1282 Q.v1284 (extractStridedSlice S32x32 ![0, 32 * (0 : Fin 4).val] (@trip_k0_t2.sl.v3377 Ideal _ Q.arg17 Q.arg18 Q.arg19 Q.arg21 Q.arg22 Q.v1228 Q.v1282 Q.v1285 Q.v1286 Q.v1289 Q.v1291 Q.v1293 Q.X_arg17 Q.X_arg18 Q.X_arg19 Q.X_arg21 Q.X_arg22 Q.k) (slicesBlk 0)) (headVecs Q 0)) (headVecs Q 0) := rfl
  rw [h, tripT_eq]; rfl

/-- The state the trip stores for its head 1. -/
theorem state_eq1 : @trip_k0_t2.sl.v3469 Ideal _ Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg17 Q.X_arg18 Q.X_arg19 Q.X_arg20 Q.X_arg21 Q.X_arg22 Q.X_arg24 Q.k Q.f_arg23 = newState Q.v1282 Q.v1284 (tripTi Q 1) (headVecs Q 1) := by
  have h : @trip_k0_t2.sl.v3469 Ideal _ Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg17 Q.X_arg18 Q.X_arg19 Q.X_arg20 Q.X_arg21 Q.X_arg22 Q.X_arg24 Q.k Q.f_arg23 = newState Q.v1282 Q.v1284 (extractStridedSlice S32x32 ![0, 32 * (1 : Fin 4).val] (@trip_k0_t2.sl.v3377 Ideal _ Q.arg17 Q.arg18 Q.arg19 Q.arg21 Q.arg22 Q.v1228 Q.v1282 Q.v1285 Q.v1286 Q.v1289 Q.v1291 Q.v1293 Q.X_arg17 Q.X_arg18 Q.X_arg19 Q.X_arg21 Q.X_arg22 Q.k) (slicesBlk 1)) (headVecs Q 1) := rfl
  rw [h, tripT_eq]; rfl

/-- The output block the trip stores for its head 1. -/
theorem out_eq1 : @trip_k0_t2.sl.v3505 Ideal _ Q.arg12 Q.arg13 Q.arg14 Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg12 Q.X_arg13 Q.X_arg14 Q.X_arg17 Q.X_arg18 Q.X_arg19 Q.X_arg20 Q.X_arg21 Q.X_arg22 Q.X_arg24 Q.k Q.f_arg23 = lnorm (oo Q.v1282 Q.v1284 (tripTi Q 1) (headVecs Q 1)) (headVecs Q 1) := by
  have h : @trip_k0_t2.sl.v3505 Ideal _ Q.arg12 Q.arg13 Q.arg14 Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg12 Q.X_arg13 Q.X_arg14 Q.X_arg17 Q.X_arg18 Q.X_arg19 Q.X_arg20 Q.X_arg21 Q.X_arg22 Q.X_arg24 Q.k Q.f_arg23 = lnorm (oo Q.v1282 Q.v1284 (extractStridedSlice S32x32 ![0, 32 * (1 : Fin 4).val] (@trip_k0_t2.sl.v3377 Ideal _ Q.arg17 Q.arg18 Q.arg19 Q.arg21 Q.arg22 Q.v1228 Q.v1282 Q.v1285 Q.v1286 Q.v1289 Q.v1291 Q.v1293 Q.X_arg17 Q.X_arg18 Q.X_arg19 Q.X_arg21 Q.X_arg22 Q.k) (slicesBlk 1)) (headVecs Q 1)) (headVecs Q 1) := rfl
  rw [h, tripT_eq]; rfl

/-- The state the trip stores for its head 2. -/
theorem state_eq2 : @trip_k0_t2.sl.v3533 Ideal _ Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg17 Q.X_arg18 Q.X_arg19 Q.X_arg20 Q.X_arg21 Q.X_arg22 Q.X_arg24 Q.k Q.f_arg23 = newState Q.v1282 Q.v1284 (tripTi Q 2) (headVecs Q 2) := by
  have h : @trip_k0_t2.sl.v3533 Ideal _ Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg17 Q.X_arg18 Q.X_arg19 Q.X_arg20 Q.X_arg21 Q.X_arg22 Q.X_arg24 Q.k Q.f_arg23 = newState Q.v1282 Q.v1284 (extractStridedSlice S32x32 ![0, 32 * (2 : Fin 4).val] (@trip_k0_t2.sl.v3377 Ideal _ Q.arg17 Q.arg18 Q.arg19 Q.arg21 Q.arg22 Q.v1228 Q.v1282 Q.v1285 Q.v1286 Q.v1289 Q.v1291 Q.v1293 Q.X_arg17 Q.X_arg18 Q.X_arg19 Q.X_arg21 Q.X_arg22 Q.k) (slicesBlk 2)) (headVecs Q 2) := rfl
  rw [h, tripT_eq]; rfl

/-- The output block the trip stores for its head 2. -/
theorem out_eq2 : @trip_k0_t2.sl.v3569 Ideal _ Q.arg12 Q.arg13 Q.arg14 Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg12 Q.X_arg13 Q.X_arg14 Q.X_arg17 Q.X_arg18 Q.X_arg19 Q.X_arg20 Q.X_arg21 Q.X_arg22 Q.X_arg24 Q.k Q.f_arg23 = lnorm (oo Q.v1282 Q.v1284 (tripTi Q 2) (headVecs Q 2)) (headVecs Q 2) := by
  have h : @trip_k0_t2.sl.v3569 Ideal _ Q.arg12 Q.arg13 Q.arg14 Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg12 Q.X_arg13 Q.X_arg14 Q.X_arg17 Q.X_arg18 Q.X_arg19 Q.X_arg20 Q.X_arg21 Q.X_arg22 Q.X_arg24 Q.k Q.f_arg23 = lnorm (oo Q.v1282 Q.v1284 (extractStridedSlice S32x32 ![0, 32 * (2 : Fin 4).val] (@trip_k0_t2.sl.v3377 Ideal _ Q.arg17 Q.arg18 Q.arg19 Q.arg21 Q.arg22 Q.v1228 Q.v1282 Q.v1285 Q.v1286 Q.v1289 Q.v1291 Q.v1293 Q.X_arg17 Q.X_arg18 Q.X_arg19 Q.X_arg21 Q.X_arg22 Q.k) (slicesBlk 2)) (headVecs Q 2)) (headVecs Q 2) := rfl
  rw [h, tripT_eq]; rfl

/-- The state the trip stores for its head 3. -/
theorem state_eq3 : @trip_k0_t2.sl.v3597 Ideal _ Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg17 Q.X_arg18 Q.X_arg19 Q.X_arg20 Q.X_arg21 Q.X_arg22 Q.X_arg24 Q.k Q.f_arg23 = newState Q.v1282 Q.v1284 (tripTi Q 3) (headVecs Q 3) := by
  have h : @trip_k0_t2.sl.v3597 Ideal _ Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg17 Q.X_arg18 Q.X_arg19 Q.X_arg20 Q.X_arg21 Q.X_arg22 Q.X_arg24 Q.k Q.f_arg23 = newState Q.v1282 Q.v1284 (extractStridedSlice S32x32 ![0, 32 * (3 : Fin 4).val] (@trip_k0_t2.sl.v3377 Ideal _ Q.arg17 Q.arg18 Q.arg19 Q.arg21 Q.arg22 Q.v1228 Q.v1282 Q.v1285 Q.v1286 Q.v1289 Q.v1291 Q.v1293 Q.X_arg17 Q.X_arg18 Q.X_arg19 Q.X_arg21 Q.X_arg22 Q.k) (slicesBlk 3)) (headVecs Q 3) := rfl
  rw [h, tripT_eq]; rfl

/-- The output block the trip stores for its head 3. -/
theorem out_eq3 : @trip_k0_t2.sl.v3633 Ideal _ Q.arg12 Q.arg13 Q.arg14 Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg12 Q.X_arg13 Q.X_arg14 Q.X_arg17 Q.X_arg18 Q.X_arg19 Q.X_arg20 Q.X_arg21 Q.X_arg22 Q.X_arg24 Q.k Q.f_arg23 = lnorm (oo Q.v1282 Q.v1284 (tripTi Q 3) (headVecs Q 3)) (headVecs Q 3) := by
  have h : @trip_k0_t2.sl.v3633 Ideal _ Q.arg12 Q.arg13 Q.arg14 Q.arg17 Q.arg18 Q.arg19 Q.arg20 Q.arg21 Q.arg22 Q.arg23 Q.arg24 Q.v1228 Q.v1235 Q.v1282 Q.v1284 Q.v1285 Q.v1286 Q.v1289 Q.v1291 Q.v1293 Q.X_arg12 Q.X_arg13 Q.X_arg14 Q.X_arg17 Q.X_arg18 Q.X_arg19 Q.X_arg20 Q.X_arg21 Q.X_arg22 Q.X_arg24 Q.k Q.f_arg23 = lnorm (oo Q.v1282 Q.v1284 (extractStridedSlice S32x32 ![0, 32 * (3 : Fin 4).val] (@trip_k0_t2.sl.v3377 Ideal _ Q.arg17 Q.arg18 Q.arg19 Q.arg21 Q.arg22 Q.v1228 Q.v1282 Q.v1285 Q.v1286 Q.v1289 Q.v1291 Q.v1293 Q.X_arg17 Q.X_arg18 Q.X_arg19 Q.X_arg21 Q.X_arg22 Q.k) (slicesBlk 3)) (headVecs Q 3)) (headVecs Q 3) := rfl
  rw [h, tripT_eq]; rfl

end Cert.KernelIdeal.Hand
-- ==== Proof.Kern.TripSpec.lean ====
/-
  One trip of the loop over groups of four heads, from what the scratch holds: the trip stores each of its heads'
  state after the chunk and the chunk's normed outputs, as the token recurrence gives them.
-/
module

public import proofs.«01_k».proof.Proof.Kern.HeadSpec
public import proofs.«01_k».proof.Proof.Kern.HeadTrip
public import Idealize.ShloMosaic.Lib.KernelVsHost

@[expose] public section

set_option maxRecDepth 16384

noncomputable section

namespace Cert.KernelIdeal.Hand

open Cert.KernelIdeal Cert.KernelIdeal.Gen Cert.Chunk
open Idealize.ShloMosaic Finset

/-- One batch row's tokens as real numbers, head by head: codes, scales, removal and replacement vectors, log-decay,
    the bonus weights. -/
structure ChunkR where
  r : Fin 48 → ℕ → Fin 96 → ℝ
  k : Fin 48 → ℕ → Fin 96 → ℝ
  a : Fin 48 → ℕ → Fin 96 → ℝ
  b : Fin 48 → ℕ → Fin 96 → ℝ
  w : Fin 48 → ℕ → Fin 96 → ℝ
  v : Fin 48 → ℕ → Fin 128 → ℝ
  rs : Fin 48 → ℕ → ℝ
  ks : Fin 48 → ℕ → ℝ
  vs : Fin 48 → ℕ → ℝ
  rk : Fin 48 → Fin 96 → ℝ

/-- The state before token `t`. -/
def ChunkR.state (D : ChunkR) (s0 : Fin 48 → Fin 96 → Fin 128 → ℝ) (t : ℕ) (h : Fin 48) (c : Fin 96) (y : Fin 128) : ℝ :=
  st (fun c => s0 h c y) (ew (D.w h)) (D.a h) (D.b h) (fun t c => D.k h t c * D.ks h t) (fun j => D.v h j y * D.vs h j) t c

/-- The output of token `t` before the layer norm. -/
def ChunkR.raw (D : ChunkR) (s0 : Fin 48 → Fin 96 → Fin 128 → ℝ) (t : ℕ) (h : Fin 48) (y : Fin 128) : ℝ :=
  ot (fun c => s0 h c y) (ew (D.w h)) (D.a h) (D.b h) (fun t c => D.k h t c * D.ks h t) (fun t c => D.r h t c * D.rs h t)
    (fun j => D.v h j y * D.vs h j) t

/-- The bonus of token `t` times its value. -/
def ChunkR.bonus (D : ChunkR) (t : ℕ) (h : Fin 48) (y : Fin 128) : ℝ :=
  (∑ c : Fin 96, D.r h t c * D.rs h t * (D.k h t c * D.ks h t) * D.rk h c) * (D.v h t y * D.vs h t)

/-- The output of token `t`. -/
def ChunkR.out (D : ChunkR) (s0 : Fin 48 → Fin 96 → Fin 128 → ℝ) (lnw lnb : Fin 48 → Fin 128 → EReal) (t : ℕ) (h : Fin 48) (y : Fin 128) : EReal :=
  normed (D.raw s0 t h) (lnw h y) (lnb h y) (D.bonus t h y) y

/-- A row of 96 as a row of 128, zero behind. -/
def ext96 (f : Fin 96 → ℝ) (l : Fin 128) : ℝ := if h : l.val < 96 then f ⟨l.val, h⟩ else 0

/-- The extension by zeros below lane 96, -/
theorem ext96_kl (f : Fin 96 → ℝ) (c : Fin 96) : ext96 f (kl c) = f c := dif_pos c.isLt
/-- and from it on. -/
theorem ext96_hi (f : Fin 96 → ℝ) (j : Fin 32) : ext96 f ⟨96 + j.val, by omega⟩ = 0 := dif_neg (by simp)

/-- A 128-lane row that is given on the key lanes and zero behind. -/
theorem eq_ext96 (x : Fin 128 → EReal) (f : Fin 96 → ℝ) (h1 : ∀ c, x (kl c) = (f c : EReal)) (h2 : ∀ j : Fin 32, x ⟨96 + j.val, by omega⟩ = 0)
    (l : Fin 128) : x l = (ext96 f l : EReal) := by
  unfold ext96
  split
  · rename_i h; exact h1 ⟨l.val, h⟩
  · rename_i h
    have := h2 ⟨l.val - 96, by omega⟩
    have e : (⟨96 + (l.val - 96), by omega⟩ : Fin 128) = l := Fin.ext (by dsimp only; omega)
    dsimp only at this
    rw [e] at this; rw [this]; rfl

/-- The scratch at the loop's entry, with the scales' columns. -/
structure Staged (D : ChunkR) (g : S1716x128.Idx → EReal) (r k v a b : S1664x128.Idx → EReal) (kv : S128x128.Idx → EReal)
    (rsA kvA : FVec Ideal S32x128 .f32) (rk : S48x128.Idx → EReal) : Prop where
  g0 : ∀ (h : Fin 48) l, g (ix2 ⟨h.val, by omega⟩ l) = 0
  gk : ∀ (t : Fin 32) (h : Fin 48) c, g (ix2 ⟨52 * (t.val + 1) + h.val, by omega⟩ (kl c)) = (((∑ j ∈ range (t.val + 1), D.w h j c) * L2E : ℝ) : EReal)
  gz : ∀ (t : Fin 32) (h : Fin 48) (j : Fin 32), g (ix2 ⟨52 * (t.val + 1) + h.val, by omega⟩ ⟨96 + j.val, by omega⟩) = 0
  rr : ∀ (t : Fin 32) (h : Fin 48) c, r (ix2 ⟨52 * t.val + h.val, by omega⟩ (kl c)) = (D.r h t c : EReal)
  rz : ∀ (t : Fin 32) (h : Fin 48) (j : Fin 32), r (ix2 ⟨52 * t.val + h.val, by omega⟩ ⟨96 + j.val, by omega⟩) = 0
  kk : ∀ (t : Fin 32) (h : Fin 48) c, k (ix2 ⟨52 * t.val + h.val, by omega⟩ (kl c)) = (D.k h t c : EReal)
  kz : ∀ (t : Fin 32) (h : Fin 48) (j : Fin 32), k (ix2 ⟨52 * t.val + h.val, by omega⟩ ⟨96 + j.val, by omega⟩) = 0
  vv : ∀ (t : Fin 32) (h : Fin 48) y, v (ix2 ⟨52 * t.val + h.val, by omega⟩ y) = (D.v h t y : EReal)
  aa : ∀ (t : Fin 32) (h : Fin 48) c, a (ix2 ⟨52 * t.val + h.val, by omega⟩ (kl c)) = (D.a h t c : EReal)
  az : ∀ (t : Fin 32) (h : Fin 48) (j : Fin 32), a (ix2 ⟨52 * t.val + h.val, by omega⟩ ⟨96 + j.val, by omega⟩) = 0
  bb : ∀ (t : Fin 32) (h : Fin 48) c, b (ix2 ⟨52 * t.val + h.val, by omega⟩ (kl c)) = (D.b h t c : EReal)
  bz : ∀ (t : Fin 32) (h : Fin 48) (j : Fin 32), b (ix2 ⟨52 * t.val + h.val, by omega⟩ ⟨96 + j.val, by omega⟩) = 0
  kvm : ∀ (h : Fin 48) (j : Fin 32), kv (ix2 ⟨h.val, by omega⟩ ⟨96 + j.val, by omega⟩) = ((D.ks h j * D.vs h j : ℝ) : EReal)
  rsc : ∀ (t : Fin 32) (h : Fin 48), rsA (ix2 t ⟨h.val, by omega⟩) = (D.rs h t : EReal)
  kvc : ∀ (t : Fin 32) (h : Fin 48), kvA (ix2 t ⟨h.val, by omega⟩) = ((D.ks h t * D.vs h t : ℝ) : EReal)
  rkk : ∀ (h : Fin 48) c, rk (ix2 h (kl c)) = (D.rk h c : EReal)
  rkz : ∀ (h : Fin 48) (j : Fin 32), rk (ix2 h ⟨96 + j.val, by omega⟩) = 0

/-- One head's inputs on 128 lanes. -/
def ChunkR.head (D : ChunkR) (s0 : Fin 48 → Fin 96 → Fin 128 → ℝ) (h : Fin 48) : HeadReal where
  gp t := ext96 fun c => (∑ j ∈ range t.val, D.w h j c) * L2E
  gt t := ext96 fun c => (∑ j ∈ range (t.val + 1), D.w h j c) * L2E
  r t := ext96 (D.r h t)
  k t := ext96 (D.k h t)
  v t := D.v h t
  a t := ext96 (D.a h t)
  b t := ext96 (D.b h t)
  rs t := D.rs h t
  kvs t := D.ks h t * D.vs h t
  rk := ext96 (D.rk h)
  s0 := s0 h

/-- The head's inputs are the tokens' rows. -/
theorem ChunkR.tok (D : ChunkR) (s0 : Fin 48 → Fin 96 → Fin 128 → ℝ) (h : Fin 48) :
    Tok (D.head s0 h) (D.w h) (D.a h) (D.b h) (fun t c => D.k h t c * D.ks h t) (fun t c => D.r h t c * D.rs h t) (fun t y => D.v h t y * D.vs h t) where
  gt t c := ext96_kl (fun c => (∑ j ∈ range (t.val + 1), D.w h j c) * L2E) c
  gp t c := ext96_kl (fun c => (∑ j ∈ range t.val, D.w h j c) * L2E) c
  a t c := ext96_kl _ c
  a0 t j := ext96_hi _ j
  b t c := ext96_kl _ c
  r t c := by dsimp only [ChunkR.head]; rw [ext96_kl]
  r0 t j := ext96_hi _ j
  kv t c y := by dsimp only [ChunkR.head]; rw [ext96_kl]; ring

variable (Q : TripIn)

/-- The head a trip's slot works on. -/
abbrev hd (k : Fin k0_t2_loop.trips) (i : Fin 4) : Fin 48 := ⟨4 * k.val + i.val, by
  have := Nat.lt_of_lt_of_le k.isLt k0_t2_abs.2.1; have := i.isLt; omega⟩

/-- The rotation a trip makes. -/
theorem rot_toNat : ∀ k : Fin k0_t2_loop.trips, (Scalar.subi 128#32 (Scalar.muli 4#32 (Scf.iv 0#32 1#32 k.val))).toNat = 128 - 4 * k.val := by decide +kernel

/-- Head `4 k + i`'s scale stands in lane `i` of the rolled column. -/
theorem rolled_val (x : FVec Ideal S32x128 .f32) (k : Fin k0_t2_loop.trips) (t : Fin 32) (i : Fin 4) :
    extractStridedSlice S32x1 ![0, i.val] (rolled x k) (slicesCol i) (ix2 t 0) = x (ix2 t ⟨(hd k i).val, by omega⟩) := by
  have hk := Nat.lt_of_lt_of_le k.isLt k0_t2_abs.2.1
  have e : extractStridedSlice S32x1 ![0, i.val] (rolled x k) (slicesCol i) (ix2 t 0) = rolled x k (ix2 t ⟨i.val, by omega⟩) := by
    refine congrArg (rolled x k) (funext fun a => Fin.ext ?_)
    match a with
    | ⟨0, _⟩ => show 0 + t.val = t.val; omega
    | ⟨1, _⟩ => show i.val + 0 = i.val; omega
  rw [e]
  refine dynamicRotate_apply (s := S32x128) 1 _ x _ _ _ fun b => ?_
  rw [rot_toNat]
  match b with
  | ⟨0, _⟩ => rfl
  | ⟨1, _⟩ =>
    show 4 * k.val + i.val = (i.val + 128 - (128 - 4 * k.val) % 128) % 128
    omega

variable {D : ChunkR} {s0 : Fin 48 → Fin 96 → Fin 128 → ℝ}

/-- What the trip's buffers hold. -/
abbrev TripIn.Staged (Q : TripIn) (D : ChunkR) : Prop :=
  Cert.KernelIdeal.Hand.Staged D (Q.arg17.view.read (Elt Ideal) Q.X_arg17) (Q.arg18.view.read (Elt Ideal) Q.X_arg18) (Q.arg19.view.read (Elt Ideal) Q.X_arg19)
    (Q.arg20.view.read (Elt Ideal) Q.X_arg20) (Q.arg21.view.read (Elt Ideal) Q.X_arg21) (Q.arg22.view.read (Elt Ideal) Q.X_arg22)
    (Q.arg24.view.read (Elt Ideal) Q.X_arg24) Q.v1228 Q.v1235 (Q.arg12.view.read (Elt Ideal) Q.X_arg12)

/-- Indices with equal coordinates are equal, in two axes -/
theorem idx2_ext {n0 n1 : ℕ} {x y : (⟨2, ![n0, n1]⟩ : Shape).Idx} (h0 : (x 0).val = (y 0).val) (h1 : (x 1).val = (y 1).val) : x = y :=
  funext fun a => Fin.ext (by
    match a with
    | ⟨0, _⟩ => exact h0
    | ⟨1, _⟩ => exact h1)

/-- and in three. -/
theorem idx3_ext {n0 n1 n2 : ℕ} {x y : (⟨3, ![n0, n1, n2]⟩ : Shape).Idx} (h0 : (x 0).val = (y 0).val) (h1 : (x 1).val = (y 1).val)
    (h2 : (x 2).val = (y 2).val) : x = y :=
  funext fun a => Fin.ext (by
    match a with
    | ⟨0, _⟩ => exact h0
    | ⟨1, _⟩ => exact h1
    | ⟨2, _⟩ => exact h2)

/-- The rows a head reads from the staged arrays, -/
theorem readAt_off4 (M : Memref sig .tc .vmem S1664x128 .f32) (X : BufTy.Contents (Elt Ideal) M.view.ty) (k : Fin k0_t2_loop.trips) (i : Fin 4) (t : Fin 32) (l : Fin 128) :
    View.readAt (Elt Ideal) M.view ⟨k0_off4 k (BitVec.ofNat 32 i.val), S32x128.size, ![52, 1], k0_off4_inb k i⟩ X (ix2 t l)
      = M.view.read (Elt Ideal) X (ix2 ⟨52 * t.val + (hd k i).val, by omega⟩ l) := by
  rw [View.readAt_apply]
  refine congrArg (M.view.read (Elt Ideal) X) (idx2_ext ?_ ?_)
  · show k0_off4 k (BitVec.ofNat 32 i.val) 0 + 52 * t.val = 52 * t.val + (4 * k.val + i.val)
    rw [k0_off4_eq]; simp; omega
  · show k0_off4 k (BitVec.ofNat 32 i.val) 1 + 1 * l.val = l.val
    rw [k0_off4_eq]; simp

/-- from the staged decays, the row of the token or the one after, -/
theorem readAt_off3 (M : Memref sig .tc .vmem S1716x128 .f32) (X : BufTy.Contents (Elt Ideal) M.view.ty) (k : Fin k0_t2_loop.trips) (i : Fin 4) (q : Fin 2) (t : Fin 32) (l : Fin 128) :
    View.readAt (Elt Ideal) M.view ⟨k0_off3 k (BitVec.ofNat 32 i.val) (BitVec.ofNat 32 (52 * q.val)), S32x128.size, ![52, 1], k0_off3_inb k i q⟩ X (ix2 t l)
      = M.view.read (Elt Ideal) X (ix2 ⟨52 * (t.val + q.val) + (hd k i).val, by omega⟩ l) := by
  rw [View.readAt_apply]
  refine congrArg (M.view.read (Elt Ideal) X) (idx2_ext ?_ ?_)
  · show k0_off3 k (BitVec.ofNat 32 i.val) (BitVec.ofNat 32 (52 * q.val)) 0 + 52 * t.val = 52 * (t.val + q.val) + (4 * k.val + i.val)
    rw [k0_off3_eq]; simp; omega
  · show k0_off3 k (BitVec.ofNat 32 i.val) (BitVec.ofNat 32 (52 * q.val)) 1 + 1 * l.val = l.val
    rw [k0_off3_eq]; simp

/-- its row of a weight, -/
theorem readAt_off5 (M : Memref sig .tc .vmem S48x128 .f32) (X : BufTy.Contents (Elt Ideal) M.view.ty) (k : Fin k0_t2_loop.trips) (i : Fin 4) (l : Fin 128) :
    View.readAt (Elt Ideal) M.view (Rect.unit (s := S48x128) (k0_off5 k (BitVec.ofNat 32 i.val)) S1x128.size (k0_off5_inb k i)).toLoadRect X (ix2 0 l)
      = M.view.read (Elt Ideal) X (ix2 (hd k i) l) := by
  rw [View.readAt_apply]
  refine congrArg (M.view.read (Elt Ideal) X) (idx2_ext ?_ ?_)
  · show k0_off5 k (BitVec.ofNat 32 i.val) 0 + 1 * 0 = 4 * k.val + i.val
    rw [k0_off5_eq]; simp
  · show k0_off5 k (BitVec.ofNat 32 i.val) 1 + 1 * l.val = l.val
    rw [k0_off5_eq]; simp

/-- its row of the scales, -/
theorem readAt_off6 (M : Memref sig .tc .vmem S128x128 .f32) (X : BufTy.Contents (Elt Ideal) M.view.ty) (k : Fin k0_t2_loop.trips) (i : Fin 4) (l : Fin 128) :
    View.readAt (Elt Ideal) M.view (Rect.unit (s := S128x128) (k0_off6 k (BitVec.ofNat 32 i.val)) S1x128.size (k0_off6_inb k i)).toLoadRect X (ix2 0 l)
      = M.view.read (Elt Ideal) X (ix2 ⟨(hd k i).val, by omega⟩ l) := by
  rw [View.readAt_apply]
  refine congrArg (M.view.read (Elt Ideal) X) (idx2_ext ?_ ?_)
  · show k0_off6 k (BitVec.ofNat 32 i.val) 0 + 1 * 0 = 4 * k.val + i.val
    rw [k0_off6_eq]; simp
  · show k0_off6 k (BitVec.ofNat 32 i.val) 1 + 1 * l.val = l.val
    rw [k0_off6_eq]; simp

/-- and its state. -/
theorem readAt_off7 (M : Memref sig .tc .vmem S48x96x128 .f32) (X : BufTy.Contents (Elt Ideal) M.view.ty) (k : Fin k0_t2_loop.trips) (i : Fin 4) (c : Fin 96) (l : Fin 128) :
    View.readAt (Elt Ideal) M.view (Rect.unit (s := S48x96x128) (k0_off7 k (BitVec.ofNat 32 i.val)) S1x96x128.size (k0_off7_inb k i)).toLoadRect X (ix3 0 c l)
      = M.view.read (Elt Ideal) X (ix3 (hd k i) c l) := by
  rw [View.readAt_apply]
  refine congrArg (M.view.read (Elt Ideal) X) (idx3_ext ?_ ?_ ?_)
  · show k0_off7 k (BitVec.ofNat 32 i.val) 0 + 1 * 0 = 4 * k.val + i.val
    rw [k0_off7_eq]; simp
  · show k0_off7 k (BitVec.ofNat 32 i.val) 1 + 1 * c.val = c.val
    rw [k0_off7_eq]; simp
  · show k0_off7 k (BitVec.ofNat 32 i.val) 2 + 1 * l.val = l.val
    rw [k0_off7_eq]; simp

variable (G : Q.Staged D) (i : Fin 4)
  (hs : ∀ c y, Q.arg23.view.read (Elt Ideal) Q.f_arg23 (ix3 (hd Q.k i) c y) = (s0 (hd Q.k i) c y : EReal))
include G

/-- The decays before a token, staged at a pitch of 52 rows. -/
theorem gprev (t : Fin 32) (h : Fin 48) (l : Fin 128) : Q.arg17.view.read (Elt Ideal) Q.X_arg17 (ix2 ⟨52 * t.val + h.val, by omega⟩ l)
    = ((ext96 (fun c => (∑ j ∈ range t.val, D.w h j c) * L2E) l : ℝ) : EReal) := by
  obtain ⟨t, ht⟩ := t
  cases t with
  | zero =>
    have e : (⟨52 * 0 + h.val, by omega⟩ : Fin 1716) = ⟨h.val, by omega⟩ := Fin.ext (by simp)
    dsimp only
    rw [e, G.g0]
    unfold ext96
    simp
  | succ t => exact eq_ext96 (fun l => Q.arg17.view.read (Elt Ideal) Q.X_arg17 (ix2 _ l)) _ (fun c => G.gk ⟨t, by omega⟩ h c) (fun j => G.gz ⟨t, by omega⟩ h j) l

include hs

/-- The vectors the trip loads for its slot `i` are the head's. -/
theorem holds : Holds (headVecs Q i) (D.head s0 (hd Q.k i)) where
  gp t l := (readAt_off3 Q.arg17 Q.X_arg17 Q.k i 0 t l).trans (gprev Q G t (hd Q.k i) l)
  gt t l := (readAt_off3 Q.arg17 Q.X_arg17 Q.k i 1 t l).trans
    (eq_ext96 (fun l => Q.arg17.view.read (Elt Ideal) Q.X_arg17 (ix2 _ l)) _ (fun c => G.gk t (hd Q.k i) c) (fun j => G.gz t (hd Q.k i) j) l)
  r t l := (readAt_off4 Q.arg18 Q.X_arg18 Q.k i t l).trans
    (eq_ext96 (fun l => Q.arg18.view.read (Elt Ideal) Q.X_arg18 (ix2 _ l)) _ (fun c => G.rr t (hd Q.k i) c) (fun j => G.rz t (hd Q.k i) j) l)
  k t l := (readAt_off4 Q.arg19 Q.X_arg19 Q.k i t l).trans
    (eq_ext96 (fun l => Q.arg19.view.read (Elt Ideal) Q.X_arg19 (ix2 _ l)) _ (fun c => G.kk t (hd Q.k i) c) (fun j => G.kz t (hd Q.k i) j) l)
  v t l := (readAt_off4 Q.arg20 Q.X_arg20 Q.k i t l).trans (G.vv t (hd Q.k i) l)
  a t l := (readAt_off4 Q.arg21 Q.X_arg21 Q.k i t l).trans
    (eq_ext96 (fun l => Q.arg21.view.read (Elt Ideal) Q.X_arg21 (ix2 _ l)) _ (fun c => G.aa t (hd Q.k i) c) (fun j => G.az t (hd Q.k i) j) l)
  b t l := (readAt_off4 Q.arg22 Q.X_arg22 Q.k i t l).trans
    (eq_ext96 (fun l => Q.arg22.view.read (Elt Ideal) Q.X_arg22 (ix2 _ l)) _ (fun c => G.bb t (hd Q.k i) c) (fun j => G.bz t (hd Q.k i) j) l)
  rs t := (rolled_val Q.v1228 Q.k t i).trans (G.rsc t (hd Q.k i))
  kvs t := (rolled_val Q.v1235 Q.k t i).trans (G.kvc t (hd Q.k i))
  rk l := (readAt_off5 Q.arg12 Q.X_arg12 Q.k i l).trans
    (eq_ext96 (fun l => Q.arg12.view.read (Elt Ideal) Q.X_arg12 (ix2 _ l)) _ (fun c => G.rkk (hd Q.k i) c) (fun j => G.rkz (hd Q.k i) j) l)
  kvr j := (readAt_off6 Q.arg24 Q.X_arg24 Q.k i _).trans (G.kvm (hd Q.k i) j)
  s0 c l := (readAt_off7 Q.arg23 Q.f_arg23 Q.k i c l).trans (hs c l)

omit hs

variable (hS : ∀ (i : Fin 4) c y, Q.arg23.view.read (Elt Ideal) Q.f_arg23 (ix3 (hd Q.k i) c y) = (s0 (hd Q.k i) c y : EReal))
  (M : Masks Q.v1282 Q.v1284) (hl : ∀ q l, Q.v1285 (ix2 q l) = BitVec.ofNat 32 l.val)
  (hE : ∀ (t : Fin 32) (l : Fin 128), k0_pay1 (F := Ideal) Q.v1286 Q.v1289 Q.v1291 Q.v1293 (ix2 t l) = (((if t.val = l.val % 32 then 1 else 0 : ℝ)) : EReal))
include hS M hl hE

/-- The inverse the trip leaves for its slot `i`. -/
theorem tripTi_val (t j : Fin 32) : tripTi Q i (ix2 t j) = ((Rinv (D.head s0 (hd Q.k i)) t j : ℝ) : EReal) := by
  have hA : ∀ (t : Fin 32) (l : Fin 128), tripA Q (ix2 t l)
      = (((fun b => if hb : b < 4 then ABn (D.head s0 (hd Q.k ⟨b, hb⟩)) else fun _ _ => 0) (l.val / 32) t.val (l.val % 32) : ℝ) : EReal) := by
    intro t l
    have hb : l.val / 32 < 4 := by omega
    have hj : l.val % 32 < 32 := Nat.mod_lt _ (by decide)
    have e : l = ⟨32 * (⟨l.val / 32, hb⟩ : Fin 4).val + (⟨l.val % 32, hj⟩ : Fin 32).val, by dsimp only; omega⟩ := Fin.ext (by dsimp only; omega)
    have h1 := packed_val (fun i => ab Q.v1282 (headVecs Q i)) t ⟨l.val / 32, hb⟩ ⟨l.val % 32, hj⟩
    rw [← e] at h1
    refine h1.trans ?_
    dsimp only
    rw [dif_pos hb]
    exact (ab_val (holds Q G ⟨l.val / 32, hb⟩ (hS _)) M t ⟨l.val % 32, hj⟩).trans (by rw [AB_eq_ABn])
  have h := inv4_val hl (tripA Q) (k0_pay1 Q.v1286 Q.v1289 Q.v1291 Q.v1293)
    (fun b => if hb : b < 4 then ABn (D.head s0 (hd Q.k ⟨b, hb⟩)) else fun _ _ => 0) (by
    intro b i j hij
    split
    · unfold ABn; exact dif_neg (by omega)
    · rfl) hA hE t ⟨32 * i.val + j.val, by omega⟩
  have e : tripTi Q i (ix2 t j) = tripT Q (ix2 t ⟨32 * i.val + j.val, by omega⟩) := by
    unfold tripTi
    refine congrArg (tripT Q) (idx2_ext ?_ ?_)
    · show 0 + t.val = t.val; omega
    · rfl
  rw [e]
  refine h.trans ?_
  have e1 : (32 * i.val + j.val) / 32 = i.val := by omega
  have e2 : (32 * i.val + j.val) % 32 = j.val := by omega
  dsimp only
  rw [e1, e2, dif_pos i.isLt]
  rfl

/-- The state the trip stores for its slot `i` is the head's after the chunk. -/
theorem trip_state (c : Fin 96) (y : Fin 128) :
    newState Q.v1282 Q.v1284 (tripTi Q i) (headVecs Q i) (ix3 0 c y) = ((D.state s0 32 (hd Q.k i) c y : ℝ) : EReal) := by
  rw [newState_val (holds Q G i (hS i)) M (tripTi_val Q G i hS M hl hE), S_eq (D.tok s0 (hd Q.k i))]
  rfl

/-- The output block the trip stores for its slot `i` is the head's. -/
theorem trip_out (t : Fin 32) (y : Fin 128) :
    lnorm (oo Q.v1282 Q.v1284 (tripTi Q i) (headVecs Q i)) (headVecs Q i) (ix3 0 t y)
      = D.out s0 (fun h y => Q.arg13.view.read (Elt Ideal) Q.X_arg13 (ix2 h y)) (fun h y => Q.arg14.view.read (Elt Ideal) Q.X_arg14 (ix2 h y)) t.val (hd Q.k i) y := by
  rw [lnorm_val (holds Q G i (hS i)) (oo_val (holds Q G i (hS i)) M (tripTi_val Q G i hS M hl hE)), bonus_eq (D.tok s0 (hd Q.k i))]
  have e : (D.head s0 (hd Q.k i)).O (Rinv (D.head s0 (hd Q.k i))) t = D.raw s0 t.val (hd Q.k i) := funext fun y => O_eq (D.tok s0 (hd Q.k i)) t y
  rw [e]
  have e1 : (headVecs Q i).lnw (ix2 0 y) = _ := readAt_off5 Q.arg13 Q.X_arg13 Q.k i y
  have e2 : (headVecs Q i).lnb (ix2 0 y) = _ := readAt_off5 Q.arg14 Q.X_arg14 Q.k i y
  rw [e1, e2]
  unfold ChunkR.out ChunkR.bonus
  congr 2

end Cert.KernelIdeal.Hand
-- ==== Proof.Kern.LoopSpec.lean ====
/-
  The kernel's three loops as what their buffers hold afterwards: the starting state transposed into the scratch, the
  loop over groups of four heads, and the final state transposed back.
-/
module

public import proofs.«01_k».proof.Proof.Kern.TripSpec
public import Idealize.ShloMosaic.Lib.WritesUnit

@[expose] public section

set_option maxRecDepth 16384

noncomputable section

namespace Cert.KernelIdeal.Hand

open Cert.KernelIdeal Cert.KernelIdeal.Gen Cert.Chunk
open Idealize.ShloMosaic Finset

/-- The memory the kernel body is given at one grid point. -/
structure BodyRefs where
  c : Dev nD
  i : grid0.Coords
  arg2 : Memref sig .tc .vmem S1x32x48x96 .fp8e4m3
  harg2 : arg2.IsWhole
  arg3 : Memref sig .tc .vmem S1x32x48 .f32
  harg3 : arg3.IsWhole
  arg4 : Memref sig .tc .vmem S1x32x48x96 .fp8e4m3
  harg4 : arg4.IsWhole
  arg5 : Memref sig .tc .vmem S1x32x48 .f32
  harg5 : arg5.IsWhole
  arg6 : Memref sig .tc .vmem S1x32x48x128 .fp8e4m3
  harg6 : arg6.IsWhole
  arg7 : Memref sig .tc .vmem S1x32x48 .f32
  harg7 : arg7.IsWhole
  arg8 : Memref sig .tc .vmem S1x32x48x96 .bf16
  harg8 : arg8.IsWhole
  arg9 : Memref sig .tc .vmem S1x32x48x96 .bf16
  harg9 : arg9.IsWhole
  arg10 : Memref sig .tc .vmem S1x32x48x96 .f32
  harg10 : arg10.IsWhole
  arg11 : Memref sig .tc .vmem S1x48x128x96 .f32
  harg11 : arg11.IsWhole
  arg12 : Memref sig .tc .vmem S48x128 .f32
  harg12 : arg12.IsWhole
  arg13 : Memref sig .tc .vmem S48x128 .f32
  harg13 : arg13.IsWhole
  arg14 : Memref sig .tc .vmem S48x128 .f32
  harg14 : arg14.IsWhole
  arg15 : Memref sig .tc .vmem S1x32x6144 .bf16
  harg15 : arg15.IsWhole
  arg16 : Memref sig .tc .vmem S1x48x128x96 .f32
  harg16 : arg16.IsWhole
  arg17 : Memref sig .tc .vmem S1716x128 .f32
  harg17 : arg17.IsWhole
  arg18 : Memref sig .tc .vmem S1664x128 .f32
  harg18 : arg18.IsWhole
  arg19 : Memref sig .tc .vmem S1664x128 .f32
  harg19 : arg19.IsWhole
  arg20 : Memref sig .tc .vmem S1664x128 .f32
  harg20 : arg20.IsWhole
  arg21 : Memref sig .tc .vmem S1664x128 .f32
  harg21 : arg21.IsWhole
  arg22 : Memref sig .tc .vmem S1664x128 .f32
  harg22 : arg22.IsWhole
  arg23 : Memref sig .tc .vmem S48x96x128 .f32
  harg23 : arg23.IsWhole
  arg24 : Memref sig .tc .vmem S128x128 .f32
  harg24 : arg24.IsWhole

/-- A run of the loop over groups of heads: the body's memory, the values the loop's trips share, what the buffers they only read hold,
    and what the two they write hold at its entry. -/
structure LoopIn extends BodyRefs where
  v1228 : FVec Ideal S32x128 .f32
  v1235 : FVec Ideal S32x128 .f32
  v1282 : IVec S64x128 1
  v1284 : IVec S64x128 1
  v1285 : IVec S8x128 32
  v1286 : IVec S32x128 32
  v1289 : BitVec 32
  v1291 : IVec S32x128 32
  v1293 : IVec S32x128 1
  X_arg12 : BufTy.Contents (Elt Ideal) arg12.view.ty
  X_arg13 : BufTy.Contents (Elt Ideal) arg13.view.ty
  X_arg14 : BufTy.Contents (Elt Ideal) arg14.view.ty
  X_arg17 : BufTy.Contents (Elt Ideal) arg17.view.ty
  X_arg18 : BufTy.Contents (Elt Ideal) arg18.view.ty
  X_arg19 : BufTy.Contents (Elt Ideal) arg19.view.ty
  X_arg20 : BufTy.Contents (Elt Ideal) arg20.view.ty
  X_arg21 : BufTy.Contents (Elt Ideal) arg21.view.ty
  X_arg22 : BufTy.Contents (Elt Ideal) arg22.view.ty
  X_arg24 : BufTy.Contents (Elt Ideal) arg24.view.ty
  G_arg15 : BufTy.Contents (Elt Ideal) arg15.view.ty
  G_arg23 : BufTy.Contents (Elt Ideal) arg23.view.ty

/-- The loop's pieces after `n` trips. -/
def LoopIn.pb (L : LoopIn) (n : ℕ) : List (View.Piece (Elt Ideal) S1x32x6144 .bf16) × List (View.Piece (Elt Ideal) S48x96x128 .f32) :=
  pb_k0_t2 (F := Ideal) Variants.none L.c none L.i L.arg2 L.harg2 L.arg3 L.harg3 L.arg4 L.harg4 L.arg5 L.harg5 L.arg6 L.harg6 L.arg7 L.harg7 L.arg8 L.harg8 L.arg9 L.harg9 L.arg10 L.harg10 L.arg11 L.harg11 L.arg12 L.harg12 L.arg13 L.harg13 L.arg14 L.harg14 L.arg15 L.harg15 L.arg16 L.harg16 L.arg17 L.harg17 L.arg18 L.harg18 L.arg19 L.harg19 L.arg20 L.harg20 L.arg21 L.harg21 L.arg22 L.harg22 L.arg23 L.harg23 L.arg24 L.harg24 L.v1228 L.v1235 L.v1282 L.v1284 L.v1285 L.v1286 L.v1289 L.v1291 L.v1293 L.X_arg12 L.X_arg13 L.X_arg14 L.X_arg17 L.X_arg18 L.X_arg19 L.X_arg20 L.X_arg21 L.X_arg22 L.X_arg24 L.G_arg15 L.G_arg23 n

/-- Trip `k` as one trip over what the state buffer holds before it. -/
def LoopIn.trip (L : LoopIn) (k : Fin k0_t2_loop.trips) (f : BufTy.Contents (Elt Ideal) L.arg23.view.ty) : TripIn where
  arg12 := L.arg12
  arg13 := L.arg13
  arg14 := L.arg14
  arg17 := L.arg17
  arg18 := L.arg18
  arg19 := L.arg19
  arg20 := L.arg20
  arg21 := L.arg21
  arg22 := L.arg22
  arg23 := L.arg23
  arg24 := L.arg24
  v1228 := L.v1228
  v1235 := L.v1235
  v1282 := L.v1282
  v1284 := L.v1284
  v1285 := L.v1285
  v1286 := L.v1286
  v1289 := L.v1289
  v1291 := L.v1291
  v1293 := L.v1293
  X_arg12 := L.X_arg12
  X_arg13 := L.X_arg13
  X_arg14 := L.X_arg14
  X_arg17 := L.X_arg17
  X_arg18 := L.X_arg18
  X_arg19 := L.X_arg19
  X_arg20 := L.X_arg20
  X_arg21 := L.X_arg21
  X_arg22 := L.X_arg22
  X_arg24 := L.X_arg24
  k := k
  f_arg23 := f

/-- The state block stored for slot `i`. -/
def TripIn.pS (Q : TripIn) (i : Fin 4) : View.Piece (Elt Ideal) S48x96x128 .f32 :=
  ⟨Rect.unit (s := S48x96x128) (k0_off7 Q.k (BitVec.ofNat 32 i.val)) S1x96x128.size (k0_off7_inb Q.k i), newState Q.v1282 Q.v1284 (tripTi Q i) (headVecs Q i)⟩

/-- The output block stored for slot `i`. -/
def TripIn.pO (Q : TripIn) (i : Fin 4) : View.Piece (Elt Ideal) S1x32x6144 .bf16 :=
  ⟨Rect.unit (s := S1x32x6144) (k0_off8 Q.k (BitVec.ofNat 32 i.val)) S1x32x128.size (k0_off8_inb Q.k i), lnorm (oo Q.v1282 Q.v1284 (tripTi Q i) (headVecs Q i)) (headVecs Q i)⟩

/-- The pieces a trip writes. -/
theorem LoopIn.trip_pieces (L : LoopIn) (k : Fin k0_t2_loop.trips) (f15 : BufTy.Contents (Elt Ideal) L.arg15.view.ty) (f : BufTy.Contents (Elt Ideal) L.arg23.view.ty) :
    (trip_k0_t2 (F := Ideal) Variants.none L.c none L.i L.arg2 L.harg2 L.arg3 L.harg3 L.arg4 L.harg4 L.arg5 L.harg5 L.arg6 L.harg6 L.arg7 L.harg7 L.arg8 L.harg8 L.arg9 L.harg9 L.arg10 L.harg10 L.arg11 L.harg11 L.arg12 L.harg12 L.arg13 L.harg13 L.arg14 L.harg14 L.arg15 L.harg15 L.arg16 L.harg16 L.arg17 L.harg17 L.arg18 L.harg18 L.arg19 L.harg19 L.arg20 L.harg20 L.arg21 L.harg21 L.arg22 L.harg22 L.arg23 L.harg23 L.arg24 L.harg24 L.v1228 L.v1235 L.v1282 L.v1284 L.v1285 L.v1286 L.v1289 L.v1291 L.v1293 L.X_arg12 L.X_arg13 L.X_arg14 L.X_arg17 L.X_arg18 L.X_arg19 L.X_arg20 L.X_arg21 L.X_arg22 L.X_arg24 k).1 f15 f = [(L.trip k f).pO 3, (L.trip k f).pO 2, (L.trip k f).pO 1, (L.trip k f).pO 0]
    ∧ (trip_k0_t2 (F := Ideal) Variants.none L.c none L.i L.arg2 L.harg2 L.arg3 L.harg3 L.arg4 L.harg4 L.arg5 L.harg5 L.arg6 L.harg6 L.arg7 L.harg7 L.arg8 L.harg8 L.arg9 L.harg9 L.arg10 L.harg10 L.arg11 L.harg11 L.arg12 L.harg12 L.arg13 L.harg13 L.arg14 L.harg14 L.arg15 L.harg15 L.arg16 L.harg16 L.arg17 L.harg17 L.arg18 L.harg18 L.arg19 L.harg19 L.arg20 L.harg20 L.arg21 L.harg21 L.arg22 L.harg22 L.arg23 L.harg23 L.arg24 L.harg24 L.v1228 L.v1235 L.v1282 L.v1284 L.v1285 L.v1286 L.v1289 L.v1291 L.v1293 L.X_arg12 L.X_arg13 L.X_arg14 L.X_arg17 L.X_arg18 L.X_arg19 L.X_arg20 L.X_arg21 L.X_arg22 L.X_arg24 k).2.1 f15 f = [(L.trip k f).pS 3, (L.trip k f).pS 2, (L.trip k f).pS 1, (L.trip k f).pS 0] := by
  unfold trip_k0_t2 TripIn.pO TripIn.pS
  rw [← state_eq0 (L.trip k f), ← state_eq1 (L.trip k f), ← state_eq2 (L.trip k f), ← state_eq3 (L.trip k f),
    ← out_eq0 (L.trip k f), ← out_eq1 (L.trip k f), ← out_eq2 (L.trip k f), ← out_eq3 (L.trip k f)]
  exact ⟨rfl, rfl⟩

/-- Before the first trip nothing is written. -/
theorem LoopIn.pb_zero (L : LoopIn) : L.pb 0 = ([], []) := rfl

/-- One trip more. -/
theorem LoopIn.pb_succ (L : LoopIn) (k : Fin k0_t2_loop.trips) (Q : TripIn) (hQ : Q = L.trip k (L.arg23.view.writes (Elt Ideal) L.G_arg23 (L.pb k.val).2)) :
    L.pb (k.val + 1) = ([Q.pO 3, Q.pO 2, Q.pO 1, Q.pO 0] ++ (L.pb k.val).1, [Q.pS 3, Q.pS 2, Q.pS 1, Q.pS 0] ++ (L.pb k.val).2) := by
  subst hQ
  obtain ⟨h1, h2⟩ := L.trip_pieces k (L.arg15.view.writes (Elt Ideal) L.G_arg15 (L.pb k.val).1) (L.arg23.view.writes (Elt Ideal) L.G_arg23 (L.pb k.val).2)
  rw [← h1, ← h2]
  exact pb_k0_t2_succ (F := Ideal) Variants.none L.c none L.i L.arg2 L.harg2 L.arg3 L.harg3 L.arg4 L.harg4 L.arg5 L.harg5 L.arg6 L.harg6 L.arg7 L.harg7 L.arg8 L.harg8 L.arg9 L.harg9 L.arg10 L.harg10 L.arg11 L.harg11 L.arg12 L.harg12 L.arg13 L.harg13 L.arg14 L.harg14 L.arg15 L.harg15 L.arg16 L.harg16 L.arg17 L.harg17 L.arg18 L.harg18 L.arg19 L.harg19 L.arg20 L.harg20 L.arg21 L.harg21 L.arg22 L.harg22 L.arg23 L.harg23 L.arg24 L.harg24 L.v1228 L.v1235 L.v1282 L.v1284 L.v1285 L.v1286 L.v1289 L.v1291 L.v1293 L.X_arg12 L.X_arg13 L.X_arg14 L.X_arg17 L.X_arg18 L.X_arg19 L.X_arg20 L.X_arg21 L.X_arg22 L.X_arg24 L.G_arg15 L.G_arg23 k

section Four

variable (Q : TripIn) (v : Memref sig .tc .vmem S48x96x128 .f32) (f : BufTy.Contents (Elt Ideal) v.view.ty)
  (w : Memref sig .tc .vmem S1x32x6144 .bf16) (g : BufTy.Contents (Elt Ideal) w.view.ty)

/-- Reading a head's state after its own write gives what was written, -/
theorem pS_hit (i : Fin 4) (K : List (View.Piece (Elt Ideal) S48x96x128 .f32)) (c : Fin 96) (y : Fin 128) :
    v.view.read (Elt Ideal) (v.view.writes (Elt Ideal) f (Q.pS i :: K)) (ix3 (hd Q.k i) c y) = newState Q.v1282 Q.v1284 (tripTi Q i) (headVecs Q i) (ix3 0 c y) :=
  View.read_writes_cons_unit_of_mem v.view f (k0_off7_inb Q.k i) _ K (ix3 (hd Q.k i) c y) (ix3 0 c y) (k0_off7_eq Q.k i) fun a => by
    match a with
    | ⟨0, _⟩ => show 4 * Q.k.val + i.val = 4 * Q.k.val + i.val + 0; rfl
    | ⟨1, _⟩ => show c.val = 0 + c.val; omega
    | ⟨2, _⟩ => show y.val = 0 + y.val; omega

/-- another head's write leaves it. -/
theorem pS_miss (i : Fin 4) (K : List (View.Piece (Elt Ideal) S48x96x128 .f32)) (h : Fin 48) (c : Fin 96) (y : Fin 128) (hne : h.val ≠ 4 * Q.k.val + i.val) :
    v.view.read (Elt Ideal) (v.view.writes (Elt Ideal) f (Q.pS i :: K)) (ix3 h c y) = v.view.read (Elt Ideal) (v.view.writes (Elt Ideal) f K) (ix3 h c y) :=
  View.read_writes_cons_unit_of_not_mem v.view f (k0_off7_inb Q.k i) _ K (ix3 h c y) (k0_off7_eq Q.k i) 0 (by
    show h.val < 4 * Q.k.val + i.val ∨ 4 * Q.k.val + i.val + 1 ≤ h.val
    omega)

/-- Where head `h`'s output lies in a row of 6144. -/
abbrev col (h : Fin 48) (y : Fin 128) : Fin 6144 := ⟨128 * h.val + y.val, by omega⟩

/-- Reading a head's outputs after its own write gives what was written, -/
theorem pO_hit (i : Fin 4) (K : List (View.Piece (Elt Ideal) S1x32x6144 .bf16)) (t : Fin 32) (y : Fin 128) :
    w.view.read (Elt Ideal) (w.view.writes (Elt Ideal) g (Q.pO i :: K)) (ix3 0 t (col (hd Q.k i) y)) = lnorm (oo Q.v1282 Q.v1284 (tripTi Q i) (headVecs Q i)) (headVecs Q i) (ix3 0 t y) :=
  View.read_writes_cons_unit_of_mem w.view g (k0_off8_inb Q.k i) _ K (ix3 0 t (col (hd Q.k i) y)) (ix3 0 t y) (k0_off8_eq Q.k i) fun a => by
    match a with
    | ⟨0, _⟩ => rfl
    | ⟨1, _⟩ => show t.val = 0 + t.val; omega
    | ⟨2, _⟩ => show 128 * (4 * Q.k.val + i.val) + y.val = 512 * Q.k.val + 128 * i.val + y.val; omega

/-- another head's write leaves them. -/
theorem pO_miss (i : Fin 4) (K : List (View.Piece (Elt Ideal) S1x32x6144 .bf16)) (h : Fin 48) (t : Fin 32) (y : Fin 128) (hne : h.val ≠ 4 * Q.k.val + i.val) :
    w.view.read (Elt Ideal) (w.view.writes (Elt Ideal) g (Q.pO i :: K)) (ix3 0 t (col h y)) = w.view.read (Elt Ideal) (w.view.writes (Elt Ideal) g K) (ix3 0 t (col h y)) :=
  View.read_writes_cons_unit_of_not_mem w.view g (k0_off8_inb Q.k i) _ K (ix3 0 t (col h y)) (k0_off8_eq Q.k i) 2 (by
    show 128 * h.val + y.val < 512 * Q.k.val + 128 * i.val ∨ 512 * Q.k.val + 128 * i.val + 128 ≤ 128 * h.val + y.val
    omega)

/-- The four state blocks read back. -/
theorem four_S (i : Fin 4) (K : List (View.Piece (Elt Ideal) S48x96x128 .f32)) (c : Fin 96) (y : Fin 128) :
    v.view.read (Elt Ideal) (v.view.writes (Elt Ideal) f (Q.pS 3 :: Q.pS 2 :: Q.pS 1 :: Q.pS 0 :: K)) (ix3 (hd Q.k i) c y)
      = newState Q.v1282 Q.v1284 (tripTi Q i) (headVecs Q i) (ix3 0 c y) := by
  match i with
  | 0 => rw [pS_miss Q v f 3 _ _ _ _ (by simp [hd]), pS_miss Q v f 2 _ _ _ _ (by simp [hd]), pS_miss Q v f 1 _ _ _ _ (by simp [hd]), pS_hit]
  | 1 => rw [pS_miss Q v f 3 _ _ _ _ (by simp [hd]), pS_miss Q v f 2 _ _ _ _ (by simp [hd]), pS_hit]
  | 2 => rw [pS_miss Q v f 3 _ _ _ _ (by simp [hd]), pS_hit]
  | 3 => rw [pS_hit]

/-- A trip's four writes leave the states of the heads of other trips, -/
theorem four_S_miss (K : List (View.Piece (Elt Ideal) S48x96x128 .f32)) (h : Fin 48) (c : Fin 96) (y : Fin 128) (hne : h.val / 4 ≠ Q.k.val) :
    v.view.read (Elt Ideal) (v.view.writes (Elt Ideal) f (Q.pS 3 :: Q.pS 2 :: Q.pS 1 :: Q.pS 0 :: K)) (ix3 h c y)
      = v.view.read (Elt Ideal) (v.view.writes (Elt Ideal) f K) (ix3 h c y) := by
  rw [pS_miss Q v f 3 _ _ _ _ (by show _ ≠ _ + 3; omega), pS_miss Q v f 2 _ _ _ _ (by show _ ≠ _ + 2; omega),
    pS_miss Q v f 1 _ _ _ _ (by show _ ≠ _ + 1; omega), pS_miss Q v f 0 _ _ _ _ (by show _ ≠ _ + 0; omega)]

/-- The four output blocks read back. -/
theorem four_O (i : Fin 4) (K : List (View.Piece (Elt Ideal) S1x32x6144 .bf16)) (t : Fin 32) (y : Fin 128) :
    w.view.read (Elt Ideal) (w.view.writes (Elt Ideal) g (Q.pO 3 :: Q.pO 2 :: Q.pO 1 :: Q.pO 0 :: K)) (ix3 0 t (col (hd Q.k i) y))
      = lnorm (oo Q.v1282 Q.v1284 (tripTi Q i) (headVecs Q i)) (headVecs Q i) (ix3 0 t y) := by
  match i with
  | 0 => rw [pO_miss Q w g 3 _ _ _ _ (by simp [hd]), pO_miss Q w g 2 _ _ _ _ (by simp [hd]), pO_miss Q w g 1 _ _ _ _ (by simp [hd]), pO_hit]
  | 1 => rw [pO_miss Q w g 3 _ _ _ _ (by simp [hd]), pO_miss Q w g 2 _ _ _ _ (by simp [hd]), pO_hit]
  | 2 => rw [pO_miss Q w g 3 _ _ _ _ (by simp [hd]), pO_hit]
  | 3 => rw [pO_hit]

/-- and their outputs. -/
theorem four_O_miss (K : List (View.Piece (Elt Ideal) S1x32x6144 .bf16)) (h : Fin 48) (t : Fin 32) (y : Fin 128) (hne : h.val / 4 ≠ Q.k.val) :
    w.view.read (Elt Ideal) (w.view.writes (Elt Ideal) g (Q.pO 3 :: Q.pO 2 :: Q.pO 1 :: Q.pO 0 :: K)) (ix3 0 t (col h y))
      = w.view.read (Elt Ideal) (w.view.writes (Elt Ideal) g K) (ix3 0 t (col h y)) := by
  rw [pO_miss Q w g 3 _ _ _ _ (by show _ ≠ _ + 3; omega), pO_miss Q w g 2 _ _ _ _ (by show _ ≠ _ + 2; omega),
    pO_miss Q w g 1 _ _ _ _ (by show _ ≠ _ + 1; omega), pO_miss Q w g 0 _ _ _ _ (by show _ ≠ _ + 0; omega)]

end Four

/-- What the loop's trips read. -/
structure LoopIn.Ready (L : LoopIn) (D : ChunkR) (s0 : Fin 48 → Fin 96 → Fin 128 → ℝ) : Prop where
  staged : Staged D (L.arg17.view.read (Elt Ideal) L.X_arg17) (L.arg18.view.read (Elt Ideal) L.X_arg18) (L.arg19.view.read (Elt Ideal) L.X_arg19)
    (L.arg20.view.read (Elt Ideal) L.X_arg20) (L.arg21.view.read (Elt Ideal) L.X_arg21) (L.arg22.view.read (Elt Ideal) L.X_arg22)
    (L.arg24.view.read (Elt Ideal) L.X_arg24) L.v1228 L.v1235 (L.arg12.view.read (Elt Ideal) L.X_arg12)
  masks : Masks L.v1282 L.v1284
  lane : ∀ q l, L.v1285 (ix2 q l) = BitVec.ofNat 32 l.val
  eye : ∀ (t : Fin 32) (l : Fin 128), k0_pay1 (F := Ideal) L.v1286 L.v1289 L.v1291 L.v1293 (ix2 t l) = (((if t.val = l.val % 32 then 1 else 0 : ℝ)) : EReal)
  start : ∀ h c y, L.arg23.view.read (Elt Ideal) L.G_arg23 (ix3 h c y) = (s0 h c y : EReal)

/-- The loop over groups has 12 trips, -/
theorem trips2 : k0_t2_loop.trips = 12 := by decide +kernel
/-- the loop that loads states 48, -/
theorem trips1 : k0_t1_loop.trips = 48 := by decide +kernel
/-- and the loop that stores them 48. -/
theorem trips3 : k0_t3_loop.trips = 48 := by decide +kernel

/-- After `n` groups their heads hold the chunk's final state and outputs, and the others are as before. -/
theorem LoopIn.after {L : LoopIn} {D : ChunkR} {s0 : Fin 48 → Fin 96 → Fin 128 → ℝ} (R : L.Ready D s0) (n : ℕ) (hn : n ≤ 12) :
    (∀ h c y, L.arg23.view.read (Elt Ideal) (L.arg23.view.writes (Elt Ideal) L.G_arg23 (L.pb n).2) (ix3 h c y)
        = (if h.val / 4 < n then ((D.state s0 32 h c y : ℝ) : EReal) else (s0 h c y : EReal)))
    ∧ ∀ h t y, h.val / 4 < n → L.arg15.view.read (Elt Ideal) (L.arg15.view.writes (Elt Ideal) L.G_arg15 (L.pb n).1) (ix3 0 t (col h y))
        = D.out s0 (fun h y => L.arg13.view.read (Elt Ideal) L.X_arg13 (ix2 h y)) (fun h y => L.arg14.view.read (Elt Ideal) L.X_arg14 (ix2 h y)) t.val h y := by
  induction n with
  | zero =>
    rw [L.pb_zero]
    exact ⟨fun h c y => (R.start h c y).trans (by simp), fun h t y hh => absurd hh (by omega)⟩
  | succ n ih =>
    obtain ⟨ih1, ih2⟩ := ih (by omega)
    have hk : n < k0_t2_loop.trips := by rw [trips2]; omega
    obtain ⟨Q, hQ⟩ : ∃ Q, Q = L.trip ⟨n, hk⟩ (L.arg23.view.writes (Elt Ideal) L.G_arg23 (L.pb n).2) := ⟨_, rfl⟩
    rw [L.pb_succ ⟨n, hk⟩ Q hQ]
    have hkn : Q.k.val = n := by rw [hQ]; rfl
    have G : Q.Staged D := by subst hQ; exact R.staged
    have M : Masks Q.v1282 Q.v1284 := by subst hQ; exact R.masks
    have hl : ∀ q l, Q.v1285 (ix2 q l) = BitVec.ofNat 32 l.val := by subst hQ; exact R.lane
    have hE : ∀ (t : Fin 32) (l : Fin 128), k0_pay1 (F := Ideal) Q.v1286 Q.v1289 Q.v1291 Q.v1293 (ix2 t l) = (((if t.val = l.val % 32 then 1 else 0 : ℝ)) : EReal) := by
      subst hQ; exact R.eye
    have hS : ∀ (i : Fin 4) c y, Q.arg23.view.read (Elt Ideal) Q.f_arg23 (ix3 (hd Q.k i) c y) = (s0 (hd Q.k i) c y : EReal) := by
      intro i c y
      have hnot : ¬ (hd Q.k i).val / 4 < n := by show ¬ (4 * Q.k.val + i.val) / 4 < n; omega
      have := ih1 (hd Q.k i) c y
      rw [if_neg hnot] at this
      subst hQ; exact this
    have hx : (fun h y => Q.arg13.view.read (Elt Ideal) Q.X_arg13 (ix2 h y)) = (fun h y => L.arg13.view.read (Elt Ideal) L.X_arg13 (ix2 h y)) := by subst hQ; rfl
    have hb : (fun h y => Q.arg14.view.read (Elt Ideal) Q.X_arg14 (ix2 h y)) = (fun h y => L.arg14.view.read (Elt Ideal) L.X_arg14 (ix2 h y)) := by subst hQ; rfl
    have hslot : ∀ h : Fin 48, h.val / 4 = n → h = hd Q.k ⟨h.val % 4, Nat.mod_lt _ (by decide)⟩ := fun h e => Fin.ext (by
      show h.val = 4 * Q.k.val + h.val % 4; omega)
    refine ⟨fun h c y => ?_, fun h t y hh => ?_⟩
    · by_cases e : h.val / 4 = n
      · rw [if_pos (by omega)]
        have := trip_state Q G ⟨h.val % 4, Nat.mod_lt _ (by decide)⟩ hS M hl hE c y
        rw [← hslot h e] at this
        rw [← this]
        have h4 := four_S Q L.arg23 L.G_arg23 ⟨h.val % 4, Nat.mod_lt _ (by decide)⟩ (L.pb n).2 c y
        rw [← hslot h e] at h4
        exact h4
      · refine (four_S_miss Q L.arg23 L.G_arg23 (L.pb n).2 h c y (by omega)).trans ((ih1 h c y).trans ?_)
        by_cases e' : h.val / 4 < n
        · rw [if_pos e', if_pos (by omega)]
        · rw [if_neg e', if_neg (by omega)]
    · by_cases e : h.val / 4 = n
      · have := trip_out Q G ⟨h.val % 4, Nat.mod_lt _ (by decide)⟩ hS M hl hE t y
        rw [← hslot h e, hx, hb] at this
        rw [← this]
        have h4 := four_O Q L.arg15 L.G_arg15 ⟨h.val % 4, Nat.mod_lt _ (by decide)⟩ (L.pb n).1 t y
        rw [← hslot h e] at h4
        exact h4
      · exact (four_O_miss Q L.arg15 L.G_arg15 (L.pb n).1 h t y (by omega)).trans (ih2 h t y (by omega))

/-! The two transposing loops. -/

section Transposes

variable (B : BodyRefs)

/-- The loop that loads the starting state leaves it transposed in the scratch. -/
theorem load_state (h2 : k0_cond2 B.i = 1#1) (X : BufTy.Contents (Elt Ideal) B.arg11.view.ty) (f : BufTy.Contents (Elt Ideal) B.arg23.view.ty) (n : ℕ) (hn : n ≤ 48)
    (h : Fin 48) (hh : h.val < n) (c : Fin 96) (y : Fin 128) :
    B.arg23.view.read (Elt Ideal) (B.arg23.view.writes (Elt Ideal) f
      (pb_k0_t1 (F := Ideal) Variants.none B.c none B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 h2 X n)) (ix3 h c y) = B.arg11.view.read (Elt Ideal) X (ix4 0 h y c) := by
  induction n with
  | zero => omega
  | succ n ih =>
    have hk : n < k0_t1_loop.trips := by rw [trips1]; omega
    rw [pb_k0_t1_succ (F := Ideal) Variants.none B.c none B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 h2 X ⟨n, hk⟩]
    have hp : tripL_k0_t1 (F := Ideal) Variants.none B.c none B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 h2 X ⟨n, hk⟩
        = [⟨Rect.unit (s := S48x96x128) (k0_off2 ⟨n, hk⟩) S1x96x128.size (k0_off2_inb B.i ⟨n, hk⟩ h2),
            k0_pay304 (View.readAt (Elt Ideal) B.arg11.view (Rect.unit (s := S1x48x128x96) (k0_off1 ⟨n, hk⟩) S1x1x128x96.size (k0_off1_inb B.i ⟨n, hk⟩ h2)).toLoadRect X)⟩] := by
      unfold tripL_k0_t1 trip_k0_t1; rfl
    dsimp only
    rw [hp, List.singleton_append]
    by_cases e : h.val = n
    · refine (View.read_writes_cons_unit_of_mem _ f _ _ _ (ix3 h c y) (ix3 0 c y) (k0_off2_eq ⟨n, hk⟩) fun a => ?_).trans ?_
      · match a with
        | ⟨0, _⟩ => exact e
        | ⟨1, _⟩ => show c.val = 0 + c.val; omega
        | ⟨2, _⟩ => show y.val = 0 + y.val; omega
      · have hpay : k0_pay304 (F := Ideal) (View.readAt (Elt Ideal) B.arg11.view (Rect.unit (s := S1x48x128x96) (k0_off1 ⟨n, hk⟩) S1x1x128x96.size (k0_off1_inb B.i ⟨n, hk⟩ h2)).toLoadRect X) (ix3 0 c y)
            = View.readAt (Elt Ideal) B.arg11.view (Rect.unit (s := S1x48x128x96) (k0_off1 ⟨n, hk⟩) S1x1x128x96.size (k0_off1_inb B.i ⟨n, hk⟩ h2)).toLoadRect X (ix4 0 0 y c) := by
          pointwise [k0_pay304]
        refine hpay.trans ?_
        rw [View.readAt_apply]
        refine congrArg (B.arg11.view.read (Elt Ideal) X) (funext fun a => Fin.ext ?_)
        match a with
        | ⟨0, _⟩ => show k0_off1 ⟨n, hk⟩ 0 + 1 * 0 = 0; rw [k0_off1_eq]; rfl
        | ⟨1, _⟩ => show k0_off1 ⟨n, hk⟩ 1 + 1 * 0 = h.val; rw [k0_off1_eq]; exact e.symm
        | ⟨2, _⟩ => show k0_off1 ⟨n, hk⟩ 2 + 1 * y.val = y.val; rw [k0_off1_eq]; simp
        | ⟨3, _⟩ => show k0_off1 ⟨n, hk⟩ 3 + 1 * c.val = c.val; rw [k0_off1_eq]; simp
    · refine (View.read_writes_cons_unit_of_not_mem _ f _ _ _ (ix3 h c y) (k0_off2_eq ⟨n, hk⟩) 0 ?_).trans (ih (by omega) (by omega))
      show h.val < n ∨ n + 1 ≤ h.val
      omega

/-- The loop that stores the final state leaves it transposed in the output window. -/
theorem store_state (h3 : k0_cond3 B.i = 1#1) (X : BufTy.Contents (Elt Ideal) B.arg23.view.ty) (f : BufTy.Contents (Elt Ideal) B.arg16.view.ty) (n : ℕ) (hn : n ≤ 48)
    (h : Fin 48) (hh : h.val < n) (c : Fin 96) (y : Fin 128) :
    B.arg16.view.read (Elt Ideal) (B.arg16.view.writes (Elt Ideal) f
      (pb_k0_t3 (F := Ideal) Variants.none B.c none B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 h3 X n)) (ix4 0 h y c) = B.arg23.view.read (Elt Ideal) X (ix3 h c y) := by
  induction n with
  | zero => omega
  | succ n ih =>
    have hk : n < k0_t3_loop.trips := by rw [trips3]; omega
    rw [pb_k0_t3_succ (F := Ideal) Variants.none B.c none B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 h3 X ⟨n, hk⟩]
    have hp : tripL_k0_t3 (F := Ideal) Variants.none B.c none B.i B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.arg15 B.harg15 B.arg16 B.harg16 B.arg17 B.harg17 B.arg18 B.harg18 B.arg19 B.harg19 B.arg20 B.harg20 B.arg21 B.harg21 B.arg22 B.harg22 B.arg23 B.harg23 B.arg24 B.harg24 h3 X ⟨n, hk⟩
        = [⟨Rect.unit (s := S1x48x128x96) (k0_off10 ⟨n, hk⟩) S1x1x128x96.size (k0_off10_inb B.i ⟨n, hk⟩ h3),
            k0_pay2 (View.readAt (Elt Ideal) B.arg23.view (Rect.unit (s := S48x96x128) (k0_off9 ⟨n, hk⟩) S1x96x128.size (k0_off9_inb B.i ⟨n, hk⟩ h3)).toLoadRect X)⟩] := by
      unfold tripL_k0_t3 trip_k0_t3; rfl
    dsimp only
    rw [hp, List.singleton_append]
    by_cases e : h.val = n
    · refine (View.read_writes_cons_unit_of_mem _ f _ _ _ (ix4 0 h y c) (ix4 0 0 y c) (k0_off10_eq ⟨n, hk⟩) fun a => ?_).trans ?_
      · match a with
        | ⟨0, _⟩ => rfl
        | ⟨1, _⟩ => exact e
        | ⟨2, _⟩ => show y.val = 0 + y.val; omega
        | ⟨3, _⟩ => show c.val = 0 + c.val; omega
      · have hpay : k0_pay2 (F := Ideal) (View.readAt (Elt Ideal) B.arg23.view (Rect.unit (s := S48x96x128) (k0_off9 ⟨n, hk⟩) S1x96x128.size (k0_off9_inb B.i ⟨n, hk⟩ h3)).toLoadRect X) (ix4 0 0 y c)
            = View.readAt (Elt Ideal) B.arg23.view (Rect.unit (s := S48x96x128) (k0_off9 ⟨n, hk⟩) S1x96x128.size (k0_off9_inb B.i ⟨n, hk⟩ h3)).toLoadRect X (ix3 0 c y) := by
          pointwise [k0_pay2]
        refine hpay.trans ?_
        rw [View.readAt_apply]
        refine congrArg (B.arg23.view.read (Elt Ideal) X) (idx3_ext ?_ ?_ ?_)
        · show k0_off9 ⟨n, hk⟩ 0 + 1 * 0 = h.val; rw [k0_off9_eq]; exact e.symm
        · show k0_off9 ⟨n, hk⟩ 1 + 1 * c.val = c.val; rw [k0_off9_eq]; simp
        · show k0_off9 ⟨n, hk⟩ 2 + 1 * y.val = y.val; rw [k0_off9_eq]; simp
    · refine (View.read_writes_cons_unit_of_not_mem _ f _ _ _ (ix4 0 h y c) (k0_off10_eq ⟨n, hk⟩) 1 ?_).trans (ih (by omega) (by omega))
      show h.val < n ∨ n + 1 ≤ h.val
      omega

end Transposes

end Cert.KernelIdeal.Hand
-- ==== Proof.Kern.StageSpec.lean ====
/-
  What the scratch holds when the loop over groups of heads begins: the chunk's rows, one token every 52 rows, the decays
  accumulated along the tokens, the scales' columns, and the masks the chunk mathematics needs.
-/
module

public import proofs.«01_k».proof.Proof.Kern.LoopSpec

@[expose] public section

set_option maxRecDepth 16384

noncomputable section

namespace Cert.KernelIdeal.Hand

open Cert.KernelIdeal Cert.KernelIdeal.Gen Cert.Chunk
open Idealize.ShloMosaic Finset

/-! Stacks of pieces. -/

/-- The pieces `F (n-1), …, F 0` written over `tail`, the newest first. -/
def stackOn {s : Shape} {e : EltTy} (F : Fin 32 → View.Piece (Elt Ideal) s e) (tail : List (View.Piece (Elt Ideal) s e)) :
    (n : ℕ) → n ≤ 32 → List (View.Piece (Elt Ideal) s e)
  | 0, _ => tail
  | n + 1, h => F ⟨n, h⟩ :: stackOn F tail n (Nat.le_of_succ_le h)

variable {s : Shape} {e : EltTy} (m : Memref sig .tc .vmem s e) (f : BufTy.Contents (Elt Ideal) m.view.ty)
  (F : Fin 32 → View.Piece (Elt Ideal) s e) (tail : List (View.Piece (Elt Ideal) s e)) (y : s.Idx)

/-- An index no piece covers reads the contents below the stack. -/
theorem stackOn_miss (miss : ∀ t K, m.view.read (Elt Ideal) (m.view.writes (Elt Ideal) f (F t :: K)) y = m.view.read (Elt Ideal) (m.view.writes (Elt Ideal) f K) y)
    (n : ℕ) (hn : n ≤ 32) :
    m.view.read (Elt Ideal) (m.view.writes (Elt Ideal) f (stackOn F tail n hn)) y = m.view.read (Elt Ideal) (m.view.writes (Elt Ideal) f tail) y := by
  induction n with
  | zero => rfl
  | succ n ih => exact (miss _ _).trans (ih _)

/-- An index only piece `t` covers reads that piece. -/
theorem stackOn_hit (t : Fin 32) (x : Elt Ideal e) (hit : ∀ K, m.view.read (Elt Ideal) (m.view.writes (Elt Ideal) f (F t :: K)) y = x)
    (miss : ∀ t', t' ≠ t → ∀ K, m.view.read (Elt Ideal) (m.view.writes (Elt Ideal) f (F t' :: K)) y = m.view.read (Elt Ideal) (m.view.writes (Elt Ideal) f K) y)
    (n : ℕ) (hn : n ≤ 32) (ht : t.val < n) :
    m.view.read (Elt Ideal) (m.view.writes (Elt Ideal) f (stackOn F tail n hn)) y = x := by
  induction n with
  | zero => omega
  | succ n ih =>
    by_cases h : t.val = n
    · have e : (⟨n, hn⟩ : Fin 32) = t := Fin.ext h.symm
      show m.view.read (Elt Ideal) (m.view.writes (Elt Ideal) f (F ⟨n, hn⟩ :: _)) y = x
      rw [e]; exact hit _
    · exact (miss ⟨n, hn⟩ (fun e => h (by rw [← e])) _).trans (ih _ (by omega))

/-! The staging pieces: token `t`'s rows from row `52 (t + q)`. -/

section Rows

variable {R q Wd : ℕ} (hR : 52 * (31 + q) + 48 ≤ R) (hW : Wd ≤ 128)

include hR hW in
/-- A token's staged rows are in the scratch. -/
theorem rowInb (t : Fin 32) : ∀ a : Fin 2, (![52 * (t.val + q), 0] : Fin 2 → ℕ) a + (![48, Wd] : Fin 2 → ℕ) a ≤ (![R, 128] : Fin 2 → ℕ) a := by
  intro a
  match a with
  | ⟨0, _⟩ => show 52 * (t.val + q) + 48 ≤ R; have := t.isLt; omega
  | ⟨1, _⟩ => show 0 + Wd ≤ 128; omega

/-- Token `t`'s rows. -/
def rowPiece (hR : 52 * (31 + q) + 48 ≤ R) (hW : Wd ≤ 128) (w : Fin 32 → (⟨2, ![48, Wd]⟩ : Shape).Idx → EReal) (t : Fin 32) : View.Piece (Elt Ideal) ⟨2, ![R, 128]⟩ .f32 :=
  ⟨Rect.unit (s := ⟨2, ![R, 128]⟩) ![52 * (t.val + q), 0] ![48, Wd] (rowInb hR hW t), w t⟩

variable (M : Memref sig .tc .vmem ⟨2, ![R, 128]⟩ .f32) (f : BufTy.Contents (Elt Ideal) M.view.ty) (w : Fin 32 → (⟨2, ![48, Wd]⟩ : Shape).Idx → EReal)
  (tail : List (View.Piece (Elt Ideal) ⟨2, ![R, 128]⟩ .f32))

/-- A token's row read back on the lanes it was stored on. -/
theorem row_hit (t : Fin 32) (h : Fin 48) (l : Fin Wd) :
    M.view.read (Elt Ideal) (M.view.writes (Elt Ideal) f (stackOn (rowPiece (q := q) hR hW w) tail 32 le_rfl)) (ix2 ⟨52 * (t.val + q) + h.val, by omega⟩ ⟨l.val, by omega⟩)
      = w t (ix2 h l) := by
  refine stackOn_hit M f (rowPiece hR hW w) tail _ t _ (fun K => ?_) (fun t' ht K => ?_) 32 le_rfl t.isLt
  · refine View.read_writes_cons_unit_of_mem M.view f (rowInb hR hW t) (w t) K _ (ix2 h l) rfl fun a => ?_
    match a with
    | ⟨0, _⟩ => rfl
    | ⟨1, _⟩ => show l.val = 0 + l.val; omega
  · refine View.read_writes_cons_unit_of_not_mem M.view f (rowInb hR hW t') (w t') K _ rfl 0 ?_
    have : t'.val ≠ t.val := fun e => ht (Fin.ext e)
    show 52 * (t.val + q) + h.val < 52 * (t'.val + q) ∨ 52 * (t'.val + q) + 48 ≤ 52 * (t.val + q) + h.val
    omega

/-- The lanes behind are as they were. -/
theorem row_lane (i : Fin R) (l : Fin 128) (hl : Wd ≤ l.val) :
    M.view.read (Elt Ideal) (M.view.writes (Elt Ideal) f (stackOn (rowPiece (q := q) hR hW w) tail 32 le_rfl)) (ix2 i l)
      = M.view.read (Elt Ideal) (M.view.writes (Elt Ideal) f tail) (ix2 i l) := by
  refine stackOn_miss M f (rowPiece hR hW w) tail _ (fun t K => ?_) 32 le_rfl
  refine View.read_writes_cons_unit_of_not_mem M.view f (rowInb hR hW t) (w t) K _ rfl 1 ?_
  show l.val < 0 ∨ 0 + Wd ≤ l.val
  omega

/-- The rows before the first token's are as they were. -/
theorem row_before (i : Fin R) (l : Fin 128) (hi : i.val < 52 * q) :
    M.view.read (Elt Ideal) (M.view.writes (Elt Ideal) f (stackOn (rowPiece (q := q) hR hW w) tail 32 le_rfl)) (ix2 i l)
      = M.view.read (Elt Ideal) (M.view.writes (Elt Ideal) f tail) (ix2 i l) := by
  refine stackOn_miss M f (rowPiece hR hW w) tail _ (fun t K => ?_) 32 le_rfl
  refine View.read_writes_cons_unit_of_not_mem M.view f (rowInb hR hW t) (w t) K _ rfl 0 ?_
  show i.val < 52 * (t.val + q) ∨ 52 * (t.val + q) + 48 ≤ i.val
  omega

end Rows

/-! The rows that are stored. -/

/-- A token's row is in the block. -/
theorem tokInb (n : ℕ) (t : Fin 32) : ∀ a : Fin 4, (![0, t.val, 0, 0] : Fin 4 → ℕ) a + (![1, 1, 48, n] : Fin 4 → ℕ) a ≤ (![1, 32, 48, n] : Fin 4 → ℕ) a := by
  intro a
  have := t.isLt
  match a with
  | ⟨0, _⟩ => exact Nat.le_refl 1
  | ⟨1, _⟩ => show t.val + 1 ≤ 32; omega
  | ⟨2, _⟩ => exact Nat.le_refl 48
  | ⟨3, _⟩ => show 0 + n ≤ n; omega

/-- Token `t`'s rows as they are loaded. -/
def tok {n : ℕ} {e : EltTy} (m : Memref sig .tc .vmem ⟨4, ![1, 32, 48, n]⟩ e) (f : BufTy.Contents (Elt Ideal) m.view.ty) (t : Fin 32) :
    (⟨4, ![1, 1, 48, n]⟩ : Shape).Idx → Elt Ideal e :=
  View.readAt (Elt Ideal) m.view (Rect.unit (s := ⟨4, ![1, 32, 48, n]⟩) ![0, t.val, 0, 0] ![1, 1, 48, n] (tokInb n t)).toLoadRect f

/-- A token's row, read. -/
theorem tok_val {n : ℕ} {e : EltTy} (m : Memref sig .tc .vmem ⟨4, ![1, 32, 48, n]⟩ e) (f : BufTy.Contents (Elt Ideal) m.view.ty) (t : Fin 32) (h : Fin 48) (c : Fin n) :
    tok m f t (ix4 0 0 h c) = m.view.read (Elt Ideal) f (ix4 0 t h c) := by
  unfold tok
  rw [View.readAt_apply]
  refine congrArg (m.view.read (Elt Ideal) f) (funext fun a => Fin.ext ?_)
  match a with
  | ⟨0, _⟩ => rfl
  | ⟨1, _⟩ => show t.val + 1 * 0 = t.val; omega
  | ⟨2, _⟩ => show 0 + 1 * h.val = h.val; omega
  | ⟨3, _⟩ => show 0 + 1 * c.val = c.val; omega

/-- fp8 codes of a token on the key lanes. -/
def row8 (m : Memref sig .tc .vmem S1x32x48x96 .fp8e4m3) (f : BufTy.Contents (Elt Ideal) m.view.ty) (t : Fin 32) : FVec Ideal S48x96 .f32 := k0_pay307 (tok (n := 96) m f t)
/-- fp8 codes of a token's values. -/
def row8v (m : Memref sig .tc .vmem S1x32x48x128 .fp8e4m3) (f : BufTy.Contents (Elt Ideal) m.view.ty) (t : Fin 32) : FVec Ideal S48x128 .f32 :=
  k0_pay543 (k0_pay542 (tok (n := 128) m f t))
/-- A bf16 row of a token. -/
def row16 (m : Memref sig .tc .vmem S1x32x48x96 .bf16) (f : BufTy.Contents (Elt Ideal) m.view.ty) (t : Fin 32) : FVec Ideal S48x96 .f32 := k0_pay544 (tok (n := 96) m f t)
/-- The decay accumulated to token `n`, in powers of two. -/
def gAcc (m : Memref sig .tc .vmem S1x32x48x96 .f32) (f : BufTy.Contents (Elt Ideal) m.view.ty) : (n : ℕ) → n < 32 → FVec Ideal S48x96 .f32
  | 0, h => k0_pay305 (tok (n := 96) m f ⟨0, h⟩)
  | n + 1, h => k0_pay312 (gAcc m f n (Nat.lt_of_succ_lt h)) (tok (n := 96) m f ⟨n + 1, h⟩)
/-- … as it is stored. -/
def rowG (m : Memref sig .tc .vmem S1x32x48x96 .f32) (f : BufTy.Contents (Elt Ideal) m.view.ty) (t : Fin 32) : FVec Ideal S48x96 .f32 :=
  shapeCast S48x96 (gAcc m f t.val t.isLt) shapeCasts_S48x96_S48x96

/-- A token's codes as f32, -/
theorem row8_val (m : Memref sig .tc .vmem S1x32x48x96 .fp8e4m3) (f : BufTy.Contents (Elt Ideal) m.view.ty) (t : Fin 32) (h : Fin 48) (c : Fin 96) :
    row8 m f t (ix2 h c) = m.view.read (Elt Ideal) f (ix4 0 t h c) := by
  rw [← tok_val (n := 96) m f t h c]
  pointwise [row8, k0_pay307]

/-- the codes of its values, -/
theorem row8v_val (m : Memref sig .tc .vmem S1x32x48x128 .fp8e4m3) (f : BufTy.Contents (Elt Ideal) m.view.ty) (t : Fin 32) (h : Fin 48) (c : Fin 128) :
    row8v m f t (ix2 h c) = m.view.read (Elt Ideal) f (ix4 0 t h c) := by
  rw [← tok_val (n := 128) m f t h c]
  pointwise [row8v, k0_pay543, k0_pay542]

/-- and a bf16 row as f32: the numbers they were. -/
theorem row16_val (m : Memref sig .tc .vmem S1x32x48x96 .bf16) (f : BufTy.Contents (Elt Ideal) m.view.ty) (t : Fin 32) (h : Fin 48) (c : Fin 96) :
    row16 m f t (ix2 h c) = m.view.read (Elt Ideal) f (ix4 0 t h c) := by
  rw [← tok_val (n := 96) m f t h c]
  pointwise [row16, k0_pay544]

/-- The named constant is log2 e. -/
theorem log2e_named : (Named.named κ "log2e" 0x3FB8AA3B#32 : Ideal .f32) = ((L2E : ℝ) : EReal) :=
  IdealRules.named_const.ideal_named_scalar _ _ _ _ rfl

/-- The running sum of scaled logarithms. -/
theorem gAcc_val (m : Memref sig .tc .vmem S1x32x48x96 .f32) (f : BufTy.Contents (Elt Ideal) m.view.ty) (w : ℕ → Fin 96 → ℝ) (h : Fin 48)
    (hw : ∀ (t : Fin 32) c, m.view.read (Elt Ideal) f (ix4 0 t h c) = (w t c : EReal)) (n : ℕ) (hn : n < 32) (c : Fin 96) :
    gAcc m f n hn (ix2 h c) = (((∑ j ∈ range (n + 1), w j c) * L2E : ℝ) : EReal) := by
  induction n with
  | zero =>
    have e := (tok_val (n := 96) m f ⟨0, hn⟩ h c).trans (hw ⟨0, hn⟩ c)
    have : gAcc m f 0 hn (ix2 h c) = 0 + tok (n := 96) m f ⟨0, hn⟩ (ix4 0 0 h c) * ((L2E : ℝ) : EReal) := by
      unfold gAcc
      rw [← log2e_named, ← Ideal.ofBits_zero_f32]
      pointwise [k0_pay305]
    rw [this, e]
    simp
  | succ n ih =>
    have e := (tok_val (n := 96) m f ⟨n + 1, hn⟩ h c).trans (hw ⟨n + 1, hn⟩ c)
    have : gAcc m f (n + 1) hn (ix2 h c) = gAcc m f n (Nat.lt_of_succ_lt hn) (ix2 h c) + tok (n := 96) m f ⟨n + 1, hn⟩ (ix4 0 0 h c) * ((L2E : ℝ) : EReal) := by
      rw [← log2e_named]
      show k0_pay312 _ _ (ix2 h c) = _
      pointwise [k0_pay312]
    rw [this, e, ih, sum_range_succ _ (n + 1), add_mul, EReal.coe_add, EReal.coe_mul (w (n + 1) c)]

/-! The masks and lane numbers the loop's trips share. -/

def triC : IVec S64x128 1 := k0_pay550
def tailC : IVec S64x128 1 := k0_pay551 (iota .tc S64x128 32 [1] iota_S64x128_d1_w32) 96#32
def laneC : IVec S8x128 32 := iota .tc S8x128 32 [1] iota_S8x128_d1_w32
def rowC : IVec S32x128 32 := iota .tc S32x128 32 [0] iota_S32x128_d0_w32

/-- The kernel's masks are the strict and inclusive lower triangles and the last lanes. -/
theorem masksC : Masks triC tailC where
  triA := by decide +kernel
  triAk := by decide +kernel
  triR := by decide +kernel
  triRk := by decide +kernel
  tailA := by decide +kernel
  tailV := by decide +kernel

/-- The lane numbers. -/
theorem laneC_val (q : Fin 8) (l : Fin 128) : laneC (ix2 q l) = BitVec.ofNat 32 l.val := by
  pointwise [laneC]

/-- The comparison that is true on the packed diagonals. -/
theorem eye_bit : ∀ (t : Fin 32) (l : Fin 128),
    cmpi .eq rowC (select (andi (xori (cmpi .slt k0_pay552 (broadcast S32x128 0#32)) (broadcastTo S32x128 (broadcast S32x128 (Scalar.cmpi .slt 32#32 0#32)) broadcasts_S32x128_S32x128)) k0_pay553)
      (addi k0_pay552 (broadcast S32x128 32#32)) k0_pay552) (ix2 t l) = if t.val = l.val % 32 then 1#1 else 0#1 := by decide +kernel

/-- Four identities side by side. -/
theorem eyeC_val (t : Fin 32) (l : Fin 128) :
    k0_pay1 (F := Ideal) rowC 32#32 k0_pay552 k0_pay553 (ix2 t l) = (((if t.val = l.val % 32 then 1 else 0 : ℝ)) : EReal) := by
  have h := eye_bit t l
  have e : k0_pay1 (F := Ideal) rowC 32#32 k0_pay552 k0_pay553 (ix2 t l)
      = Scalar.select (cmpi .eq rowC (select (andi (xori (cmpi .slt k0_pay552 (broadcast S32x128 0#32)) (broadcastTo S32x128 (broadcast S32x128 (Scalar.cmpi .slt 32#32 0#32)) broadcasts_S32x128_S32x128)) k0_pay553)
        (addi k0_pay552 (broadcast S32x128 32#32)) k0_pay552) (ix2 t l)) (Ideal.ofBits .f32 0x3F800000#32) (Ideal.ofBits .f32 0x00000000#32) := rfl
  rw [e, h, Ideal.ofBits_one_f32, Ideal.ofBits_zero_f32]
  split
  · rw [sel1]; simp
  · rw [sel0]; simp

end Cert.KernelIdeal.Hand
-- ==== Proof.Kern.PointSpec.lean ====
/-
  One grid point: what the scratch holds when the loop over groups of heads begins, and what the point leaves.
-/
module

public import proofs.«01_k».proof.Proof.Kern.StageSpec

@[expose] public section

set_option maxRecDepth 16384
set_option maxHeartbeats 4000000

noncomputable section

namespace Cert.KernelIdeal.Hand

open Cert.KernelIdeal Cert.KernelIdeal.Gen Cert.Chunk
open Idealize.ShloMosaic Finset

/-! The scratch at the loop's entry. -/

/-- The lanes behind the keys, and the first token's row of accumulated decays, hold zero. -/
structure Zeros (g : S1716x128.Idx → EReal) (r k a b : S1664x128.Idx → EReal) : Prop where
  g0 : ∀ (h : Fin 48) l, g (ix2 ⟨h.val, by omega⟩ l) = 0
  gz : ∀ (i : Fin 1716) (l : Fin 128), 96 ≤ l.val → g (ix2 i l) = 0
  rz : ∀ (i : Fin 1664) (l : Fin 128), 96 ≤ l.val → r (ix2 i l) = 0
  kz : ∀ (i : Fin 1664) (l : Fin 128), 96 ≤ l.val → k (ix2 i l) = 0
  az : ∀ (i : Fin 1664) (l : Fin 128), 96 ≤ l.val → a (ix2 i l) = 0
  bz : ∀ (i : Fin 1664) (l : Fin 128), 96 ≤ l.val → b (ix2 i l) = 0

/-- The blocks of a chunk are the real numbers `D`. -/
structure Inp (D : ChunkR) (x2 : S1x32x48x96.Idx → EReal) (x3 : S1x32x48.Idx → EReal) (x4 : S1x32x48x96.Idx → EReal) (x5 : S1x32x48.Idx → EReal)
    (x6 : S1x32x48x128.Idx → EReal) (x7 : S1x32x48.Idx → EReal) (x8 x9 x10 : S1x32x48x96.Idx → EReal) (x12 : S48x128.Idx → EReal) : Prop where
  ir : ∀ (t : Fin 32) (h : Fin 48) c, x2 (ix4 0 t h c) = (D.r h t c : EReal)
  irs : ∀ (t : Fin 32) (h : Fin 48), x3 (ix3 0 t h) = (D.rs h t : EReal)
  ik : ∀ (t : Fin 32) (h : Fin 48) c, x4 (ix4 0 t h c) = (D.k h t c : EReal)
  iks : ∀ (t : Fin 32) (h : Fin 48), x5 (ix3 0 t h) = (D.ks h t : EReal)
  iv : ∀ (t : Fin 32) (h : Fin 48) c, x6 (ix4 0 t h c) = (D.v h t c : EReal)
  ivs : ∀ (t : Fin 32) (h : Fin 48), x7 (ix3 0 t h) = (D.vs h t : EReal)
  ia : ∀ (t : Fin 32) (h : Fin 48) c, x8 (ix4 0 t h c) = (D.a h t c : EReal)
  ib : ∀ (t : Fin 32) (h : Fin 48) c, x9 (ix4 0 t h c) = (D.b h t c : EReal)
  iw : ∀ (t : Fin 32) (h : Fin 48) c, x10 (ix4 0 t h c) = (D.w h t c : EReal)
  irk : ∀ (h : Fin 48) c, x12 (ix2 h (kl c)) = (D.rk h c : EReal)
  irkz : ∀ (h : Fin 48) (l : Fin 128), 96 ≤ l.val → x12 (ix2 h l) = 0

/-- One grid point's memory: what the inputs hold, what the scratch holds below the staged rows, what the output and the state hold
    when the loop over groups begins. -/
structure BodyIn extends BodyRefs where
  f2 : BufTy.Contents (Elt Ideal) arg2.view.ty
  f3 : BufTy.Contents (Elt Ideal) arg3.view.ty
  f4 : BufTy.Contents (Elt Ideal) arg4.view.ty
  f5 : BufTy.Contents (Elt Ideal) arg5.view.ty
  f6 : BufTy.Contents (Elt Ideal) arg6.view.ty
  f7 : BufTy.Contents (Elt Ideal) arg7.view.ty
  f8 : BufTy.Contents (Elt Ideal) arg8.view.ty
  f9 : BufTy.Contents (Elt Ideal) arg9.view.ty
  f10 : BufTy.Contents (Elt Ideal) arg10.view.ty
  f11 : BufTy.Contents (Elt Ideal) arg11.view.ty
  f12 : BufTy.Contents (Elt Ideal) arg12.view.ty
  f13 : BufTy.Contents (Elt Ideal) arg13.view.ty
  f14 : BufTy.Contents (Elt Ideal) arg14.view.ty
  e15 : BufTy.Contents (Elt Ideal) arg15.view.ty
  e17 : BufTy.Contents (Elt Ideal) arg17.view.ty
  e18 : BufTy.Contents (Elt Ideal) arg18.view.ty
  e19 : BufTy.Contents (Elt Ideal) arg19.view.ty
  e20 : BufTy.Contents (Elt Ideal) arg20.view.ty
  e21 : BufTy.Contents (Elt Ideal) arg21.view.ty
  e22 : BufTy.Contents (Elt Ideal) arg22.view.ty
  e23 : BufTy.Contents (Elt Ideal) arg23.view.ty
  e24 : BufTy.Contents (Elt Ideal) arg24.view.ty
  T17 : List (View.Piece (Elt Ideal) S1716x128 .f32)
  T18 : List (View.Piece (Elt Ideal) S1664x128 .f32)
  T19 : List (View.Piece (Elt Ideal) S1664x128 .f32)
  T21 : List (View.Piece (Elt Ideal) S1664x128 .f32)
  T22 : List (View.Piece (Elt Ideal) S1664x128 .f32)

/-- A scale's block as it is loaded. -/
def scl (m : Memref sig .tc .vmem S1x32x48 .f32) (f : BufTy.Contents (Elt Ideal) m.view.ty) : Vec Ideal S1x32x48 .f32 :=
  View.readAt (Elt Ideal) m.view (Rect.unit (s := S1x32x48) ![0, 0, 0] S1x32x48.size inb_S1x32x48_S1x32x48_0_0_0).toLoadRect f

/-- The block of scales, read. -/
theorem scl_val (m : Memref sig .tc .vmem S1x32x48 .f32) (f : BufTy.Contents (Elt Ideal) m.view.ty) (t : Fin 32) (h : Fin 48) :
    scl m f (ix3 0 t h) = m.view.read (Elt Ideal) f (ix3 0 t h) := by
  unfold scl
  rw [View.readAt_apply]
  refine congrArg (m.view.read (Elt Ideal) f) (funext fun a => Fin.ext ?_)
  match a with
  | ⟨0, _⟩ => rfl
  | ⟨1, _⟩ => show 0 + 1 * t.val = t.val; omega
  | ⟨2, _⟩ => show 0 + 1 * h.val = h.val; omega

/-- The scales of `r` in the lanes below 48. -/
theorem rsA_val (x : Vec Ideal S1x32x48 .f32) (t : Fin 32) (h : Fin 48) : k0_pay546 x (ix2 t ⟨h.val, by omega⟩) = x (ix3 0 t h) := by
  have hh := h.isLt
  pointwise [k0_pay546]

/-- The product of the scales of `k` and `v` there. -/
theorem kvA_val (x y : Vec Ideal S1x32x48 .f32) (t : Fin 32) (h : Fin 48) :
    k0_pay547 x y (ix2 t ⟨h.val, by omega⟩) = x (ix3 0 t h) * y (ix3 0 t h) := by
  have hh := h.isLt
  pointwise [k0_pay547]

/-- That product with tokens in lanes and heads in rows. -/
theorem kvM_val (x y : Vec Ideal S1x32x48 .f32) (t : Fin 32) (h : Fin 48) :
    k0_pay549 (k0_pay548 x y) (ix2 ⟨h.val, by omega⟩ ⟨96 + t.val, by omega⟩) = x (ix3 0 t h) * y (ix3 0 t h) := by
  have hh := h.isLt
  rw [← kvA_val]
  pointwise [k0_pay549, k0_pay548]

variable (Q : BodyIn)

def BodyIn.c17 : BufTy.Contents (Elt Ideal) Q.arg17.view.ty :=
  Q.arg17.view.writes (Elt Ideal) Q.e17 (stackOn (rowPiece (R := 1716) (q := 1) (Wd := 96) (by omega) (by omega) (rowG Q.arg10 Q.f10)) Q.T17 32 le_rfl)
def BodyIn.c18 : BufTy.Contents (Elt Ideal) Q.arg18.view.ty :=
  Q.arg18.view.writes (Elt Ideal) Q.e18 (stackOn (rowPiece (R := 1664) (q := 0) (Wd := 96) (by omega) (by omega) (row8 Q.arg2 Q.f2)) Q.T18 32 le_rfl)
def BodyIn.c19 : BufTy.Contents (Elt Ideal) Q.arg19.view.ty :=
  Q.arg19.view.writes (Elt Ideal) Q.e19 (stackOn (rowPiece (R := 1664) (q := 0) (Wd := 96) (by omega) (by omega) (row8 Q.arg4 Q.f4)) Q.T19 32 le_rfl)
def BodyIn.c20 : BufTy.Contents (Elt Ideal) Q.arg20.view.ty :=
  Q.arg20.view.writes (Elt Ideal) Q.e20 (stackOn (rowPiece (R := 1664) (q := 0) (Wd := 128) (by omega) (by omega) (row8v Q.arg6 Q.f6)) [] 32 le_rfl)
def BodyIn.c21 : BufTy.Contents (Elt Ideal) Q.arg21.view.ty :=
  Q.arg21.view.writes (Elt Ideal) Q.e21 (stackOn (rowPiece (R := 1664) (q := 0) (Wd := 96) (by omega) (by omega) (row16 Q.arg8 Q.f8)) Q.T21 32 le_rfl)
def BodyIn.c22 : BufTy.Contents (Elt Ideal) Q.arg22.view.ty :=
  Q.arg22.view.writes (Elt Ideal) Q.e22 (stackOn (rowPiece (R := 1664) (q := 0) (Wd := 96) (by omega) (by omega) (row16 Q.arg9 Q.f9)) Q.T22 32 le_rfl)
def BodyIn.c24 : BufTy.Contents (Elt Ideal) Q.arg24.view.ty :=
  Q.arg24.view.writes (Elt Ideal) Q.e24 [⟨Rect.unit (s := S128x128) ![0, 0] S128x128.size inb_S128x128_S128x128_0_0, k0_pay549 (k0_pay548 (scl Q.arg5 Q.f5) (scl Q.arg7 Q.f7))⟩]

/-- The loop over groups of heads as the grid point enters it. -/
def BodyIn.loopIn : LoopIn where
  toBodyRefs := Q.toBodyRefs
  v1228 := k0_pay546 (scl Q.arg3 Q.f3)
  v1235 := k0_pay547 (scl Q.arg5 Q.f5) (scl Q.arg7 Q.f7)
  v1282 := triC
  v1284 := tailC
  v1285 := laneC
  v1286 := rowC
  v1289 := 32#32
  v1291 := k0_pay552
  v1293 := k0_pay553
  X_arg12 := Q.f12
  X_arg13 := Q.f13
  X_arg14 := Q.f14
  X_arg17 := Q.c17
  X_arg18 := Q.c18
  X_arg19 := Q.c19
  X_arg20 := Q.c20
  X_arg21 := Q.c21
  X_arg22 := Q.c22
  X_arg24 := Q.c24
  G_arg15 := Q.e15
  G_arg23 := Q.e23

/-- The scratch below the staged rows is zero where the kernel relies on it. -/
def BodyIn.Below : Prop :=
  Zeros (Q.arg17.view.read (Elt Ideal) (Q.arg17.view.writes (Elt Ideal) Q.e17 Q.T17)) (Q.arg18.view.read (Elt Ideal) (Q.arg18.view.writes (Elt Ideal) Q.e18 Q.T18))
    (Q.arg19.view.read (Elt Ideal) (Q.arg19.view.writes (Elt Ideal) Q.e19 Q.T19)) (Q.arg21.view.read (Elt Ideal) (Q.arg21.view.writes (Elt Ideal) Q.e21 Q.T21))
    (Q.arg22.view.read (Elt Ideal) (Q.arg22.view.writes (Elt Ideal) Q.e22 Q.T22))

/-- The inputs of the grid point are the real numbers `D`. -/
def BodyIn.Is (D : ChunkR) : Prop :=
  Inp D (Q.arg2.view.read (Elt Ideal) Q.f2) (Q.arg3.view.read (Elt Ideal) Q.f3) (Q.arg4.view.read (Elt Ideal) Q.f4) (Q.arg5.view.read (Elt Ideal) Q.f5)
    (Q.arg6.view.read (Elt Ideal) Q.f6) (Q.arg7.view.read (Elt Ideal) Q.f7) (Q.arg8.view.read (Elt Ideal) Q.f8) (Q.arg9.view.read (Elt Ideal) Q.f9)
    (Q.arg10.view.read (Elt Ideal) Q.f10) (Q.arg12.view.read (Elt Ideal) Q.f12)

variable {Q} {D : ChunkR}

/-- The lanes behind the keys are still zero after the staging. -/
theorem BodyIn.zeros_after (Z : Q.Below) : Zeros (Q.arg17.view.read (Elt Ideal) Q.c17) (Q.arg18.view.read (Elt Ideal) Q.c18) (Q.arg19.view.read (Elt Ideal) Q.c19)
    (Q.arg21.view.read (Elt Ideal) Q.c21) (Q.arg22.view.read (Elt Ideal) Q.c22) where
  g0 h l := (row_before (q := 1) _ _ Q.arg17 Q.e17 (rowG Q.arg10 Q.f10) Q.T17 _ l (by show h.val < 52 * 1; omega)).trans (Z.g0 h l)
  gz i l hl := (row_lane (q := 1) _ _ Q.arg17 Q.e17 (rowG Q.arg10 Q.f10) Q.T17 i l hl).trans (Z.gz i l hl)
  rz i l hl := (row_lane (q := 0) _ _ Q.arg18 Q.e18 (row8 Q.arg2 Q.f2) Q.T18 i l hl).trans (Z.rz i l hl)
  kz i l hl := (row_lane (q := 0) _ _ Q.arg19 Q.e19 (row8 Q.arg4 Q.f4) Q.T19 i l hl).trans (Z.kz i l hl)
  az i l hl := (row_lane (q := 0) _ _ Q.arg21 Q.e21 (row16 Q.arg8 Q.f8) Q.T21 i l hl).trans (Z.az i l hl)
  bz i l hl := (row_lane (q := 0) _ _ Q.arg22 Q.e22 (row16 Q.arg9 Q.f9) Q.T22 i l hl).trans (Z.bz i l hl)

/-- The scratch at the loop's entry. -/
theorem BodyIn.staged (Z : Q.Below) (I : Q.Is D) :
    Staged D (Q.arg17.view.read (Elt Ideal) Q.c17) (Q.arg18.view.read (Elt Ideal) Q.c18) (Q.arg19.view.read (Elt Ideal) Q.c19)
      (Q.arg20.view.read (Elt Ideal) Q.c20) (Q.arg21.view.read (Elt Ideal) Q.c21) (Q.arg22.view.read (Elt Ideal) Q.c22)
      (Q.arg24.view.read (Elt Ideal) Q.c24) (k0_pay546 (scl Q.arg3 Q.f3)) (k0_pay547 (scl Q.arg5 Q.f5) (scl Q.arg7 Q.f7)) (Q.arg12.view.read (Elt Ideal) Q.f12) where
  g0 h l := (BodyIn.zeros_after Z).g0 h l
  gk t h c := by
    refine (row_hit (q := 1) _ _ Q.arg17 Q.e17 (rowG Q.arg10 Q.f10) Q.T17 t h c).trans ?_
    refine Eq.trans ?_ (gAcc_val Q.arg10 Q.f10 (D.w h) h (fun t c => I.iw t h c) t.val t.isLt c)
    unfold rowG
    pointwise
  gz t h j := (BodyIn.zeros_after Z).gz _ _ (by show 96 ≤ 96 + j.val; omega)
  rr t h c := (row_hit (q := 0) _ _ Q.arg18 Q.e18 (row8 Q.arg2 Q.f2) Q.T18 t h c).trans ((row8_val _ _ t h c).trans (I.ir t h c))
  rz t h j := (BodyIn.zeros_after Z).rz _ _ (by show 96 ≤ 96 + j.val; omega)
  kk t h c := (row_hit (q := 0) _ _ Q.arg19 Q.e19 (row8 Q.arg4 Q.f4) Q.T19 t h c).trans ((row8_val _ _ t h c).trans (I.ik t h c))
  kz t h j := (BodyIn.zeros_after Z).kz _ _ (by show 96 ≤ 96 + j.val; omega)
  vv t h y := (row_hit (q := 0) _ _ Q.arg20 Q.e20 (row8v Q.arg6 Q.f6) [] t h y).trans ((row8v_val _ _ t h y).trans (I.iv t h y))
  aa t h c := (row_hit (q := 0) _ _ Q.arg21 Q.e21 (row16 Q.arg8 Q.f8) Q.T21 t h c).trans ((row16_val _ _ t h c).trans (I.ia t h c))
  az t h j := (BodyIn.zeros_after Z).az _ _ (by show 96 ≤ 96 + j.val; omega)
  bb t h c := (row_hit (q := 0) _ _ Q.arg22 Q.e22 (row16 Q.arg9 Q.f9) Q.T22 t h c).trans ((row16_val _ _ t h c).trans (I.ib t h c))
  bz t h j := (BodyIn.zeros_after Z).bz _ _ (by show 96 ≤ 96 + j.val; omega)
  kvm h j := by
    refine (View.read_writes_cons_unit_of_mem Q.arg24.view Q.e24 _ _ [] _ (ix2 ⟨h.val, by omega⟩ ⟨96 + j.val, by omega⟩) rfl fun a => ?_).trans ?_
    · match a with
      | ⟨0, _⟩ => show h.val = 0 + h.val; omega
      | ⟨1, _⟩ => show 96 + j.val = 0 + (96 + j.val); omega
    · rw [kvM_val, scl_val, scl_val, I.iks, I.ivs, EReal.coe_mul]
  rsc t h := by rw [rsA_val, scl_val]; exact I.irs t h
  kvc t h := by rw [kvA_val, scl_val, scl_val, I.iks, I.ivs, EReal.coe_mul]
  rkk h c := I.irk h c
  rkz h j := I.irkz h _ (by show 96 ≤ 96 + j.val; omega)

/-- What a grid point leaves: the chunk's outputs, the state after the chunk, the zeros. -/
structure PointPost (D : ChunkR) (s0 : Fin 48 → Fin 96 → Fin 128 → ℝ) (lnw lnb : Fin 48 → Fin 128 → EReal) (o15 : S1x32x6144.Idx → EReal)
    (g : S1716x128.Idx → EReal) (r k a b : S1664x128.Idx → EReal) (s23 : S48x96x128.Idx → EReal) : Prop where
  zeros : Zeros g r k a b
  state : ∀ h c y, s23 (ix3 h c y) = ((D.state s0 32 h c y : ℝ) : EReal)
  out : ∀ h (t : Fin 32) y, o15 (ix3 0 t (col h y)) = D.out s0 lnw lnb t.val h y

/-- A grid point from the zeros, the chunk's real numbers and the state before the chunk. -/
theorem BodyIn.post {s0 : Fin 48 → Fin 96 → Fin 128 → ℝ} (Z : Q.Below) (I : Q.Is D)
    (S : ∀ h c y, Q.arg23.view.read (Elt Ideal) Q.e23 (ix3 h c y) = (s0 h c y : EReal)) :
    PointPost D s0 (fun h y => Q.arg13.view.read (Elt Ideal) Q.f13 (ix2 h y)) (fun h y => Q.arg14.view.read (Elt Ideal) Q.f14 (ix2 h y))
      (Q.arg15.view.read (Elt Ideal) (Q.arg15.view.writes (Elt Ideal) Q.e15 (Q.loopIn.pb k0_t2_loop.trips).1))
      (Q.arg17.view.read (Elt Ideal) Q.c17) (Q.arg18.view.read (Elt Ideal) Q.c18) (Q.arg19.view.read (Elt Ideal) Q.c19)
      (Q.arg21.view.read (Elt Ideal) Q.c21) (Q.arg22.view.read (Elt Ideal) Q.c22)
      (Q.arg23.view.read (Elt Ideal) (Q.arg23.view.writes (Elt Ideal) Q.e23 (Q.loopIn.pb k0_t2_loop.trips).2)) := by
  have R : Q.loopIn.Ready D s0 := by
    constructor
    · exact BodyIn.staged Z I
    · exact masksC
    · exact laneC_val
    · exact eyeC_val
    · exact S
  have A := LoopIn.after R 12 le_rfl
  rw [trips2]
  exact ⟨BodyIn.zeros_after Z, fun h c y => (A.1 h c y).trans (if_pos (by omega)), fun h t y => A.2 h t y (by omega)⟩

/-- A buffer whose only piece is a whole one of zeros reads zero everywhere. -/
theorem fresh_zero {R : ℕ} (M : Memref sig .tc .vmem ⟨2, ![R, 128]⟩ .f32) (f : BufTy.Contents (Elt Ideal) M.view.ty)
    (inb : ∀ a, (![0, 0] : Fin 2 → ℕ) a + (![R, 128] : Fin 2 → ℕ) a ≤ (![R, 128] : Fin 2 → ℕ) a) (p : (⟨2, ![R, 128]⟩ : Shape).Idx → EReal)
    (hp : ∀ x, p x = 0) (y : (⟨2, ![R, 128]⟩ : Shape).Idx) :
    M.view.read (Elt Ideal) (M.view.writes (Elt Ideal) f [⟨Rect.unit (s := ⟨2, ![R, 128]⟩) ![0, 0] ![R, 128] inb, p⟩]) y = 0 :=
  (View.read_writes_cons_unit_of_mem M.view f inb p [] y y rfl fun a => by
    match a with
    | ⟨0, _⟩ => exact (Nat.zero_add _).symm
    | ⟨1, _⟩ => exact (Nat.zero_add _).symm).trans (hp y)

/-- Scratch just filled with zeros. -/
theorem zeros_fresh {m17 : Memref sig .tc .vmem S1716x128 .f32} (f17 : BufTy.Contents (Elt Ideal) m17.view.ty) {m18 : Memref sig .tc .vmem S1664x128 .f32} (f18 : BufTy.Contents (Elt Ideal) m18.view.ty) {m19 : Memref sig .tc .vmem S1664x128 .f32} (f19 : BufTy.Contents (Elt Ideal) m19.view.ty) {m21 : Memref sig .tc .vmem S1664x128 .f32} (f21 : BufTy.Contents (Elt Ideal) m21.view.ty) {m22 : Memref sig .tc .vmem S1664x128 .f32} (f22 : BufTy.Contents (Elt Ideal) m22.view.ty) :
    Zeros (m17.view.read (Elt Ideal) (m17.view.writes (Elt Ideal) f17 [⟨Rect.unit (s := S1716x128) ![0, 0] S1716x128.size inb_S1716x128_S1716x128_0_0, k0_pay299 (F := Ideal)⟩]))
      (m18.view.read (Elt Ideal) (m18.view.writes (Elt Ideal) f18 [⟨Rect.unit (s := S1664x128) ![0, 0] S1664x128.size inb_S1664x128_S1664x128_0_0, k0_pay300 (F := Ideal)⟩]))
      (m19.view.read (Elt Ideal) (m19.view.writes (Elt Ideal) f19 [⟨Rect.unit (s := S1664x128) ![0, 0] S1664x128.size inb_S1664x128_S1664x128_0_0, k0_pay301 (F := Ideal)⟩]))
      (m21.view.read (Elt Ideal) (m21.view.writes (Elt Ideal) f21 [⟨Rect.unit (s := S1664x128) ![0, 0] S1664x128.size inb_S1664x128_S1664x128_0_0, k0_pay302 (F := Ideal)⟩]))
      (m22.view.read (Elt Ideal) (m22.view.writes (Elt Ideal) f22 [⟨Rect.unit (s := S1664x128) ![0, 0] S1664x128.size inb_S1664x128_S1664x128_0_0, k0_pay303 (F := Ideal)⟩])) where
  g0 h l := fresh_zero _ _ _ _ (fun x => Ideal.ofBits_zero_f32) _
  gz i l _ := fresh_zero _ _ _ _ (fun x => Ideal.ofBits_zero_f32) _
  rz i l _ := fresh_zero _ _ _ _ (fun x => Ideal.ofBits_zero_f32) _
  kz i l _ := fresh_zero _ _ _ _ (fun x => Ideal.ofBits_zero_f32) _
  az i l _ := fresh_zero _ _ _ _ (fun x => Ideal.ofBits_zero_f32) _
  bz i l _ := fresh_zero _ _ _ _ (fun x => Ideal.ofBits_zero_f32) _

end Cert.KernelIdeal.Hand
-- ==== Proof.Kern.Compose.lean ====
/-
  Running the token recurrence for `N` tokens and then on the tokens after them is running it through: what lets the
  chunks of a batch follow one another.
-/
module

public import proofs.«01_k».proof.Proof.Kern.TripSpec

@[expose] public section

noncomputable section

namespace Cert.Chunk

open Finset

variable {n : ℕ} (s0 : Fin n → ℝ) (e a b k : ℕ → Fin n → ℝ) (v : ℕ → ℝ)

/-- The state after `N + t` tokens is the state after `t` more tokens from the state after `N`. -/
theorem st_add (N t : ℕ) : st s0 e a b k v (N + t)
    = st (st s0 e a b k v N) (fun j => e (N + j)) (fun j => a (N + j)) (fun j => b (N + j)) (fun j => k (N + j)) (fun j => v (N + j)) t := by
  induction t with
  | zero => rfl
  | succ t ih =>
    funext c
    rw [← Nat.add_assoc]
    simp only [st, ih]

end Cert.Chunk

namespace Cert.KernelIdeal.Hand

open Cert.Chunk Finset Idealize.ShloMosaic

/-- The tokens from token `N` on. -/
def ChunkR.shift (D : ChunkR) (N : ℕ) : ChunkR where
  r h t := D.r h (N + t)
  k h t := D.k h (N + t)
  a h t := D.a h (N + t)
  b h t := D.b h (N + t)
  w h t := D.w h (N + t)
  v h t := D.v h (N + t)
  rs h t := D.rs h (N + t)
  ks h t := D.ks h (N + t)
  vs h t := D.vs h (N + t)
  rk := D.rk

variable (D : ChunkR) (s0 : Fin 48 → Fin 96 → Fin 128 → ℝ)

/-- The state of the later tokens, from the state before them, is the state of all tokens. -/
theorem ChunkR.state_shift (N t : ℕ) (h : Fin 48) (c : Fin 96) (y : Fin 128) :
    (D.shift N).state (D.state s0 N) t h c y = D.state s0 (N + t) h c y := by
  unfold ChunkR.state
  rw [st_add]; rfl

/-- So is the output before the layer norm, -/
theorem ChunkR.raw_shift (N t : ℕ) (h : Fin 48) : (D.shift N).raw (D.state s0 N) t h = D.raw s0 (N + t) h := by
  funext y
  show ∑ c, (D.shift N).state (D.state s0 N) (t + 1) h c y * (D.r h (N + t) c * D.rs h (N + t))
    = ∑ c, D.state s0 (N + t + 1) h c y * (D.r h (N + t) c * D.rs h (N + t))
  simp only [ChunkR.state_shift]; rfl

/-- and so is the output. -/
theorem ChunkR.out_shift (lnw lnb : Fin 48 → Fin 128 → EReal) (N t : ℕ) (h : Fin 48) (y : Fin 128) :
    (D.shift N).out (D.state s0 N) lnw lnb t h y = D.out s0 lnw lnb (N + t) h y := by
  unfold ChunkR.out
  rw [ChunkR.raw_shift]; rfl

/-- The inputs of the whole computation, as arrays, hold real numbers: `D b` the tokens of batch `b`, `s0 b` its first
    state; the layer norm's weights are whatever they are. -/
structure Args (D : Fin 6 → ChunkR) (lnw lnb : Fin 48 → Fin 128 → EReal) (s0 : Fin 6 → Fin 48 → Fin 96 → Fin 128 → ℝ)
    (a0 : Cert.KernelIdeal.S6x256x48x96.Idx → EReal) (a1 : Cert.KernelIdeal.S6x256x48.Idx → EReal) (a2 : Cert.KernelIdeal.S6x256x48x96.Idx → EReal)
    (a3 : Cert.KernelIdeal.S6x256x48.Idx → EReal) (a4 : Cert.KernelIdeal.S6x256x48x128.Idx → EReal) (a5 : Cert.KernelIdeal.S6x256x48.Idx → EReal)
    (a6 a7 a8 : Cert.KernelIdeal.S6x256x48x96.Idx → EReal) (a9 : Cert.KernelIdeal.S6x48x128x96.Idx → EReal) (a10 : Cert.KernelIdeal.S48x96.Idx → EReal)
    (a11 a12 : Cert.KernelIdeal.S6144.Idx → EReal) : Prop where
  r : ∀ b (t : Fin 256) h l, a0 (ix4 b t h l) = ((D b).r h t l : EReal)
  rs : ∀ b (t : Fin 256) h, a1 (ix3 b t h) = ((D b).rs h t : EReal)
  k : ∀ b (t : Fin 256) h l, a2 (ix4 b t h l) = ((D b).k h t l : EReal)
  ks : ∀ b (t : Fin 256) h, a3 (ix3 b t h) = ((D b).ks h t : EReal)
  v : ∀ b (t : Fin 256) h l, a4 (ix4 b t h l) = ((D b).v h t l : EReal)
  vs : ∀ b (t : Fin 256) h, a5 (ix3 b t h) = ((D b).vs h t : EReal)
  a : ∀ b (t : Fin 256) h l, a6 (ix4 b t h l) = ((D b).a h t l : EReal)
  b : ∀ b (t : Fin 256) h l, a7 (ix4 b t h l) = ((D b).b h t l : EReal)
  w : ∀ b (t : Fin 256) h l, a8 (ix4 b t h l) = ((D b).w h t l : EReal)
  s0 : ∀ b h l y, a9 (ix4 b h y l) = (s0 b h l y : EReal)
  rk : ∀ b h l, a10 (ix2 h l) = ((D b).rk h l : EReal)
  lnw : ∀ (h : Fin 48) (y : Fin 128), a11 (ix1 ⟨128 * h.val + y.val, by omega⟩) = lnw h y
  lnb : ∀ (h : Fin 48) (y : Fin 128), a12 (ix1 ⟨128 * h.val + y.val, by omega⟩) = lnb h y

end Cert.KernelIdeal.Hand

end
-- ==== Proof.Kern.PointVals.lean ====
/-
  What a grid point's windows hold: point `t` works on batch `t / 8` and on the 32 tokens from token `32 (t % 8)` on.
-/
module

public import proofs.«01_k».proof.Proof.Kern.WeakRunIdeal
public import proofs.«01_k».proof.Proof.Kern.PointSpec
public import proofs.«01_k».proof.Proof.Kern.Compose
public import Idealize.ShloMosaic.Lib.Pipeline.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Cert.Chunk

variable (m : (ℓ : Loc nD τ sig) → Buf (Elt Ideal) ℓ) (c : Dev nD) (t : Fin cfg0.N)

/-- There are 48 grid points. -/
theorem t_lt : t.val < 48 :=
  lt_of_lt_of_eq t.isLt N_0

/-- The batch of point number `n`. -/
def bat (n : ℕ) : Fin 6 := ⟨n / 8 % 6, Nat.mod_lt _ (by omega)⟩

/-- The batch of a grid point. -/
theorem bat_val : (bat t.val).val = t.val / 8 := by
  have := t_lt t
  show t.val / 8 % 6 = _
  omega

/-- Token `x` of point number `n`'s chunk, in the whole sequence. -/
def tokAt (n : ℕ) (x : Fin 32) : Fin 256 := ⟨32 * (n % 8) + x.val, by omega⟩

/-- Where the three conditions of the body hold: at the grid's first point, -/
theorem c1_iff : ∀ t : Fin cfg0.N, cond1 (grid0.coords t) = 1#1 ↔ t.val = 0 := by decide +kernel
/-- at a batch's first chunk, -/
theorem c2_iff : ∀ t : Fin cfg0.N, k0_cond2 (grid0.coords t) = 1#1 ↔ t.val % 8 = 0 := by decide +kernel
/-- at a batch's last chunk. -/
theorem c3_iff : ∀ t : Fin cfg0.N, k0_cond3 (grid0.coords t) = 1#1 ↔ t.val % 8 = 7 := by decide +kernel

/-- Window 0's block index at a grid point. -/
theorem index_0 : ∀ t : Fin cfg0.N, ∀ a, win0_0.index t a = ![t.val / 8, t.val % 8, 0, 0] a := by decide +kernel
/-- Window 1's block index at a grid point. -/
theorem index_1 : ∀ t : Fin cfg0.N, ∀ a, win0_1.index t a = ![t.val / 8, t.val % 8, 0] a := by decide +kernel
/-- Window 2's block index at a grid point. -/
theorem index_2 : ∀ t : Fin cfg0.N, ∀ a, win0_2.index t a = ![t.val / 8, t.val % 8, 0, 0] a := by decide +kernel
/-- Window 3's block index at a grid point. -/
theorem index_3 : ∀ t : Fin cfg0.N, ∀ a, win0_3.index t a = ![t.val / 8, t.val % 8, 0] a := by decide +kernel
/-- Window 4's block index at a grid point. -/
theorem index_4 : ∀ t : Fin cfg0.N, ∀ a, win0_4.index t a = ![t.val / 8, t.val % 8, 0, 0] a := by decide +kernel
/-- Window 5's block index at a grid point. -/
theorem index_5 : ∀ t : Fin cfg0.N, ∀ a, win0_5.index t a = ![t.val / 8, t.val % 8, 0] a := by decide +kernel
/-- Window 6's block index at a grid point. -/
theorem index_6 : ∀ t : Fin cfg0.N, ∀ a, win0_6.index t a = ![t.val / 8, t.val % 8, 0, 0] a := by decide +kernel
/-- Window 7's block index at a grid point. -/
theorem index_7 : ∀ t : Fin cfg0.N, ∀ a, win0_7.index t a = ![t.val / 8, t.val % 8, 0, 0] a := by decide +kernel
/-- Window 8's block index at a grid point. -/
theorem index_8 : ∀ t : Fin cfg0.N, ∀ a, win0_8.index t a = ![t.val / 8, t.val % 8, 0, 0] a := by decide +kernel
/-- Window 9's block index at a grid point. -/
theorem index_9 : ∀ t : Fin cfg0.N, ∀ a, win0_9.index t a = ![t.val / 8, 0, 0, 0] a := by decide +kernel
/-- Window 10's block index at a grid point. -/
theorem index_10 : ∀ t : Fin cfg0.N, ∀ a, win0_10.index t a = ![0, 0] a := by decide +kernel
/-- Window 11's block index at a grid point. -/
theorem index_11 : ∀ t : Fin cfg0.N, ∀ a, win0_11.index t a = ![0, 0] a := by decide +kernel
/-- Window 12's block index at a grid point. -/
theorem index_12 : ∀ t : Fin cfg0.N, ∀ a, win0_12.index t a = ![0, 0] a := by decide +kernel
/-- Window 13's block index at a grid point. -/
theorem index_13 : ∀ t : Fin cfg0.N, ∀ a, win0_13.index t a = ![t.val / 8, t.val % 8, 0] a := by decide +kernel
/-- Window 14's block index at a grid point. -/
theorem index_14 : ∀ t : Fin cfg0.N, ∀ a, win0_14.index t a = ![t.val / 8, 0, 0, 0] a := by decide +kernel

/-- Window 0's block, read from its array. -/
theorem iblk_0 (x : Fin 32) (h : Fin 48) (l : Fin 96) :
    iblk m c 0 t (ix4 0 x h l) = V m c main_v0 (ix4 (bat t.val) (tokAt t.val x) h l) := by
  have hb := bat_val t
  refine congrArg (V m c main_v0) (funext fun a => Fin.ext ?_)
  match a with
  | ⟨0, _⟩ =>
    show win0_0.index t 0 * 1 + 1 * (0 : ℕ) = (bat t.val).val
    rw [show win0_0.index t 0 = t.val / 8 from index_0 t 0]; omega
  | ⟨1, _⟩ =>
    show win0_0.index t 1 * 32 + 1 * x.val = 32 * (t.val % 8) + x.val
    rw [show win0_0.index t 1 = t.val % 8 from index_0 t 1]; omega
  | ⟨2, _⟩ =>
    show win0_0.index t 2 * 48 + 1 * h.val = h.val
    rw [show win0_0.index t 2 = 0 from index_0 t 2]; omega
  | ⟨3, _⟩ =>
    show win0_0.index t 3 * 96 + 1 * l.val = l.val
    rw [show win0_0.index t 3 = 0 from index_0 t 3]; omega

/-- Window 1's block, read from its array. -/
theorem iblk_1 (x : Fin 32) (h : Fin 48) :
    iblk m c 1 t (ix3 0 x h) = V m c main_arg1 (ix3 (bat t.val) (tokAt t.val x) h) := by
  have hb := bat_val t
  refine congrArg (V m c main_arg1) (funext fun a => Fin.ext ?_)
  match a with
  | ⟨0, _⟩ =>
    show win0_1.index t 0 * 1 + 1 * (0 : ℕ) = (bat t.val).val
    rw [show win0_1.index t 0 = t.val / 8 from index_1 t 0]; omega
  | ⟨1, _⟩ =>
    show win0_1.index t 1 * 32 + 1 * x.val = 32 * (t.val % 8) + x.val
    rw [show win0_1.index t 1 = t.val % 8 from index_1 t 1]; omega
  | ⟨2, _⟩ =>
    show win0_1.index t 2 * 48 + 1 * h.val = h.val
    rw [show win0_1.index t 2 = 0 from index_1 t 2]; omega

/-- Window 2's block, read from its array. -/
theorem iblk_2 (x : Fin 32) (h : Fin 48) (l : Fin 96) :
    iblk m c 2 t (ix4 0 x h l) = V m c main_v1 (ix4 (bat t.val) (tokAt t.val x) h l) := by
  have hb := bat_val t
  refine congrArg (V m c main_v1) (funext fun a => Fin.ext ?_)
  match a with
  | ⟨0, _⟩ =>
    show win0_2.index t 0 * 1 + 1 * (0 : ℕ) = (bat t.val).val
    rw [show win0_2.index t 0 = t.val / 8 from index_2 t 0]; omega
  | ⟨1, _⟩ =>
    show win0_2.index t 1 * 32 + 1 * x.val = 32 * (t.val % 8) + x.val
    rw [show win0_2.index t 1 = t.val % 8 from index_2 t 1]; omega
  | ⟨2, _⟩ =>
    show win0_2.index t 2 * 48 + 1 * h.val = h.val
    rw [show win0_2.index t 2 = 0 from index_2 t 2]; omega
  | ⟨3, _⟩ =>
    show win0_2.index t 3 * 96 + 1 * l.val = l.val
    rw [show win0_2.index t 3 = 0 from index_2 t 3]; omega

/-- Window 3's block, read from its array. -/
theorem iblk_3 (x : Fin 32) (h : Fin 48) :
    iblk m c 3 t (ix3 0 x h) = V m c main_arg3 (ix3 (bat t.val) (tokAt t.val x) h) := by
  have hb := bat_val t
  refine congrArg (V m c main_arg3) (funext fun a => Fin.ext ?_)
  match a with
  | ⟨0, _⟩ =>
    show win0_3.index t 0 * 1 + 1 * (0 : ℕ) = (bat t.val).val
    rw [show win0_3.index t 0 = t.val / 8 from index_3 t 0]; omega
  | ⟨1, _⟩ =>
    show win0_3.index t 1 * 32 + 1 * x.val = 32 * (t.val % 8) + x.val
    rw [show win0_3.index t 1 = t.val % 8 from index_3 t 1]; omega
  | ⟨2, _⟩ =>
    show win0_3.index t 2 * 48 + 1 * h.val = h.val
    rw [show win0_3.index t 2 = 0 from index_3 t 2]; omega

/-- Window 4's block, read from its array. -/
theorem iblk_4 (x : Fin 32) (h : Fin 48) (l : Fin 128) :
    iblk m c 4 t (ix4 0 x h l) = V m c main_v2 (ix4 (bat t.val) (tokAt t.val x) h l) := by
  have hb := bat_val t
  refine congrArg (V m c main_v2) (funext fun a => Fin.ext ?_)
  match a with
  | ⟨0, _⟩ =>
    show win0_4.index t 0 * 1 + 1 * (0 : ℕ) = (bat t.val).val
    rw [show win0_4.index t 0 = t.val / 8 from index_4 t 0]; omega
  | ⟨1, _⟩ =>
    show win0_4.index t 1 * 32 + 1 * x.val = 32 * (t.val % 8) + x.val
    rw [show win0_4.index t 1 = t.val % 8 from index_4 t 1]; omega
  | ⟨2, _⟩ =>
    show win0_4.index t 2 * 48 + 1 * h.val = h.val
    rw [show win0_4.index t 2 = 0 from index_4 t 2]; omega
  | ⟨3, _⟩ =>
    show win0_4.index t 3 * 128 + 1 * l.val = l.val
    rw [show win0_4.index t 3 = 0 from index_4 t 3]; omega

/-- Window 5's block, read from its array. -/
theorem iblk_5 (x : Fin 32) (h : Fin 48) :
    iblk m c 5 t (ix3 0 x h) = V m c main_arg5 (ix3 (bat t.val) (tokAt t.val x) h) := by
  have hb := bat_val t
  refine congrArg (V m c main_arg5) (funext fun a => Fin.ext ?_)
  match a with
  | ⟨0, _⟩ =>
    show win0_5.index t 0 * 1 + 1 * (0 : ℕ) = (bat t.val).val
    rw [show win0_5.index t 0 = t.val / 8 from index_5 t 0]; omega
  | ⟨1, _⟩ =>
    show win0_5.index t 1 * 32 + 1 * x.val = 32 * (t.val % 8) + x.val
    rw [show win0_5.index t 1 = t.val % 8 from index_5 t 1]; omega
  | ⟨2, _⟩ =>
    show win0_5.index t 2 * 48 + 1 * h.val = h.val
    rw [show win0_5.index t 2 = 0 from index_5 t 2]; omega

/-- Window 6's block, read from its array. -/
theorem iblk_6 (x : Fin 32) (h : Fin 48) (l : Fin 96) :
    iblk m c 6 t (ix4 0 x h l) = V m c main_arg6 (ix4 (bat t.val) (tokAt t.val x) h l) := by
  have hb := bat_val t
  refine congrArg (V m c main_arg6) (funext fun a => Fin.ext ?_)
  match a with
  | ⟨0, _⟩ =>
    show win0_6.index t 0 * 1 + 1 * (0 : ℕ) = (bat t.val).val
    rw [show win0_6.index t 0 = t.val / 8 from index_6 t 0]; omega
  | ⟨1, _⟩ =>
    show win0_6.index t 1 * 32 + 1 * x.val = 32 * (t.val % 8) + x.val
    rw [show win0_6.index t 1 = t.val % 8 from index_6 t 1]; omega
  | ⟨2, _⟩ =>
    show win0_6.index t 2 * 48 + 1 * h.val = h.val
    rw [show win0_6.index t 2 = 0 from index_6 t 2]; omega
  | ⟨3, _⟩ =>
    show win0_6.index t 3 * 96 + 1 * l.val = l.val
    rw [show win0_6.index t 3 = 0 from index_6 t 3]; omega

/-- Window 7's block, read from its array. -/
theorem iblk_7 (x : Fin 32) (h : Fin 48) (l : Fin 96) :
    iblk m c 7 t (ix4 0 x h l) = V m c main_arg7 (ix4 (bat t.val) (tokAt t.val x) h l) := by
  have hb := bat_val t
  refine congrArg (V m c main_arg7) (funext fun a => Fin.ext ?_)
  match a with
  | ⟨0, _⟩ =>
    show win0_7.index t 0 * 1 + 1 * (0 : ℕ) = (bat t.val).val
    rw [show win0_7.index t 0 = t.val / 8 from index_7 t 0]; omega
  | ⟨1, _⟩ =>
    show win0_7.index t 1 * 32 + 1 * x.val = 32 * (t.val % 8) + x.val
    rw [show win0_7.index t 1 = t.val % 8 from index_7 t 1]; omega
  | ⟨2, _⟩ =>
    show win0_7.index t 2 * 48 + 1 * h.val = h.val
    rw [show win0_7.index t 2 = 0 from index_7 t 2]; omega
  | ⟨3, _⟩ =>
    show win0_7.index t 3 * 96 + 1 * l.val = l.val
    rw [show win0_7.index t 3 = 0 from index_7 t 3]; omega

/-- Window 8's block, read from its array. -/
theorem iblk_8 (x : Fin 32) (h : Fin 48) (l : Fin 96) :
    iblk m c 8 t (ix4 0 x h l) = V m c main_arg8 (ix4 (bat t.val) (tokAt t.val x) h l) := by
  have hb := bat_val t
  refine congrArg (V m c main_arg8) (funext fun a => Fin.ext ?_)
  match a with
  | ⟨0, _⟩ =>
    show win0_8.index t 0 * 1 + 1 * (0 : ℕ) = (bat t.val).val
    rw [show win0_8.index t 0 = t.val / 8 from index_8 t 0]; omega
  | ⟨1, _⟩ =>
    show win0_8.index t 1 * 32 + 1 * x.val = 32 * (t.val % 8) + x.val
    rw [show win0_8.index t 1 = t.val % 8 from index_8 t 1]; omega
  | ⟨2, _⟩ =>
    show win0_8.index t 2 * 48 + 1 * h.val = h.val
    rw [show win0_8.index t 2 = 0 from index_8 t 2]; omega
  | ⟨3, _⟩ =>
    show win0_8.index t 3 * 96 + 1 * l.val = l.val
    rw [show win0_8.index t 3 = 0 from index_8 t 3]; omega

/-- Window 9's block, read from its array. -/
theorem iblk_9 (h : Fin 48) (y : Fin 128) (l : Fin 96) :
    iblk m c 9 t (ix4 0 h y l) = V m c main_arg9 (ix4 (bat t.val) h y l) := by
  have hb := bat_val t
  refine congrArg (V m c main_arg9) (funext fun a => Fin.ext ?_)
  match a with
  | ⟨0, _⟩ =>
    show win0_9.index t 0 * 1 + 1 * (0 : ℕ) = (bat t.val).val
    rw [show win0_9.index t 0 = t.val / 8 from index_9 t 0]; omega
  | ⟨1, _⟩ =>
    show win0_9.index t 1 * 48 + 1 * h.val = h.val
    rw [show win0_9.index t 1 = 0 from index_9 t 1]; omega
  | ⟨2, _⟩ =>
    show win0_9.index t 2 * 128 + 1 * y.val = y.val
    rw [show win0_9.index t 2 = 0 from index_9 t 2]; omega
  | ⟨3, _⟩ =>
    show win0_9.index t 3 * 96 + 1 * l.val = l.val
    rw [show win0_9.index t 3 = 0 from index_9 t 3]; omega

/-- Window 10's block, read from its array. -/
theorem iblk_10 (h : Fin 48) (l : Fin 128) :
    iblk m c 10 t (ix2 h l) = V m c main_v3 (ix2 h l) := by
  have hb := bat_val t
  refine congrArg (V m c main_v3) (funext fun a => Fin.ext ?_)
  match a with
  | ⟨0, _⟩ =>
    show win0_10.index t 0 * 48 + 1 * h.val = h.val
    rw [show win0_10.index t 0 = 0 from index_10 t 0]; omega
  | ⟨1, _⟩ =>
    show win0_10.index t 1 * 128 + 1 * l.val = l.val
    rw [show win0_10.index t 1 = 0 from index_10 t 1]; omega

/-- Window 11's block, read from its array. -/
theorem iblk_11 (h : Fin 48) (l : Fin 128) :
    iblk m c 11 t (ix2 h l) = V m c main_v4 (ix2 h l) := by
  have hb := bat_val t
  refine congrArg (V m c main_v4) (funext fun a => Fin.ext ?_)
  match a with
  | ⟨0, _⟩ =>
    show win0_11.index t 0 * 48 + 1 * h.val = h.val
    rw [show win0_11.index t 0 = 0 from index_11 t 0]; omega
  | ⟨1, _⟩ =>
    show win0_11.index t 1 * 128 + 1 * l.val = l.val
    rw [show win0_11.index t 1 = 0 from index_11 t 1]; omega

/-- Window 12's block, read from its array. -/
theorem iblk_12 (h : Fin 48) (l : Fin 128) :
    iblk m c 12 t (ix2 h l) = V m c main_v5 (ix2 h l) := by
  have hb := bat_val t
  refine congrArg (V m c main_v5) (funext fun a => Fin.ext ?_)
  match a with
  | ⟨0, _⟩ =>
    show win0_12.index t 0 * 48 + 1 * h.val = h.val
    rw [show win0_12.index t 0 = 0 from index_12 t 0]; omega
  | ⟨1, _⟩ =>
    show win0_12.index t 1 * 128 + 1 * l.val = l.val
    rw [show win0_12.index t 1 = 0 from index_12 t 1]; omega

/-- Window 13's block of an array. -/
theorem oblk_13 (G : S6x256x6144.Idx → EReal) (x : Fin 32) (l : Fin 6144) :
    (win0_13.blk t).view.read (Elt Ideal) G (ix3 0 x l) = G (ix3 (bat t.val) (tokAt t.val x) l) := by
  have hb := bat_val t
  refine congrArg G (funext fun a => Fin.ext ?_)
  match a with
  | ⟨0, _⟩ =>
    show win0_13.index t 0 * 1 + 1 * (0 : ℕ) = (bat t.val).val
    rw [show win0_13.index t 0 = t.val / 8 from index_13 t 0]; omega
  | ⟨1, _⟩ =>
    show win0_13.index t 1 * 32 + 1 * x.val = 32 * (t.val % 8) + x.val
    rw [show win0_13.index t 1 = t.val % 8 from index_13 t 1]; omega
  | ⟨2, _⟩ =>
    show win0_13.index t 2 * 6144 + 1 * l.val = l.val
    rw [show win0_13.index t 2 = 0 from index_13 t 2]; omega

/-- Window 14's block of an array. -/
theorem oblk_14 (G : S6x48x128x96.Idx → EReal) (h : Fin 48) (y : Fin 128) (l : Fin 96) :
    (win0_14.blk t).view.read (Elt Ideal) G (ix4 0 h y l) = G (ix4 (bat t.val) h y l) := by
  have hb := bat_val t
  refine congrArg G (funext fun a => Fin.ext ?_)
  match a with
  | ⟨0, _⟩ =>
    show win0_14.index t 0 * 1 + 1 * (0 : ℕ) = (bat t.val).val
    rw [show win0_14.index t 0 = t.val / 8 from index_14 t 0]; omega
  | ⟨1, _⟩ =>
    show win0_14.index t 1 * 48 + 1 * h.val = h.val
    rw [show win0_14.index t 1 = 0 from index_14 t 1]; omega
  | ⟨2, _⟩ =>
    show win0_14.index t 2 * 128 + 1 * y.val = y.val
    rw [show win0_14.index t 2 = 0 from index_14 t 2]; omega
  | ⟨3, _⟩ =>
    show win0_14.index t 3 * 96 + 1 * l.val = l.val
    rw [show win0_14.index t 3 = 0 from index_14 t 3]; omega

end Cert.KernelIdeal.Hand

end
-- ==== Proof.Kern.HostVals.lean ====
/-
  What the host operations before the kernel leave in the arrays its windows read, at the ideal reading: the codes
  converted to fp8 are what they were, the bonus weight is padded by zeros from 96 lanes to 128, and the layer norm's
  weights are laid out in rows of 128. And the kernel's blocks at a grid point, over the launched arguments.
-/
module

public import proofs.«01_k».proof.Proof.Kern.PointVals
public import Idealize.ShloMosaic.Lib.KernelVsHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Cert.Chunk

variable (m : (ℓ : Loc nD τ sig) → Buf (Elt Ideal) ℓ) (c : Dev nD) (t : Fin cfg0.N)

/-- The conversion of the first codes leaves them what they were, -/
theorem V_main_v0 (i : S6x256x48x96.Idx) : V m c main_v0 i = m ((c : Thread nD τ).loc main_arg0) i := by
  show StableHlo.after (List.flatten [hostOps0, hostOps0_1, hostOps0_2]) _ (Proc.devRef .tc main_v0) i = _
  simp only [List.flatten_cons, List.flatten_nil, List.append_nil, List.cons_append, List.nil_append]
  after_results
  rfl

/-- of the second, -/
theorem V_main_v1 (i : S6x256x48x96.Idx) : V m c main_v1 i = m ((c : Thread nD τ).loc main_arg2) i := by
  show StableHlo.after (List.flatten [hostOps0, hostOps0_1, hostOps0_2]) _ (Proc.devRef .tc main_v1) i = _
  simp only [List.flatten_cons, List.flatten_nil, List.append_nil, List.cons_append, List.nil_append]
  after_results
  rfl

/-- and of the third. -/
theorem V_main_v2 (i : S6x256x48x128.Idx) : V m c main_v2 i = m ((c : Thread nD τ).loc main_arg4) i := by
  show StableHlo.after (List.flatten [hostOps0, hostOps0_1, hostOps0_2]) _ (Proc.devRef .tc main_v2) i = _
  simp only [List.flatten_cons, List.flatten_nil, List.append_nil, List.cons_append, List.nil_append]
  after_results
  rfl

/-- The norm's weight in rows of 128, -/
theorem V_main_v4 (h : Fin 48) (y : Fin 128) :
    V m c main_v4 (ix2 h y) = m ((c : Thread nD τ).loc main_arg11) (ix1 ⟨128 * h.val + y.val, by omega⟩) := by
  show StableHlo.after (List.flatten [hostOps0, hostOps0_1, hostOps0_2]) _ (Proc.devRef .tc main_v4) (ix2 h y) = _
  simp only [List.flatten_cons, List.flatten_nil, List.append_nil, List.cons_append, List.nil_append]
  after_results
  pointwise
  exact congrArg (fun i => m ((c : Thread nD τ).loc main_arg11) (ix1 i)) (Fin.ext (by show h.val * 128 + y.val = 128 * h.val + y.val; omega))

/-- and its bias. -/
theorem V_main_v5 (h : Fin 48) (y : Fin 128) :
    V m c main_v5 (ix2 h y) = m ((c : Thread nD τ).loc main_arg12) (ix1 ⟨128 * h.val + y.val, by omega⟩) := by
  show StableHlo.after (List.flatten [hostOps0, hostOps0_1, hostOps0_2]) _ (Proc.devRef .tc main_v5) (ix2 h y) = _
  simp only [List.flatten_cons, List.flatten_nil, List.append_nil, List.cons_append, List.nil_append]
  after_results
  pointwise
  exact congrArg (fun i => m ((c : Thread nD τ).loc main_arg12) (ix1 i)) (Fin.ext (by show h.val * 128 + y.val = 128 * h.val + y.val; omega))

/-- The padded bonus weight. -/
theorem V_main_v3 : V m c main_v3 = (pad S48x128 ![0, 0] ![0, 32] ![0, 0] (m ((c : Thread nD τ).loc main_arg10) : Vec Ideal S48x96 .f32)
    (sitofp (F := Ideal) .f32 (constantI S_ 32 0#32)) pads_S48x96_S48x128_000_0320 h_S_ : Vec Ideal S48x128 .f32) := by
  show StableHlo.after (List.flatten [hostOps0, hostOps0_1, hostOps0_2]) _ (Proc.devRef .tc main_v3) = _
  simp only [List.flatten_cons, List.flatten_nil, List.append_nil, List.cons_append, List.nil_append]
  after_results
  rfl

/-- The padded bonus weight is the weight below lane 96, -/
theorem V_main_v3_in (h : Fin 48) (l : Fin 96) :
    V m c main_v3 (ix2 h (kl l)) = m ((c : Thread nD τ).loc main_arg10) (ix2 h l) := by
  rw [V_main_v3]
  refine pad_apply_of_inside _ _ _ _ _ _ _ _ (ix2 h l) fun a => ?_
  match a with
  | ⟨0, _⟩ => show h.val = 0 + h.val * (0 + 1); omega
  | ⟨1, _⟩ => show l.val = 0 + l.val * (0 + 1); omega

/-- and zero from it on. -/
theorem V_main_v3_out (h : Fin 48) (l : Fin 128) (hl : 96 ≤ l.val) : V m c main_v3 (ix2 h l) = (0 : EReal) := by
  rw [V_main_v3]
  refine (pad_apply_of_not_inside _ _ _ _ _ _ _ _ 1 ?_).trans ?_
  · show ¬(0 ≤ l.val ∧ (l.val - 0) % (0 + 1) = 0 ∧ (l.val - 0) / (0 + 1) < 96)
    omega
  · show (((0#32 : BitVec 32).toInt : ℝ) : EReal) = 0
    simp

variable {D : Fin 6 → ChunkR} {lnw lnb : Fin 48 → Fin 128 → EReal} {s0 : Fin 6 → Fin 48 → Fin 96 → Fin 128 → ℝ}

/-- The launched arguments are the real numbers `D`, `s0`. -/
abbrev Launched (D : Fin 6 → ChunkR) (lnw lnb : Fin 48 → Fin 128 → EReal) (s0 : Fin 6 → Fin 48 → Fin 96 → Fin 128 → ℝ) : Prop :=
  Args D lnw lnb s0 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- The chunk of a grid point: the tokens of its batch from its first token on. -/
def chunkOf (D : Fin 6 → ChunkR) (n : ℕ) : ChunkR := (D (bat n)).shift (32 * (n % 8))

/-- The state of its batch before a grid point's chunk. -/
def startOf (D : Fin 6 → ChunkR) (s0 : Fin 6 → Fin 48 → Fin 96 → Fin 128 → ℝ) (n : ℕ) : Fin 48 → Fin 96 → Fin 128 → ℝ :=
  (D (bat n)).state (s0 (bat n)) (32 * (n % 8))

variable {m} {c}

/-- The blocks of a grid point are its chunk. -/
theorem Launched.inp (A : Launched m c D lnw lnb s0) :
    Inp (chunkOf D t.val) (iblk m c 0 t) (iblk m c 1 t) (iblk m c 2 t) (iblk m c 3 t) (iblk m c 4 t) (iblk m c 5 t) (iblk m c 6 t)
      (iblk m c 7 t) (iblk m c 8 t) (iblk m c 10 t) where
  ir x h l := (iblk_0 m c t x h l).trans ((V_main_v0 m c _).trans (A.r _ _ _ _))
  irs x h := (iblk_1 m c t x h).trans ((congrFun (V_main_arg1 m c) _).trans (A.rs _ _ _))
  ik x h l := (iblk_2 m c t x h l).trans ((V_main_v1 m c _).trans (A.k _ _ _ _))
  iks x h := (iblk_3 m c t x h).trans ((congrFun (V_main_arg3 m c) _).trans (A.ks _ _ _))
  iv x h l := (iblk_4 m c t x h l).trans ((V_main_v2 m c _).trans (A.v _ _ _ _))
  ivs x h := (iblk_5 m c t x h).trans ((congrFun (V_main_arg5 m c) _).trans (A.vs _ _ _))
  ia x h l := (iblk_6 m c t x h l).trans ((congrFun (V_main_arg6 m c) _).trans (A.a _ _ _ _))
  ib x h l := (iblk_7 m c t x h l).trans ((congrFun (V_main_arg7 m c) _).trans (A.b _ _ _ _))
  iw x h l := (iblk_8 m c t x h l).trans ((congrFun (V_main_arg8 m c) _).trans (A.w _ _ _ _))
  irk h l := (iblk_10 m c t h (kl l)).trans ((V_main_v3_in m c h l).trans (A.rk (bat t.val) h l))
  irkz h l hl := (iblk_10 m c t h l).trans (V_main_v3_out m c h l hl)

/-- The block of the norm's weight is the weight, -/
theorem Launched.lnw_blk (A : Launched m c D lnw lnb s0) : (fun h y => iblk m c 11 t (ix2 h y)) = lnw :=
  funext fun h => funext fun y => (iblk_11 m c t h y).trans ((V_main_v4 m c h y).trans (A.lnw h y))

/-- that of its bias the bias. -/
theorem Launched.lnb_blk (A : Launched m c D lnw lnb s0) : (fun h y => iblk m c 12 t (ix2 h y)) = lnb :=
  funext fun h => funext fun y => (iblk_12 m c t h y).trans ((V_main_v5 m c h y).trans (A.lnb h y))

/-- At a batch's first chunk the block of first states is the state before the chunk. -/
theorem Launched.start (A : Launched m c D lnw lnb s0) (h8 : t.val % 8 = 0) (h : Fin 48) (l : Fin 96) (y : Fin 128) :
    iblk m c 9 t (ix4 0 h y l) = (startOf D s0 t.val h l y : EReal) := by
  unfold startOf
  rw [h8]
  exact (iblk_9 m c t h y l).trans ((congrFun (V_main_arg9 m c) _).trans (A.s0 _ _ _ _))

end Cert.KernelIdeal.Hand

end
-- ==== Proof.Kern.StrongA.lean ====
/-
  One run of the kernel's body at a grid point that is the first of the grid: what it leaves.
-/
module

public import proofs.«01_k».proof.Proof.Kern.WeakRunIdeal
public import proofs.«01_k».proof.Proof.Kern.PointSpec

@[expose] public section

set_option maxRecDepth 16384
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Chunk

local notation "𝕄" => MT nD τ sig Unit (Elt Ideal) ℕ (UR sig nD τ) ℕ

/-- The body's run: the inputs come back as they were, the rest as `PointPost` says. -/
theorem strongA (c : Dev nD) (E : Set ℕ) (i : grid0.Coords)
    (arg2 : Memref sig .tc .vmem S1x32x48x96 .fp8e4m3) (harg2 : arg2.IsWhole) (arg3 : Memref sig .tc .vmem S1x32x48 .f32) (harg3 : arg3.IsWhole) (arg4 : Memref sig .tc .vmem S1x32x48x96 .fp8e4m3) (harg4 : arg4.IsWhole) (arg5 : Memref sig .tc .vmem S1x32x48 .f32) (harg5 : arg5.IsWhole) (arg6 : Memref sig .tc .vmem S1x32x48x128 .fp8e4m3) (harg6 : arg6.IsWhole) (arg7 : Memref sig .tc .vmem S1x32x48 .f32) (harg7 : arg7.IsWhole) (arg8 : Memref sig .tc .vmem S1x32x48x96 .bf16) (harg8 : arg8.IsWhole) (arg9 : Memref sig .tc .vmem S1x32x48x96 .bf16) (harg9 : arg9.IsWhole) (arg10 : Memref sig .tc .vmem S1x32x48x96 .f32) (harg10 : arg10.IsWhole) (arg11 : Memref sig .tc .vmem S1x48x128x96 .f32) (harg11 : arg11.IsWhole) (arg12 : Memref sig .tc .vmem S48x128 .f32) (harg12 : arg12.IsWhole) (arg13 : Memref sig .tc .vmem S48x128 .f32) (harg13 : arg13.IsWhole) (arg14 : Memref sig .tc .vmem S48x128 .f32) (harg14 : arg14.IsWhole) (arg15 : Memref sig .tc .vmem S1x32x6144 .bf16) (harg15 : arg15.IsWhole) (arg16 : Memref sig .tc .vmem S1x48x128x96 .f32) (harg16 : arg16.IsWhole) (arg17 : Memref sig .tc .vmem S1716x128 .f32) (harg17 : arg17.IsWhole) (arg18 : Memref sig .tc .vmem S1664x128 .f32) (harg18 : arg18.IsWhole) (arg19 : Memref sig .tc .vmem S1664x128 .f32) (harg19 : arg19.IsWhole) (arg20 : Memref sig .tc .vmem S1664x128 .f32) (harg20 : arg20.IsWhole) (arg21 : Memref sig .tc .vmem S1664x128 .f32) (harg21 : arg21.IsWhole) (arg22 : Memref sig .tc .vmem S1664x128 .f32) (harg22 : arg22.IsWhole) (arg23 : Memref sig .tc .vmem S48x96x128 .f32) (harg23 : arg23.IsWhole) (arg24 : Memref sig .tc .vmem S128x128 .f32) (harg24 : arg24.IsWhole)
    (x2 : Vec Ideal S1x32x48x96 .fp8e4m3) (x3 : Vec Ideal S1x32x48 .f32) (x4 : Vec Ideal S1x32x48x96 .fp8e4m3) (x5 : Vec Ideal S1x32x48 .f32) (x6 : Vec Ideal S1x32x48x128 .fp8e4m3) (x7 : Vec Ideal S1x32x48 .f32) (x8 : Vec Ideal S1x32x48x96 .bf16) (x9 : Vec Ideal S1x32x48x96 .bf16) (x10 : Vec Ideal S1x32x48x96 .f32) (x11 : Vec Ideal S1x48x128x96 .f32) (x12 : Vec Ideal S48x128 .f32) (x13 : Vec Ideal S48x128 .f32) (x14 : Vec Ideal S48x128 .f32)
    (z15 : Vec Ideal S1x32x6144 .bf16) (z16 : Vec Ideal S1x48x128x96 .f32) (z17 : Vec Ideal S1716x128 .f32) (z18 : Vec Ideal S1664x128 .f32) (z19 : Vec Ideal S1664x128 .f32) (z20 : Vec Ideal S1664x128 .f32) (z21 : Vec Ideal S1664x128 .f32) (z22 : Vec Ideal S1664x128 .f32) (z23 : Vec Ideal S48x96x128 .f32) (z24 : Vec Ideal S128x128 .f32)
    (h1 : cond1 i = 1#1) (h2 : k0_cond2 i = 1#1) (h3 : ¬ k0_cond3 i = 1#1) {D : ChunkR} {s0 : Fin 48 → Fin 96 → Fin 128 → ℝ}
    (hI : Inp D x2 x3 x4 x5 x6 x7 x8 x9 x10 x12) (hS : ∀ h c y, x11 (ix4 0 h y c) = (s0 h c y : EReal)) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare z15 ∗ owns (c : Thread nD τ) arg16 fullShare z16 ∗ owns (c : Thread nD τ) arg17 fullShare z17 ∗ owns (c : Thread nD τ) arg18 fullShare z18 ∗ owns (c : Thread nD τ) arg19 fullShare z19 ∗ owns (c : Thread nD τ) arg20 fullShare z20 ∗ owns (c : Thread nD τ) arg21 fullShare z21 ∗ owns (c : Thread nD τ) arg22 fullShare z22 ∗ owns (c : Thread nD τ) arg23 fullShare z23 ∗ owns (c : Thread nD τ) arg24 fullShare z24
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
          ∗ ∃ d15, ∃ d17, ∃ d18, ∃ d19, ∃ d20, ∃ d21, ∃ d22, ∃ d23, ∃ d24, owns (c : Thread nD τ) arg15 fullShare d15 ∗ owns (c : Thread nD τ) arg16 fullShare z16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ ⌜PointPost D s0 (fun h y => x13 (ix2 h y)) (fun h y => x14 (ix2 h y)) d15 d17 d18 d19 d21 d22 d23⌝) -∗ K ()))
      ⊢ wp frame (wpE (defs₀ (F := Ideal)) Variants.none c none) E (cc0_rwkv7_time_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  unfold cond1 at h1
  simp only [cc0_rwkv7_time_mix_eq_skeleton]; unfold cc0_rwkv7_time_mix_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
  subst hf2 hf3 hf4 hf5 hf6 hf7 hf8 hf9 hf10 hf11 hf12 hf13 hf14 hf15 hf16 hf17 hf18 hf19 hf20 hf21 hf22 hf23 hf24
  sl_exec (disch := assumption)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _, _, _, _, _, _, _, _, _
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; rfl
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; rfl
  ipureintro
  rw [View.writes_append]
  have P := BodyIn.post (Q := { c := c, i := i, arg2 := arg2, harg2 := harg2, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, arg15 := arg15, harg15 := harg15, arg16 := arg16, harg16 := harg16, arg17 := arg17, harg17 := harg17, arg18 := arg18, harg18 := harg18, arg19 := arg19, harg19 := harg19, arg20 := arg20, harg20 := harg20, arg21 := arg21, harg21 := harg21, arg22 := arg22, harg22 := harg22, arg23 := arg23, harg23 := harg23, arg24 := arg24, harg24 := harg24, f2 := f2, f3 := f3, f4 := f4, f5 := f5, f6 := f6, f7 := f7, f8 := f8, f9 := f9, f10 := f10, f11 := f11, f12 := f12, f13 := f13, f14 := f14, e15 := f15, e17 := arg17.view.junk, e18 := arg18.view.junk, e19 := arg19.view.junk, e21 := arg21.view.junk, e22 := arg22.view.junk, e20 := f20, e24 := arg24.view.junk, e23 := arg23.view.writes (Elt Ideal) f23 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 f11 k0_t1_loop.trips), T17 := [⟨Rect.unit (s := S1716x128) ![0, 0] S1716x128.size inb_S1716x128_S1716x128_0_0, k0_pay299 (F := Ideal)⟩], T18 := [⟨Rect.unit (s := S1664x128) ![0, 0] S1664x128.size inb_S1664x128_S1664x128_0_0, k0_pay300 (F := Ideal)⟩], T19 := [⟨Rect.unit (s := S1664x128) ![0, 0] S1664x128.size inb_S1664x128_S1664x128_0_0, k0_pay301 (F := Ideal)⟩], T21 := [⟨Rect.unit (s := S1664x128) ![0, 0] S1664x128.size inb_S1664x128_S1664x128_0_0, k0_pay302 (F := Ideal)⟩], T22 := [⟨Rect.unit (s := S1664x128) ![0, 0] S1664x128.size inb_S1664x128_S1664x128_0_0, k0_pay303 (F := Ideal)⟩] }) (D := D) (s0 := s0)
    (zeros_fresh (m17 := arg17) (m18 := arg18) (m19 := arg19) (m21 := arg21) (m22 := arg22) arg17.view.junk arg18.view.junk arg19.view.junk arg21.view.junk arg22.view.junk) hI (fun h x y => (load_state { c := c, i := i, arg2 := arg2, harg2 := harg2, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, arg15 := arg15, harg15 := harg15, arg16 := arg16, harg16 := harg16, arg17 := arg17, harg17 := harg17, arg18 := arg18, harg18 := harg18, arg19 := arg19, harg19 := harg19, arg20 := arg20, harg20 := harg20, arg21 := arg21, harg21 := harg21, arg22 := arg22, harg22 := harg22, arg23 := arg23, harg23 := harg23, arg24 := arg24, harg24 := harg24 } h2 f11 f23 k0_t1_loop.trips (le_of_eq trips1) h (lt_of_lt_of_eq h.isLt trips1.symm) x y).trans (hS h x y))
  exact P

end Cert.KernelIdeal.Hand

end
-- ==== Proof.Kern.StrongB.lean ====
/-
  One run of the kernel's body at a grid point that is the first of a later batch row: what it leaves.
-/
module

public import proofs.«01_k».proof.Proof.Kern.WeakRunIdeal
public import proofs.«01_k».proof.Proof.Kern.PointSpec

@[expose] public section

set_option maxRecDepth 16384
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Chunk

local notation "𝕄" => MT nD τ sig Unit (Elt Ideal) ℕ (UR sig nD τ) ℕ

/-- The body's run: the inputs come back as they were, the rest as `PointPost` says. -/
theorem strongB (c : Dev nD) (E : Set ℕ) (i : grid0.Coords)
    (arg2 : Memref sig .tc .vmem S1x32x48x96 .fp8e4m3) (harg2 : arg2.IsWhole) (arg3 : Memref sig .tc .vmem S1x32x48 .f32) (harg3 : arg3.IsWhole) (arg4 : Memref sig .tc .vmem S1x32x48x96 .fp8e4m3) (harg4 : arg4.IsWhole) (arg5 : Memref sig .tc .vmem S1x32x48 .f32) (harg5 : arg5.IsWhole) (arg6 : Memref sig .tc .vmem S1x32x48x128 .fp8e4m3) (harg6 : arg6.IsWhole) (arg7 : Memref sig .tc .vmem S1x32x48 .f32) (harg7 : arg7.IsWhole) (arg8 : Memref sig .tc .vmem S1x32x48x96 .bf16) (harg8 : arg8.IsWhole) (arg9 : Memref sig .tc .vmem S1x32x48x96 .bf16) (harg9 : arg9.IsWhole) (arg10 : Memref sig .tc .vmem S1x32x48x96 .f32) (harg10 : arg10.IsWhole) (arg11 : Memref sig .tc .vmem S1x48x128x96 .f32) (harg11 : arg11.IsWhole) (arg12 : Memref sig .tc .vmem S48x128 .f32) (harg12 : arg12.IsWhole) (arg13 : Memref sig .tc .vmem S48x128 .f32) (harg13 : arg13.IsWhole) (arg14 : Memref sig .tc .vmem S48x128 .f32) (harg14 : arg14.IsWhole) (arg15 : Memref sig .tc .vmem S1x32x6144 .bf16) (harg15 : arg15.IsWhole) (arg16 : Memref sig .tc .vmem S1x48x128x96 .f32) (harg16 : arg16.IsWhole) (arg17 : Memref sig .tc .vmem S1716x128 .f32) (harg17 : arg17.IsWhole) (arg18 : Memref sig .tc .vmem S1664x128 .f32) (harg18 : arg18.IsWhole) (arg19 : Memref sig .tc .vmem S1664x128 .f32) (harg19 : arg19.IsWhole) (arg20 : Memref sig .tc .vmem S1664x128 .f32) (harg20 : arg20.IsWhole) (arg21 : Memref sig .tc .vmem S1664x128 .f32) (harg21 : arg21.IsWhole) (arg22 : Memref sig .tc .vmem S1664x128 .f32) (harg22 : arg22.IsWhole) (arg23 : Memref sig .tc .vmem S48x96x128 .f32) (harg23 : arg23.IsWhole) (arg24 : Memref sig .tc .vmem S128x128 .f32) (harg24 : arg24.IsWhole)
    (x2 : Vec Ideal S1x32x48x96 .fp8e4m3) (x3 : Vec Ideal S1x32x48 .f32) (x4 : Vec Ideal S1x32x48x96 .fp8e4m3) (x5 : Vec Ideal S1x32x48 .f32) (x6 : Vec Ideal S1x32x48x128 .fp8e4m3) (x7 : Vec Ideal S1x32x48 .f32) (x8 : Vec Ideal S1x32x48x96 .bf16) (x9 : Vec Ideal S1x32x48x96 .bf16) (x10 : Vec Ideal S1x32x48x96 .f32) (x11 : Vec Ideal S1x48x128x96 .f32) (x12 : Vec Ideal S48x128 .f32) (x13 : Vec Ideal S48x128 .f32) (x14 : Vec Ideal S48x128 .f32)
    (z15 : Vec Ideal S1x32x6144 .bf16) (z16 : Vec Ideal S1x48x128x96 .f32) (z17 : Vec Ideal S1716x128 .f32) (z18 : Vec Ideal S1664x128 .f32) (z19 : Vec Ideal S1664x128 .f32) (z20 : Vec Ideal S1664x128 .f32) (z21 : Vec Ideal S1664x128 .f32) (z22 : Vec Ideal S1664x128 .f32) (z23 : Vec Ideal S48x96x128 .f32) (z24 : Vec Ideal S128x128 .f32)
    (h1 : ¬ cond1 i = 1#1) (h2 : k0_cond2 i = 1#1) (h3 : ¬ k0_cond3 i = 1#1) {D : ChunkR} {s0 : Fin 48 → Fin 96 → Fin 128 → ℝ}
    (hI : Inp D x2 x3 x4 x5 x6 x7 x8 x9 x10 x12) (hZ : Zeros z17 z18 z19 z21 z22) (hS : ∀ h c y, x11 (ix4 0 h y c) = (s0 h c y : EReal)) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare z15 ∗ owns (c : Thread nD τ) arg16 fullShare z16 ∗ owns (c : Thread nD τ) arg17 fullShare z17 ∗ owns (c : Thread nD τ) arg18 fullShare z18 ∗ owns (c : Thread nD τ) arg19 fullShare z19 ∗ owns (c : Thread nD τ) arg20 fullShare z20 ∗ owns (c : Thread nD τ) arg21 fullShare z21 ∗ owns (c : Thread nD τ) arg22 fullShare z22 ∗ owns (c : Thread nD τ) arg23 fullShare z23 ∗ owns (c : Thread nD τ) arg24 fullShare z24
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
          ∗ ∃ d15, ∃ d17, ∃ d18, ∃ d19, ∃ d20, ∃ d21, ∃ d22, ∃ d23, ∃ d24, owns (c : Thread nD τ) arg15 fullShare d15 ∗ owns (c : Thread nD τ) arg16 fullShare z16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ ⌜PointPost D s0 (fun h y => x13 (ix2 h y)) (fun h y => x14 (ix2 h y)) d15 d17 d18 d19 d21 d22 d23⌝) -∗ K ()))
      ⊢ wp frame (wpE (defs₀ (F := Ideal)) Variants.none c none) E (cc0_rwkv7_time_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  unfold cond1 at h1
  simp only [cc0_rwkv7_time_mix_eq_skeleton]; unfold cc0_rwkv7_time_mix_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
  subst hf2 hf3 hf4 hf5 hf6 hf7 hf8 hf9 hf10 hf11 hf12 hf13 hf14 hf15 hf16 hf17 hf18 hf19 hf20 hf21 hf22 hf23 hf24
  sl_exec (disch := assumption)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _, _, _, _, _, _, _, _, _
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; rfl
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; rfl
  ipureintro
  rw [View.writes_append]
  have P := BodyIn.post (Q := { c := c, i := i, arg2 := arg2, harg2 := harg2, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, arg15 := arg15, harg15 := harg15, arg16 := arg16, harg16 := harg16, arg17 := arg17, harg17 := harg17, arg18 := arg18, harg18 := harg18, arg19 := arg19, harg19 := harg19, arg20 := arg20, harg20 := harg20, arg21 := arg21, harg21 := harg21, arg22 := arg22, harg22 := harg22, arg23 := arg23, harg23 := harg23, arg24 := arg24, harg24 := harg24, f2 := f2, f3 := f3, f4 := f4, f5 := f5, f6 := f6, f7 := f7, f8 := f8, f9 := f9, f10 := f10, f11 := f11, f12 := f12, f13 := f13, f14 := f14, e15 := f15, e17 := f17, e18 := f18, e19 := f19, e21 := f21, e22 := f22, e20 := f20, e24 := arg24.view.junk, e23 := arg23.view.writes (Elt Ideal) f23 (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 h2 f11 k0_t1_loop.trips), T17 := [], T18 := [], T19 := [], T21 := [], T22 := [] }) (D := D) (s0 := s0)
    hZ hI (fun h x y => (load_state { c := c, i := i, arg2 := arg2, harg2 := harg2, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, arg15 := arg15, harg15 := harg15, arg16 := arg16, harg16 := harg16, arg17 := arg17, harg17 := harg17, arg18 := arg18, harg18 := harg18, arg19 := arg19, harg19 := harg19, arg20 := arg20, harg20 := harg20, arg21 := arg21, harg21 := harg21, arg22 := arg22, harg22 := harg22, arg23 := arg23, harg23 := harg23, arg24 := arg24, harg24 := harg24 } h2 f11 f23 k0_t1_loop.trips (le_of_eq trips1) h (lt_of_lt_of_eq h.isLt trips1.symm) x y).trans (hS h x y))
  exact P

end Cert.KernelIdeal.Hand

end
-- ==== Proof.Kern.StrongC.lean ====
/-
  One run of the kernel's body at a grid point that is neither the first nor the last of its batch row: what it leaves.
-/
module

public import proofs.«01_k».proof.Proof.Kern.WeakRunIdeal
public import proofs.«01_k».proof.Proof.Kern.PointSpec

@[expose] public section

set_option maxRecDepth 16384
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Chunk

local notation "𝕄" => MT nD τ sig Unit (Elt Ideal) ℕ (UR sig nD τ) ℕ

/-- The body's run: the inputs come back as they were, the rest as `PointPost` says. -/
theorem strongC (c : Dev nD) (E : Set ℕ) (i : grid0.Coords)
    (arg2 : Memref sig .tc .vmem S1x32x48x96 .fp8e4m3) (harg2 : arg2.IsWhole) (arg3 : Memref sig .tc .vmem S1x32x48 .f32) (harg3 : arg3.IsWhole) (arg4 : Memref sig .tc .vmem S1x32x48x96 .fp8e4m3) (harg4 : arg4.IsWhole) (arg5 : Memref sig .tc .vmem S1x32x48 .f32) (harg5 : arg5.IsWhole) (arg6 : Memref sig .tc .vmem S1x32x48x128 .fp8e4m3) (harg6 : arg6.IsWhole) (arg7 : Memref sig .tc .vmem S1x32x48 .f32) (harg7 : arg7.IsWhole) (arg8 : Memref sig .tc .vmem S1x32x48x96 .bf16) (harg8 : arg8.IsWhole) (arg9 : Memref sig .tc .vmem S1x32x48x96 .bf16) (harg9 : arg9.IsWhole) (arg10 : Memref sig .tc .vmem S1x32x48x96 .f32) (harg10 : arg10.IsWhole) (arg11 : Memref sig .tc .vmem S1x48x128x96 .f32) (harg11 : arg11.IsWhole) (arg12 : Memref sig .tc .vmem S48x128 .f32) (harg12 : arg12.IsWhole) (arg13 : Memref sig .tc .vmem S48x128 .f32) (harg13 : arg13.IsWhole) (arg14 : Memref sig .tc .vmem S48x128 .f32) (harg14 : arg14.IsWhole) (arg15 : Memref sig .tc .vmem S1x32x6144 .bf16) (harg15 : arg15.IsWhole) (arg16 : Memref sig .tc .vmem S1x48x128x96 .f32) (harg16 : arg16.IsWhole) (arg17 : Memref sig .tc .vmem S1716x128 .f32) (harg17 : arg17.IsWhole) (arg18 : Memref sig .tc .vmem S1664x128 .f32) (harg18 : arg18.IsWhole) (arg19 : Memref sig .tc .vmem S1664x128 .f32) (harg19 : arg19.IsWhole) (arg20 : Memref sig .tc .vmem S1664x128 .f32) (harg20 : arg20.IsWhole) (arg21 : Memref sig .tc .vmem S1664x128 .f32) (harg21 : arg21.IsWhole) (arg22 : Memref sig .tc .vmem S1664x128 .f32) (harg22 : arg22.IsWhole) (arg23 : Memref sig .tc .vmem S48x96x128 .f32) (harg23 : arg23.IsWhole) (arg24 : Memref sig .tc .vmem S128x128 .f32) (harg24 : arg24.IsWhole)
    (x2 : Vec Ideal S1x32x48x96 .fp8e4m3) (x3 : Vec Ideal S1x32x48 .f32) (x4 : Vec Ideal S1x32x48x96 .fp8e4m3) (x5 : Vec Ideal S1x32x48 .f32) (x6 : Vec Ideal S1x32x48x128 .fp8e4m3) (x7 : Vec Ideal S1x32x48 .f32) (x8 : Vec Ideal S1x32x48x96 .bf16) (x9 : Vec Ideal S1x32x48x96 .bf16) (x10 : Vec Ideal S1x32x48x96 .f32) (x11 : Vec Ideal S1x48x128x96 .f32) (x12 : Vec Ideal S48x128 .f32) (x13 : Vec Ideal S48x128 .f32) (x14 : Vec Ideal S48x128 .f32)
    (z15 : Vec Ideal S1x32x6144 .bf16) (z16 : Vec Ideal S1x48x128x96 .f32) (z17 : Vec Ideal S1716x128 .f32) (z18 : Vec Ideal S1664x128 .f32) (z19 : Vec Ideal S1664x128 .f32) (z20 : Vec Ideal S1664x128 .f32) (z21 : Vec Ideal S1664x128 .f32) (z22 : Vec Ideal S1664x128 .f32) (z23 : Vec Ideal S48x96x128 .f32) (z24 : Vec Ideal S128x128 .f32)
    (h1 : ¬ cond1 i = 1#1) (h2 : ¬ k0_cond2 i = 1#1) (h3 : ¬ k0_cond3 i = 1#1) {D : ChunkR} {s0 : Fin 48 → Fin 96 → Fin 128 → ℝ}
    (hI : Inp D x2 x3 x4 x5 x6 x7 x8 x9 x10 x12) (hZ : Zeros z17 z18 z19 z21 z22) (hS : ∀ h c y, z23 (ix3 h c y) = (s0 h c y : EReal)) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare z15 ∗ owns (c : Thread nD τ) arg16 fullShare z16 ∗ owns (c : Thread nD τ) arg17 fullShare z17 ∗ owns (c : Thread nD τ) arg18 fullShare z18 ∗ owns (c : Thread nD τ) arg19 fullShare z19 ∗ owns (c : Thread nD τ) arg20 fullShare z20 ∗ owns (c : Thread nD τ) arg21 fullShare z21 ∗ owns (c : Thread nD τ) arg22 fullShare z22 ∗ owns (c : Thread nD τ) arg23 fullShare z23 ∗ owns (c : Thread nD τ) arg24 fullShare z24
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
          ∗ ∃ d15, ∃ d17, ∃ d18, ∃ d19, ∃ d20, ∃ d21, ∃ d22, ∃ d23, ∃ d24, owns (c : Thread nD τ) arg15 fullShare d15 ∗ owns (c : Thread nD τ) arg16 fullShare z16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ ⌜PointPost D s0 (fun h y => x13 (ix2 h y)) (fun h y => x14 (ix2 h y)) d15 d17 d18 d19 d21 d22 d23⌝) -∗ K ()))
      ⊢ wp frame (wpE (defs₀ (F := Ideal)) Variants.none c none) E (cc0_rwkv7_time_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  unfold cond1 at h1
  simp only [cc0_rwkv7_time_mix_eq_skeleton]; unfold cc0_rwkv7_time_mix_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
  subst hf2 hf3 hf4 hf5 hf6 hf7 hf8 hf9 hf10 hf11 hf12 hf13 hf14 hf15 hf16 hf17 hf18 hf19 hf20 hf21 hf22 hf23 hf24
  sl_exec (disch := assumption)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _, _, _, _, _, _, _, _, _
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; rfl
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; rfl
  ipureintro
  have P := BodyIn.post (Q := { c := c, i := i, arg2 := arg2, harg2 := harg2, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, arg15 := arg15, harg15 := harg15, arg16 := arg16, harg16 := harg16, arg17 := arg17, harg17 := harg17, arg18 := arg18, harg18 := harg18, arg19 := arg19, harg19 := harg19, arg20 := arg20, harg20 := harg20, arg21 := arg21, harg21 := harg21, arg22 := arg22, harg22 := harg22, arg23 := arg23, harg23 := harg23, arg24 := arg24, harg24 := harg24, f2 := f2, f3 := f3, f4 := f4, f5 := f5, f6 := f6, f7 := f7, f8 := f8, f9 := f9, f10 := f10, f11 := f11, f12 := f12, f13 := f13, f14 := f14, e15 := f15, e17 := f17, e18 := f18, e19 := f19, e21 := f21, e22 := f22, e20 := f20, e24 := arg24.view.junk, e23 := f23, T17 := [], T18 := [], T19 := [], T21 := [], T22 := [] }) (D := D) (s0 := s0)
    hZ hI hS
  exact P

end Cert.KernelIdeal.Hand

end
-- ==== Proof.Kern.StrongD.lean ====
/-
  One run of the kernel's body at a grid point that is the last of its batch row: what it leaves.
-/
module

public import proofs.«01_k».proof.Proof.Kern.WeakRunIdeal
public import proofs.«01_k».proof.Proof.Kern.PointSpec

@[expose] public section

set_option maxRecDepth 16384
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Chunk

local notation "𝕄" => MT nD τ sig Unit (Elt Ideal) ℕ (UR sig nD τ) ℕ

/-- The body's run: the inputs come back as they were, the rest as `PointPost` says. -/
theorem strongD (c : Dev nD) (E : Set ℕ) (i : grid0.Coords)
    (arg2 : Memref sig .tc .vmem S1x32x48x96 .fp8e4m3) (harg2 : arg2.IsWhole) (arg3 : Memref sig .tc .vmem S1x32x48 .f32) (harg3 : arg3.IsWhole) (arg4 : Memref sig .tc .vmem S1x32x48x96 .fp8e4m3) (harg4 : arg4.IsWhole) (arg5 : Memref sig .tc .vmem S1x32x48 .f32) (harg5 : arg5.IsWhole) (arg6 : Memref sig .tc .vmem S1x32x48x128 .fp8e4m3) (harg6 : arg6.IsWhole) (arg7 : Memref sig .tc .vmem S1x32x48 .f32) (harg7 : arg7.IsWhole) (arg8 : Memref sig .tc .vmem S1x32x48x96 .bf16) (harg8 : arg8.IsWhole) (arg9 : Memref sig .tc .vmem S1x32x48x96 .bf16) (harg9 : arg9.IsWhole) (arg10 : Memref sig .tc .vmem S1x32x48x96 .f32) (harg10 : arg10.IsWhole) (arg11 : Memref sig .tc .vmem S1x48x128x96 .f32) (harg11 : arg11.IsWhole) (arg12 : Memref sig .tc .vmem S48x128 .f32) (harg12 : arg12.IsWhole) (arg13 : Memref sig .tc .vmem S48x128 .f32) (harg13 : arg13.IsWhole) (arg14 : Memref sig .tc .vmem S48x128 .f32) (harg14 : arg14.IsWhole) (arg15 : Memref sig .tc .vmem S1x32x6144 .bf16) (harg15 : arg15.IsWhole) (arg16 : Memref sig .tc .vmem S1x48x128x96 .f32) (harg16 : arg16.IsWhole) (arg17 : Memref sig .tc .vmem S1716x128 .f32) (harg17 : arg17.IsWhole) (arg18 : Memref sig .tc .vmem S1664x128 .f32) (harg18 : arg18.IsWhole) (arg19 : Memref sig .tc .vmem S1664x128 .f32) (harg19 : arg19.IsWhole) (arg20 : Memref sig .tc .vmem S1664x128 .f32) (harg20 : arg20.IsWhole) (arg21 : Memref sig .tc .vmem S1664x128 .f32) (harg21 : arg21.IsWhole) (arg22 : Memref sig .tc .vmem S1664x128 .f32) (harg22 : arg22.IsWhole) (arg23 : Memref sig .tc .vmem S48x96x128 .f32) (harg23 : arg23.IsWhole) (arg24 : Memref sig .tc .vmem S128x128 .f32) (harg24 : arg24.IsWhole)
    (x2 : Vec Ideal S1x32x48x96 .fp8e4m3) (x3 : Vec Ideal S1x32x48 .f32) (x4 : Vec Ideal S1x32x48x96 .fp8e4m3) (x5 : Vec Ideal S1x32x48 .f32) (x6 : Vec Ideal S1x32x48x128 .fp8e4m3) (x7 : Vec Ideal S1x32x48 .f32) (x8 : Vec Ideal S1x32x48x96 .bf16) (x9 : Vec Ideal S1x32x48x96 .bf16) (x10 : Vec Ideal S1x32x48x96 .f32) (x11 : Vec Ideal S1x48x128x96 .f32) (x12 : Vec Ideal S48x128 .f32) (x13 : Vec Ideal S48x128 .f32) (x14 : Vec Ideal S48x128 .f32)
    (z15 : Vec Ideal S1x32x6144 .bf16) (z16 : Vec Ideal S1x48x128x96 .f32) (z17 : Vec Ideal S1716x128 .f32) (z18 : Vec Ideal S1664x128 .f32) (z19 : Vec Ideal S1664x128 .f32) (z20 : Vec Ideal S1664x128 .f32) (z21 : Vec Ideal S1664x128 .f32) (z22 : Vec Ideal S1664x128 .f32) (z23 : Vec Ideal S48x96x128 .f32) (z24 : Vec Ideal S128x128 .f32)
    (h1 : ¬ cond1 i = 1#1) (h2 : ¬ k0_cond2 i = 1#1) (h3 : k0_cond3 i = 1#1) {D : ChunkR} {s0 : Fin 48 → Fin 96 → Fin 128 → ℝ}
    (hI : Inp D x2 x3 x4 x5 x6 x7 x8 x9 x10 x12) (hZ : Zeros z17 z18 z19 z21 z22) (hS : ∀ h c y, z23 (ix3 h c y) = (s0 h c y : EReal)) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare z15 ∗ owns (c : Thread nD τ) arg16 fullShare z16 ∗ owns (c : Thread nD τ) arg17 fullShare z17 ∗ owns (c : Thread nD τ) arg18 fullShare z18 ∗ owns (c : Thread nD τ) arg19 fullShare z19 ∗ owns (c : Thread nD τ) arg20 fullShare z20 ∗ owns (c : Thread nD τ) arg21 fullShare z21 ∗ owns (c : Thread nD τ) arg22 fullShare z22 ∗ owns (c : Thread nD τ) arg23 fullShare z23 ∗ owns (c : Thread nD τ) arg24 fullShare z24
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
          ∗ ∃ d15, ∃ d16, ∃ d17, ∃ d18, ∃ d19, ∃ d20, ∃ d21, ∃ d22, ∃ d23, ∃ d24, owns (c : Thread nD τ) arg15 fullShare d15 ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ owns (c : Thread nD τ) arg21 fullShare d21 ∗ owns (c : Thread nD τ) arg22 fullShare d22 ∗ owns (c : Thread nD τ) arg23 fullShare d23 ∗ owns (c : Thread nD τ) arg24 fullShare d24 ∗ ⌜PointPost D s0 (fun h y => x13 (ix2 h y)) (fun h y => x14 (ix2 h y)) d15 d17 d18 d19 d21 d22 d23 ∧ ∀ h c y, d16 (ix4 0 h y c) = ((D.state s0 32 h c y : ℝ) : EReal)⌝) -∗ K ()))
      ⊢ wp frame (wpE (defs₀ (F := Ideal)) Variants.none c none) E (cc0_rwkv7_time_mix i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  unfold cond1 at h1
  simp only [cc0_rwkv7_time_mix_eq_skeleton]; unfold cc0_rwkv7_time_mix_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
  subst hf2 hf3 hf4 hf5 hf6 hf7 hf8 hf9 hf10 hf11 hf12 hf13 hf14 hf15 hf16 hf17 hf18 hf19 hf20 hf21 hf22 hf23 hf24
  sl_exec (disch := assumption)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _, _, _, _, _, _, _, _, _, _
  isplitl [H15]
  · iexists _; isplitr; swap; · iexact H15
    ipureintro; rfl
  isplitl [H16]
  · iexists _; isplitr; swap; · iexact H16
    ipureintro; rfl
  isplitl [H17]
  · iexists _; isplitr; swap; · iexact H17
    ipureintro; rfl
  isplitl [H18]
  · iexists _; isplitr; swap; · iexact H18
    ipureintro; rfl
  isplitl [H19]
  · iexists _; isplitr; swap; · iexact H19
    ipureintro; rfl
  isplitl [H20]
  · iexists _; isplitr; swap; · iexact H20
    ipureintro; rfl
  isplitl [H21]
  · iexists _; isplitr; swap; · iexact H21
    ipureintro; rfl
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; rfl
  ipureintro
  have P := BodyIn.post (Q := { c := c, i := i, arg2 := arg2, harg2 := harg2, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, arg15 := arg15, harg15 := harg15, arg16 := arg16, harg16 := harg16, arg17 := arg17, harg17 := harg17, arg18 := arg18, harg18 := harg18, arg19 := arg19, harg19 := harg19, arg20 := arg20, harg20 := harg20, arg21 := arg21, harg21 := harg21, arg22 := arg22, harg22 := harg22, arg23 := arg23, harg23 := harg23, arg24 := arg24, harg24 := harg24, f2 := f2, f3 := f3, f4 := f4, f5 := f5, f6 := f6, f7 := f7, f8 := f8, f9 := f9, f10 := f10, f11 := f11, f12 := f12, f13 := f13, f14 := f14, e15 := f15, e17 := f17, e18 := f18, e19 := f19, e21 := f21, e22 := f22, e20 := f20, e24 := arg24.view.junk, e23 := f23, T17 := [], T18 := [], T19 := [], T21 := [], T22 := [] }) (D := D) (s0 := s0)
    hZ hI hS
  exact ⟨P, fun h x y => (store_state { c := c, i := i, arg2 := arg2, harg2 := harg2, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, arg15 := arg15, harg15 := harg15, arg16 := arg16, harg16 := harg16, arg17 := arg17, harg17 := harg17, arg18 := arg18, harg18 := harg18, arg19 := arg19, harg19 := harg19, arg20 := arg20, harg20 := harg20, arg21 := arg21, harg21 := harg21, arg22 := arg22, harg22 := harg22, arg23 := arg23, harg23 := harg23, arg24 := arg24, harg24 := harg24 } h3 _ _ k0_t3_loop.trips (le_of_eq trips3) h (lt_of_lt_of_eq h.isLt trips3.symm) x y).trans (P.state h x y)⟩

end Cert.KernelIdeal.Hand

end
-- ==== Proof.Kern.ValueBody.lean ====
/-
  The kernel's run at the ideal reading, with what it leaves in its two results: the point `t` finds its batch's state after
  the chunks before it (zero rows staged below, the state in scratch), and leaves the state after its own chunk and the
  outputs of its 32 tokens.
-/
module

public import proofs.«01_k».proof.Proof.Kern.HostVals
public import proofs.«01_k».proof.Proof.Kern.BodyIdeal
public import proofs.«01_k».proof.Proof.Kern.StrongA
public import proofs.«01_k».proof.Proof.Kern.StrongB
public import proofs.«01_k».proof.Proof.Kern.StrongC
public import proofs.«01_k».proof.Proof.Kern.StrongD

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Chunk

local notation "𝕄" => MT nD τ sig Unit (Elt Ideal) ℕ (UR sig nD τ) ℕ

variable (m : (ℓ : Loc nD τ sig) → Buf (Elt Ideal) ℓ) (ρ : Dev nD → PrngReg)
variable (D : Fin 6 → ChunkR) (lnw lnb : Fin 48 → Fin 128 → EReal) (s0 : Fin 6 → Fin 48 → Fin 96 → Fin 128 → ℝ)

/-- The outputs of all tokens, as the array that holds them. -/
def outArr (i : S6x256x6144.Idx) : EReal :=
  (D (i 0)).out (s0 (i 0)) lnw lnb (i 1).val ⟨(i 2).val / 128, Nat.div_lt_of_lt_mul (show (i 2).val < 128 * 48 from (i 2).isLt)⟩
    ⟨(i 2).val % 128, Nat.mod_lt _ (by omega)⟩

/-- The states after all tokens, as the array that holds them. -/
def stArr (i : S6x48x128x96.Idx) : EReal := (((D (i 0)).state (s0 (i 0)) 256 (i 1) (i 3) (i 2) : ℝ) : EReal)

/-- The outputs' array at a head's column. -/
theorem outArr_col (b : Fin 6) (t : Fin 256) (h : Fin 48) (y : Fin 128) :
    outArr D lnw lnb s0 (ix3 b t (col h y)) = (D b).out (s0 b) lnw lnb t.val h y := by
  show (D b).out (s0 b) lnw lnb t.val ⟨(128 * h.val + y.val) / 128, _⟩ ⟨(128 * h.val + y.val) % 128, _⟩ = _
  have e1 : (⟨(128 * h.val + y.val) / 128, by omega⟩ : Fin 48) = h := Fin.ext (by show (128 * h.val + y.val) / 128 = h.val; omega)
  have e2 : (⟨(128 * h.val + y.val) % 128, by omega⟩ : Fin 128) = y := Fin.ext (by show (128 * h.val + y.val) % 128 = y.val; omega)
  rw [e1, e2]

/-- What the scratch holds before point number `n`: but for the first point the staged rows' zeros, but for a batch's first
    chunk the batch's state. -/
def ScrOk (n : ℕ) (g : S1716x128.Idx → EReal) (r k a b : S1664x128.Idx → EReal) (s : S48x96x128.Idx → EReal) : Prop :=
  (n ≠ 0 → Zeros g r k a b) ∧ (n % 8 ≠ 0 → ∀ h l y, s (ix3 h l y) = ((startOf D s0 n h l y : ℝ) : EReal))

section
variable {D lnw lnb s0} {n : ℕ} {o : S1x32x6144.Idx → EReal} {g : S1716x128.Idx → EReal} {r k a b : S1664x128.Idx → EReal}
  {s : S48x96x128.Idx → EReal} {lnw' lnb' : Fin 48 → Fin 128 → EReal}

/-- What a point leaves is told of equal arrays alike. -/
theorem PointPost.change {C : ChunkR} {z : Fin 48 → Fin 96 → Fin 128 → ℝ} (P : PointPost C z lnw' lnb' o g r k a b s)
    (hw : lnw' = lnw) (hb : lnb' = lnb) : PointPost C z lnw lnb o g r k a b s := by
  subst hw hb; exact P

/-- What a point leaves in the scratch is what the next one is to find. -/
theorem PointPost.next (P : PointPost (chunkOf D n) (startOf D s0 n) lnw lnb o g r k a b s) : ScrOk D s0 (n + 1) g r k a b s := by
  refine ⟨fun _ => P.zeros, fun h8 h l y => (P.state h l y).trans ?_⟩
  have e1 : bat (n + 1) = bat n := Fin.ext (by show (n + 1) / 8 % 6 = n / 8 % 6; omega)
  have e2 : (n + 1) % 8 = n % 8 + 1 := by omega
  unfold chunkOf startOf
  rw [ChunkR.state_shift, e1, e2, Nat.mul_add]

/-- What a point leaves in its output block is that block of the outputs. -/
theorem PointPost.outBlk {t : Fin cfg0.N} (P : PointPost (chunkOf D t.val) (startOf D s0 t.val) lnw lnb o g r k a b s) :
    o = (win0_13.blk t).view.read (Elt Ideal) (outArr D lnw lnb s0) := by
  funext i
  obtain ⟨x, h, y, rfl⟩ : ∃ (x : Fin 32) (h : Fin 48) (y : Fin 128), i = ix3 0 x (col h y) := by
    have h2 : (i 2).val < 6144 := (i 2).isLt
    refine ⟨i 1, ⟨(i 2).val / 128, by omega⟩, ⟨(i 2).val % 128, by omega⟩, funext fun a => Fin.ext ?_⟩
    match a with
    | ⟨0, _⟩ => have : (i 0).val < 1 := (i 0).isLt
                show (i 0).val = 0; omega
    | ⟨1, _⟩ => rfl
    | ⟨2, _⟩ => show (i 2).val = 128 * ((i 2).val / 128) + (i 2).val % 128; omega
  refine (P.out h x y).trans (Eq.symm ((oblk_13 t _ x (col h y)).trans ((outArr_col D lnw lnb s0 _ _ h y).trans ?_)))
  unfold chunkOf startOf
  rw [ChunkR.out_shift]; rfl

/-- What a batch's last point leaves in the block of states is that block of the states after all tokens. -/
theorem stBlk {t : Fin cfg0.N} (h7 : t.val % 8 = 7) {d : S1x48x128x96.Idx → EReal}
    (P : ∀ h l y, d (ix4 0 h y l) = (((chunkOf D t.val).state (startOf D s0 t.val) 32 h l y : ℝ) : EReal)) :
    d = (win0_14.blk t).view.read (Elt Ideal) (stArr D s0) := by
  funext i
  obtain ⟨h, y, l, rfl⟩ : ∃ (h : Fin 48) (y : Fin 128) (l : Fin 96), i = ix4 0 h y l := by
    refine ⟨i 1, i 2, i 3, funext fun a => Fin.ext ?_⟩
    match a with
    | ⟨0, _⟩ => have : (i 0).val < 1 := (i 0).isLt
                show (i 0).val = 0; omega
    | ⟨1, _⟩ => rfl
    | ⟨2, _⟩ => rfl
    | ⟨3, _⟩ => rfl
  refine (P h l y).trans (Eq.symm ((oblk_14 t _ h y l).trans ?_))
  show (((D (bat t.val)).state (s0 (bat t.val)) 256 h l y : ℝ) : EReal) = _
  unfold chunkOf startOf
  rw [ChunkR.state_shift, h7]

end

/-- The scratch before point number `n`, and the generator register. -/
def scr (c : Dev nD) (n : ℕ) : sProp 𝕄 :=
  iprop(iprop(∃ z0, ∃ z1, ∃ z2, ∃ z3, ∃ z4, ∃ z5, ∃ z6, ∃ z7,
    owns (c : Thread nD τ) (Memref.whole cc0_scratch0) fullShare z0 ∗ owns (c : Thread nD τ) (Memref.whole cc0_scratch1) fullShare z1 ∗ owns (c : Thread nD τ) (Memref.whole cc0_scratch2) fullShare z2 ∗ owns (c : Thread nD τ) (Memref.whole cc0_scratch3) fullShare z3 ∗ owns (c : Thread nD τ) (Memref.whole cc0_scratch4) fullShare z4 ∗ owns (c : Thread nD τ) (Memref.whole cc0_scratch5) fullShare z5 ∗ owns (c : Thread nD τ) (Memref.whole cc0_scratch6) fullShare z6 ∗ owns (c : Thread nD τ) (Memref.whole cc0_scratch7) fullShare z7
    ∗ ⌜ScrOk D s0 n z0 z1 z2 z4 z5 z6⌝) ∗ (∃ r, prngReg c r))

/-- The proof data on core `c`: each input's buffer at its block, the outputs' at their blocks of the outputs and of the states. -/
def vdats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (win0_13.blk t).view.read (Elt Ideal) (outArr D lnw lnb s0)
    | ⟨14, _⟩ => (win0_14.blk t).view.read (Elt Ideal) (stArr D s0)
  Φ t := scr D s0 c t.val
  q _ := fullShare
  owed _ := 0

/-- The windows' arrays are those the region starts from. -/
theorem vA_eq (c : Dev nD) (w : Fin cfg0.W) : (vdats m D lnw lnb s0 0 c).A w = V m c (Pipeline.arrRef spec0 w) := by
  dsimp only [vdats]

/-- What window 0 holds after a point's body. -/
theorem vafter_0 (c : Dev nD) (t : Fin cfg0.N) : (vdats m D lnw lnb s0 0 c).after 0 t = iblk m c 0 t := by dsimp only [vdats]
/-- What window 0 holds before a point's body: its block, as fetched. -/
theorem vbefore_0 (c : Dev nD) (t : Fin cfg0.N) (d) : (vdats m D lnw lnb s0 0 c).before 0 t d = iblk m c 0 t :=
  before0_0_of m (vdats m D lnw lnb s0 0 c) (vA_eq m D lnw lnb s0 c 0) (vafter_0 m D lnw lnb s0 c) t d
/-- What window 1 holds after a point's body. -/
theorem vafter_1 (c : Dev nD) (t : Fin cfg0.N) : (vdats m D lnw lnb s0 0 c).after 1 t = iblk m c 1 t := by dsimp only [vdats]
/-- What window 1 holds before a point's body: its block, as fetched. -/
theorem vbefore_1 (c : Dev nD) (t : Fin cfg0.N) (d) : (vdats m D lnw lnb s0 0 c).before 1 t d = iblk m c 1 t :=
  before0_1_of m (vdats m D lnw lnb s0 0 c) (vA_eq m D lnw lnb s0 c 1) (vafter_1 m D lnw lnb s0 c) t d
/-- What window 2 holds after a point's body. -/
theorem vafter_2 (c : Dev nD) (t : Fin cfg0.N) : (vdats m D lnw lnb s0 0 c).after 2 t = iblk m c 2 t := by dsimp only [vdats]
/-- What window 2 holds before a point's body: its block, as fetched. -/
theorem vbefore_2 (c : Dev nD) (t : Fin cfg0.N) (d) : (vdats m D lnw lnb s0 0 c).before 2 t d = iblk m c 2 t :=
  before0_2_of m (vdats m D lnw lnb s0 0 c) (vA_eq m D lnw lnb s0 c 2) (vafter_2 m D lnw lnb s0 c) t d
/-- What window 3 holds after a point's body. -/
theorem vafter_3 (c : Dev nD) (t : Fin cfg0.N) : (vdats m D lnw lnb s0 0 c).after 3 t = iblk m c 3 t := by dsimp only [vdats]
/-- What window 3 holds before a point's body: its block, as fetched. -/
theorem vbefore_3 (c : Dev nD) (t : Fin cfg0.N) (d) : (vdats m D lnw lnb s0 0 c).before 3 t d = iblk m c 3 t :=
  before0_3_of m (vdats m D lnw lnb s0 0 c) (vA_eq m D lnw lnb s0 c 3) (vafter_3 m D lnw lnb s0 c) t d
/-- What window 4 holds after a point's body. -/
theorem vafter_4 (c : Dev nD) (t : Fin cfg0.N) : (vdats m D lnw lnb s0 0 c).after 4 t = iblk m c 4 t := by dsimp only [vdats]
/-- What window 4 holds before a point's body: its block, as fetched. -/
theorem vbefore_4 (c : Dev nD) (t : Fin cfg0.N) (d) : (vdats m D lnw lnb s0 0 c).before 4 t d = iblk m c 4 t :=
  before0_4_of m (vdats m D lnw lnb s0 0 c) (vA_eq m D lnw lnb s0 c 4) (vafter_4 m D lnw lnb s0 c) t d
/-- What window 5 holds after a point's body. -/
theorem vafter_5 (c : Dev nD) (t : Fin cfg0.N) : (vdats m D lnw lnb s0 0 c).after 5 t = iblk m c 5 t := by dsimp only [vdats]
/-- What window 5 holds before a point's body: its block, as fetched. -/
theorem vbefore_5 (c : Dev nD) (t : Fin cfg0.N) (d) : (vdats m D lnw lnb s0 0 c).before 5 t d = iblk m c 5 t :=
  before0_5_of m (vdats m D lnw lnb s0 0 c) (vA_eq m D lnw lnb s0 c 5) (vafter_5 m D lnw lnb s0 c) t d
/-- What window 6 holds after a point's body. -/
theorem vafter_6 (c : Dev nD) (t : Fin cfg0.N) : (vdats m D lnw lnb s0 0 c).after 6 t = iblk m c 6 t := by dsimp only [vdats]
/-- What window 6 holds before a point's body: its block, as fetched. -/
theorem vbefore_6 (c : Dev nD) (t : Fin cfg0.N) (d) : (vdats m D lnw lnb s0 0 c).before 6 t d = iblk m c 6 t :=
  before0_6_of m (vdats m D lnw lnb s0 0 c) (vA_eq m D lnw lnb s0 c 6) (vafter_6 m D lnw lnb s0 c) t d
/-- What window 7 holds after a point's body. -/
theorem vafter_7 (c : Dev nD) (t : Fin cfg0.N) : (vdats m D lnw lnb s0 0 c).after 7 t = iblk m c 7 t := by dsimp only [vdats]
/-- What window 7 holds before a point's body: its block, as fetched. -/
theorem vbefore_7 (c : Dev nD) (t : Fin cfg0.N) (d) : (vdats m D lnw lnb s0 0 c).before 7 t d = iblk m c 7 t :=
  before0_7_of m (vdats m D lnw lnb s0 0 c) (vA_eq m D lnw lnb s0 c 7) (vafter_7 m D lnw lnb s0 c) t d
/-- What window 8 holds after a point's body. -/
theorem vafter_8 (c : Dev nD) (t : Fin cfg0.N) : (vdats m D lnw lnb s0 0 c).after 8 t = iblk m c 8 t := by dsimp only [vdats]
/-- What window 8 holds before a point's body: its block, as fetched. -/
theorem vbefore_8 (c : Dev nD) (t : Fin cfg0.N) (d) : (vdats m D lnw lnb s0 0 c).before 8 t d = iblk m c 8 t :=
  before0_8_of m (vdats m D lnw lnb s0 0 c) (vA_eq m D lnw lnb s0 c 8) (vafter_8 m D lnw lnb s0 c) t d
/-- What window 9 holds after a point's body. -/
theorem vafter_9 (c : Dev nD) (t : Fin cfg0.N) : (vdats m D lnw lnb s0 0 c).after 9 t = iblk m c 9 t := by dsimp only [vdats]
/-- What window 9 holds before a point's body: its block, as fetched. -/
theorem vbefore_9 (c : Dev nD) (t : Fin cfg0.N) (d) : (vdats m D lnw lnb s0 0 c).before 9 t d = iblk m c 9 t :=
  before0_9_of m (vdats m D lnw lnb s0 0 c) (vA_eq m D lnw lnb s0 c 9) (vafter_9 m D lnw lnb s0 c) t d
/-- What window 10 holds after a point's body. -/
theorem vafter_10 (c : Dev nD) (t : Fin cfg0.N) : (vdats m D lnw lnb s0 0 c).after 10 t = iblk m c 10 t := by dsimp only [vdats]
/-- What window 10 holds before a point's body: its block, as fetched. -/
theorem vbefore_10 (c : Dev nD) (t : Fin cfg0.N) (d) : (vdats m D lnw lnb s0 0 c).before 10 t d = iblk m c 10 t :=
  before0_10_of m (vdats m D lnw lnb s0 0 c) (vA_eq m D lnw lnb s0 c 10) (vafter_10 m D lnw lnb s0 c) t d
/-- What window 11 holds after a point's body. -/
theorem vafter_11 (c : Dev nD) (t : Fin cfg0.N) : (vdats m D lnw lnb s0 0 c).after 11 t = iblk m c 11 t := by dsimp only [vdats]
/-- What window 11 holds before a point's body: its block, as fetched. -/
theorem vbefore_11 (c : Dev nD) (t : Fin cfg0.N) (d) : (vdats m D lnw lnb s0 0 c).before 11 t d = iblk m c 11 t :=
  before0_11_of m (vdats m D lnw lnb s0 0 c) (vA_eq m D lnw lnb s0 c 11) (vafter_11 m D lnw lnb s0 c) t d
/-- What window 12 holds after a point's body. -/
theorem vafter_12 (c : Dev nD) (t : Fin cfg0.N) : (vdats m D lnw lnb s0 0 c).after 12 t = iblk m c 12 t := by dsimp only [vdats]
/-- What window 12 holds before a point's body: its block, as fetched. -/
theorem vbefore_12 (c : Dev nD) (t : Fin cfg0.N) (d) : (vdats m D lnw lnb s0 0 c).before 12 t d = iblk m c 12 t :=
  before0_12_of m (vdats m D lnw lnb s0 0 c) (vA_eq m D lnw lnb s0 c 12) (vafter_12 m D lnw lnb s0 c) t d
/-- What window 13 holds after a point's body. -/
theorem vafter_13 (c : Dev nD) (t : Fin cfg0.N) : (vdats m D lnw lnb s0 0 c).after 13 t
    = (win0_13.blk t).view.read (Elt Ideal) (outArr D lnw lnb s0) := by dsimp only [vdats]
/-- What window 14 holds after a point's body. -/
theorem vafter_14 (c : Dev nD) (t : Fin cfg0.N) : (vdats m D lnw lnb s0 0 c).after 14 t
    = (win0_14.blk t).view.read (Elt Ideal) (stArr D s0) := by dsimp only [vdats]

/-- The block of states is left alone but at a batch's last chunk, -/
theorem leaves14_idle (c : Dev nD) (t : Fin cfg0.N) (h7 : ¬ t.val % 8 = 7) : (vdats m D lnw lnb s0 0 c).leavesExact 14 t
    = iprop(∃ d, owns (c : Thread nD τ) (st0_14 t) fullShare ((vdats m D lnw lnb s0 0 c).before 14 t d)) := by
  refine Dat.leavesExact_idle _ 14 t ?_ ?_
  · show (!(k0_cond3 (grid0.coords t) == 1#1)) = true
    have h3 : ¬ k0_cond3 (grid0.coords t) = 1#1 := fun h => h7 ((c3_iff t).mp h)
    simp [h3]
  · exact Bool.eq_false_iff.mpr fun h => h7 ((flush0_14 t).mp h)

/-- where it is written. -/
theorem leaves14_live (c : Dev nD) (t : Fin cfg0.N) (h7 : t.val % 8 = 7) : (vdats m D lnw lnb s0 0 c).leavesExact 14 t
    = owns (c : Thread nD τ) (st0_14 t) fullShare ((win0_14.blk t).view.read (Elt Ideal) (stArr D s0)) := by
  have hi : cfg0.idle 14 (cfg0.grid.coords t) = false := by
    show (!(k0_cond3 (grid0.coords t) == 1#1)) = false
    rw [(c3_iff t).mpr h7]; rfl
  unfold Dat.leavesExact
  rw [hi, ← vafter_14 m D lnw lnb s0 c t]

/-- What the body is called with at point `t`, -/
def vbodyPre (c : Dev nD) (t : Fin cfg0.N) : sProp 𝕄 :=
  iprop((vdats m D lnw lnb s0 0 c).Φ t.castSucc ∗ (vdats m D lnw lnb s0 0 c).owesAt () t.castSucc
    ∗ (∃ d, owns (c : Thread nD τ) (st0_0 t) fullShare ((vdats m D lnw lnb s0 0 c).before 0 t d))
    ∗ (∃ d, owns (c : Thread nD τ) (st0_1 t) fullShare ((vdats m D lnw lnb s0 0 c).before 1 t d))
    ∗ (∃ d, owns (c : Thread nD τ) (st0_2 t) fullShare ((vdats m D lnw lnb s0 0 c).before 2 t d))
    ∗ (∃ d, owns (c : Thread nD τ) (st0_3 t) fullShare ((vdats m D lnw lnb s0 0 c).before 3 t d))
    ∗ (∃ d, owns (c : Thread nD τ) (st0_4 t) fullShare ((vdats m D lnw lnb s0 0 c).before 4 t d))
    ∗ (∃ d, owns (c : Thread nD τ) (st0_5 t) fullShare ((vdats m D lnw lnb s0 0 c).before 5 t d))
    ∗ (∃ d, owns (c : Thread nD τ) (st0_6 t) fullShare ((vdats m D lnw lnb s0 0 c).before 6 t d))
    ∗ (∃ d, owns (c : Thread nD τ) (st0_7 t) fullShare ((vdats m D lnw lnb s0 0 c).before 7 t d))
    ∗ (∃ d, owns (c : Thread nD τ) (st0_8 t) fullShare ((vdats m D lnw lnb s0 0 c).before 8 t d))
    ∗ (∃ d, owns (c : Thread nD τ) (st0_9 t) fullShare ((vdats m D lnw lnb s0 0 c).before 9 t d))
    ∗ (∃ d, owns (c : Thread nD τ) (st0_10 t) fullShare ((vdats m D lnw lnb s0 0 c).before 10 t d))
    ∗ (∃ d, owns (c : Thread nD τ) (st0_11 t) fullShare ((vdats m D lnw lnb s0 0 c).before 11 t d))
    ∗ (∃ d, owns (c : Thread nD τ) (st0_12 t) fullShare ((vdats m D lnw lnb s0 0 c).before 12 t d))
    ∗ (∃ d, owns (c : Thread nD τ) (st0_13 t) fullShare ((vdats m D lnw lnb s0 0 c).before 13 t d))
    ∗ (∃ d, owns (c : Thread nD τ) (st0_14 t) fullShare ((vdats m D lnw lnb s0 0 c).before 14 t d)))

/-- and what it returns. -/
def vbodyPost (c : Dev nD) (t : Fin cfg0.N) : sProp 𝕄 :=
  iprop((vdats m D lnw lnb s0 0 c).Φ t.succ ∗ (vdats m D lnw lnb s0 0 c).owesAt () t.succ
    ∗ owns (c : Thread nD τ) (st0_0 t) fullShare ((vdats m D lnw lnb s0 0 c).after 0 t)
    ∗ owns (c : Thread nD τ) (st0_1 t) fullShare ((vdats m D lnw lnb s0 0 c).after 1 t)
    ∗ owns (c : Thread nD τ) (st0_2 t) fullShare ((vdats m D lnw lnb s0 0 c).after 2 t)
    ∗ owns (c : Thread nD τ) (st0_3 t) fullShare ((vdats m D lnw lnb s0 0 c).after 3 t)
    ∗ owns (c : Thread nD τ) (st0_4 t) fullShare ((vdats m D lnw lnb s0 0 c).after 4 t)
    ∗ owns (c : Thread nD τ) (st0_5 t) fullShare ((vdats m D lnw lnb s0 0 c).after 5 t)
    ∗ owns (c : Thread nD τ) (st0_6 t) fullShare ((vdats m D lnw lnb s0 0 c).after 6 t)
    ∗ owns (c : Thread nD τ) (st0_7 t) fullShare ((vdats m D lnw lnb s0 0 c).after 7 t)
    ∗ owns (c : Thread nD τ) (st0_8 t) fullShare ((vdats m D lnw lnb s0 0 c).after 8 t)
    ∗ owns (c : Thread nD τ) (st0_9 t) fullShare ((vdats m D lnw lnb s0 0 c).after 9 t)
    ∗ owns (c : Thread nD τ) (st0_10 t) fullShare ((vdats m D lnw lnb s0 0 c).after 10 t)
    ∗ owns (c : Thread nD τ) (st0_11 t) fullShare ((vdats m D lnw lnb s0 0 c).after 11 t)
    ∗ owns (c : Thread nD τ) (st0_12 t) fullShare ((vdats m D lnw lnb s0 0 c).after 12 t)
    ∗ owns (c : Thread nD τ) (st0_13 t) fullShare ((vdats m D lnw lnb s0 0 c).after 13 t)
    ∗ (vdats m D lnw lnb s0 0 c).leavesExact 14 t)

variable {m D lnw lnb s0}

/-- The body at any point, by the four kinds of point. -/
theorem vsound_body (c : Dev nD) (A : Launched m c D lnw lnb s0) (t : Fin cfg0.N) :
    vbodyPre m D lnw lnb s0 c t ⊢ wp Idealize.ShloMosaic.frame (wpE (defs₀ (F := Ideal)) Variants.none c none) Set.univ (bodyAt0 t) (fun _ => vbodyPost m D lnw lnb s0 c t) := by
  unfold vbodyPre vbodyPost bodyAt0
  simp only [vbefore_0, vafter_0, vbefore_1, vafter_1, vbefore_2, vafter_2, vbefore_3, vafter_3, vbefore_4, vafter_4, vbefore_5, vafter_5, vbefore_6, vafter_6, vbefore_7, vafter_7, vbefore_8, vafter_8, vbefore_9, vafter_9, vbefore_10, vafter_10, vbefore_11, vafter_11, vbefore_12, vafter_12, vafter_13]
  rw [show (vdats m D lnw lnb s0 0 c).owesAt () t.succ = (vdats m D lnw lnb s0 0 c).owesAt () t.castSucc from rfl,
    show (vdats m D lnw lnb s0 0 c).Φ t.castSucc = scr D s0 c t.val from rfl,
    show (vdats m D lnw lnb s0 0 c).Φ t.succ = scr D s0 c (t.val + 1) from rfl]
  unfold scr
  by_cases h7 : t.val % 8 = 7
  · have n0 : t.val ≠ 0 := by omega
    have n8 : t.val % 8 ≠ 0 := by omega
    rw [leaves14_live m D lnw lnb s0 c t h7]
    iintro ⟨⟨⟨%z0, %z1, %z2, %z3, %z4, %z5, %z6, %z7, S0, S1, S2, S3, S4, S5, S6, S7, %hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (strongD c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ z0 z1 z2 z3 z4 z5 z6 z7 (fun h => n0 ((c1_iff t).mp h)) (fun h => n8 ((c2_iff t).mp h)) ((c3_iff t).mpr h7) (A.inp t) (hs.1 n0) (hs.2 n8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iintro ⟨H0, H1, H2, H3, H4, H5, H6, H7, H8, H9, H10, H11, H12, %e13, %e14, %y0, %y1, %y2, %y3, %y4, %y5, %y6, %y7, H13, H14, S0, S1, S2, S3, S4, S5, S6, S7, %hp⟩
    have hq := PointPost.change hp.1 (A.lnw_blk t) (A.lnb_blk t)
    isplitl [S0 S1 S2 S3 S4 S5 S6 S7 Hg]
    · isplitr [Hg]; swap; · iexact Hg
      iexists y0
      iexists y1
      iexists y2
      iexists y3
      iexists y4
      iexists y5
      iexists y6
      iexists y7
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      ipureintro; exact hq.next
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · rw [← hq.outBlk]; iexact H13
    rw [← stBlk h7 hp.2]; iexact H14
  · have n3 : ¬ k0_cond3 (grid0.coords t) = 1#1 := fun h => h7 ((c3_iff t).mp h)
    rw [leaves14_idle m D lnw lnb s0 c t h7]
    iintro ⟨⟨⟨%z0, %z1, %z2, %z3, %z4, %z5, %z6, %z7, S0, S1, S2, S3, S4, S5, S6, S7, %hs⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    obtain h0 | ⟨n0, h8⟩ | ⟨n0, n8⟩ : t.val = 0 ∨ (t.val ≠ 0 ∧ t.val % 8 = 0) ∨ (t.val ≠ 0 ∧ t.val % 8 ≠ 0) := by omega
    case' inl =>
      iapply (strongA c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ z0 z1 z2 z3 z4 z5 z6 z7 ((c1_iff t).mpr h0) ((c2_iff t).mpr (by omega)) n3 (A.inp t) (A.start t (by omega)) _)
    case' inr.inl =>
      iapply (strongB c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ z0 z1 z2 z3 z4 z5 z6 z7 (fun h => n0 ((c1_iff t).mp h)) ((c2_iff t).mpr h8) n3 (A.inp t) (hs.1 n0) (A.start t h8) _)
    case' inr.inr =>
      iapply (strongC c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ z0 z1 z2 z3 z4 z5 z6 z7 (fun h => n0 ((c1_iff t).mp h)) (fun h => n8 ((c2_iff t).mp h)) n3 (A.inp t) (hs.1 n0) (hs.2 n8) _)
    all_goals
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iintro ⟨H0, H1, H2, H3, H4, H5, H6, H7, H8, H9, H10, H11, H12, %e13, %y0, %y1, %y2, %y3, %y4, %y5, %y6, %y7, H13, H14, S0, S1, S2, S3, S4, S5, S6, S7, %hp⟩
      have hq := PointPost.change hp (A.lnw_blk t) (A.lnb_blk t)
      isplitl [S0 S1 S2 S3 S4 S5 S6 S7 Hg]
      · isplitr [Hg]; swap; · iexact Hg
        iexists y0
        iexists y1
        iexists y2
        iexists y3
        iexists y4
        iexists y5
        iexists y6
        iexists y7
        isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        ipureintro; exact hq.next
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · rw [← hq.outBlk]; iexact H13
      iexists d14; iexact H14

/-- The pipeline's body obligation. -/
theorem vbody_obligation (c : Dev nD) (A : Launched m c D lnw lnb s0) :
    BodyObligation (vdats m D lnw lnb s0 0 c) (defs₀ (F := Ideal)) Variants.none () Set.univ := fun t => by
  rw [bigSep_W0, bigSep_W0, defs₀_row]
  exact triple_restated (vsound_body c A t) rfl .rfl fun _ => .rfl

/-- Before the first point nothing is asked of the scratch, -/
theorem scr_in (c : Dev nD) : (Pipeline.ΦA spec0 c : sProp 𝕄) ⊢ scr D s0 c 0 := by
  rw [PhiA0_eq]; unfold scr
  iintro ⟨⟨⟨%z0, S0⟩, ⟨%z1, S1⟩, ⟨%z2, S2⟩, ⟨%z3, S3⟩, ⟨%z4, S4⟩, ⟨%z5, S5⟩, ⟨%z6, S6⟩, ⟨%z7, S7⟩⟩, Hg⟩
  isplitr [Hg]; swap; · iexact Hg
  iexists z0
  iexists z1
  iexists z2
  iexists z3
  iexists z4
  iexists z5
  iexists z6
  iexists z7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  ipureintro
  exact ⟨fun h => absurd rfl h, fun h => absurd rfl h⟩

/-- and after the last nothing is told of it. -/
theorem scr_out (c : Dev nD) (n : ℕ) : scr D s0 c n ⊢ (Pipeline.ΦA spec0 c : sProp 𝕄) := by
  rw [PhiA0_eq]; unfold scr
  iintro ⟨⟨%z0, %z1, %z2, %z3, %z4, %z5, %z6, %z7, S0, S1, S2, S3, S4, S5, S6, S7, %hs⟩, Hg⟩
  isplitr [Hg]; swap; · iexact Hg
  isplitl [S0]; · iexists z0; iexact S0
  isplitl [S1]; · iexists z1; iexact S1
  isplitl [S2]; · iexists z2; iexact S2
  isplitl [S3]; · iexists z3; iexact S3
  isplitl [S4]; · iexists z4; iexact S4
  isplitl [S5]; · iexists z5; iexact S5
  isplitl [S6]; · iexists z6; iexact S6
  iexists z7; iexact S7

set_option backward.isDefEq.respectTransparency.types false in
/-- The launch. -/
theorem vrun_main (A : ∀ c, Launched m c D lnw lnb s0) :
    θ_run defs (onTc (τ := τ) (main (F := Ideal))) (s₀ m ρ) (Pipeline.FramePost cfgs (vdats m D lnw lnb s0) 0 (V m)) :=
  Pipeline.θ_run_frame_track cfgs (vdats m D lnw lnb s0) (0 : Fin 1) launch0 defs₀ Variants.none m ρ main
    (hbody := fun c => (vbody_obligation c (A c)).loose) (hshare := fun c => (vdats m D lnw lnb s0 0 c).share_full fun _ => rfl)
    (howed := fun _ _ => rfl) (V := V m) (hmain := hmain m Variants.none) (hA := vA_eq m D lnw lnb s0)
    (hin := fun c => scr_in c) (hout := fun c => scr_out c _)

end Cert.KernelIdeal.Hand

end
-- ==== Proof.Kern.KernelValue.lean ====
/-
  The kernel's run over real arguments: its two result arrays hold the token recurrence's outputs and last states. Each
  block of outputs is written back by its own grid point, each block of states by its batch's last point; the blocks cover
  the arrays.
-/
module

public import proofs.«01_k».proof.Proof.Kern.ValueBody

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem Cert.Chunk

variable (m : (ℓ : Loc nD τ sig) → Buf (Elt Ideal) ℓ) (ρ : (d : Dev nD) → PrngReg)
  (D : Fin 6 → ChunkR) (lnw lnb : Fin 48 → Fin 128 → EReal) (s0 : Fin 6 → Fin 48 → Fin 96 → Fin 128 → ℝ) (c : Dev nD)

/-- A grid point writes back its block of the outputs, -/
theorem flushed_13 (t : Fin cfg0.N) : (vdats m D lnw lnb s0 0 c).flushed 13 t
    = (win0_13.blk t).view.read (Elt Ideal) (outArr D lnw lnb s0) := by
  show (cfg0.win 13).cut (grid0.coords t) ((vdats m D lnw lnb s0 0 c).after 13 t) = _
  rw [vafter_13]

/-- and its block of the states. -/
theorem flushed_14 (t : Fin cfg0.N) : (vdats m D lnw lnb s0 0 c).flushed 14 t
    = (win0_14.blk t).view.read (Elt Ideal) (stArr D s0) := by
  show (cfg0.win 14).cut (grid0.coords t) ((vdats m D lnw lnb s0 0 c).after 14 t) = _
  rw [vafter_14]

/-- An output's index is in the block of the point that holds its batch and its token's chunk. -/
theorem mem_blk_13 (t : Fin cfg0.N) (i : S6x256x6144.Idx) (h0 : (i 0).val = t.val / 8) (h1 : (i 1).val / 32 = t.val % 8) :
    i ∈ ((cfg0.win 13).blk t).view.set := by
  show i ∈ ((View.whole main_v6_0).slice (win0_13.rect t)).set
  rw [View.set_slice_whole, Rect.mem_set_unit]
  have x0 : win0_13.xsize (grid0.coords t) 0 = 1 := rfl
  have x1 : win0_13.xsize (grid0.coords t) 1 = 32 := rfl
  have x2 : win0_13.xsize (grid0.coords t) 2 = 6144 := rfl
  have j0 : win0_13.index t 0 = t.val / 8 := index_13 t 0
  have j1 : win0_13.index t 1 = t.val % 8 := index_13 t 1
  have j2 : win0_13.index t 2 = 0 := index_13 t 2
  have l2 : (i 2).val < 6144 := (i 2).isLt
  intro a
  match a with
  | ⟨0, _⟩ =>
    show win0_13.index t 0 * 1 ≤ (i 0).val ∧ (i 0).val < win0_13.index t 0 * 1 + win0_13.xsize (grid0.coords t) 0
    rw [j0, x0]; omega
  | ⟨1, _⟩ =>
    show win0_13.index t 1 * 32 ≤ (i 1).val ∧ (i 1).val < win0_13.index t 1 * 32 + win0_13.xsize (grid0.coords t) 1
    rw [j1, x1]; omega
  | ⟨2, _⟩ =>
    show win0_13.index t 2 * 6144 ≤ (i 2).val ∧ (i 2).val < win0_13.index t 2 * 6144 + win0_13.xsize (grid0.coords t) 2
    rw [j2, x2]; omega

/-- A state's index is in the block of every point of its batch. -/
theorem mem_blk_14 (t : Fin cfg0.N) (i : S6x48x128x96.Idx) (h0 : (i 0).val = t.val / 8) :
    i ∈ ((cfg0.win 14).blk t).view.set := by
  show i ∈ ((View.whole main_v6_1).slice (win0_14.rect t)).set
  rw [View.set_slice_whole, Rect.mem_set_unit]
  have x0 : win0_14.xsize (grid0.coords t) 0 = 1 := rfl
  have x1 : win0_14.xsize (grid0.coords t) 1 = 48 := rfl
  have x2 : win0_14.xsize (grid0.coords t) 2 = 128 := rfl
  have x3 : win0_14.xsize (grid0.coords t) 3 = 96 := rfl
  have j0 : win0_14.index t 0 = t.val / 8 := index_14 t 0
  have j1 : win0_14.index t 1 = 0 := index_14 t 1
  have j2 : win0_14.index t 2 = 0 := index_14 t 2
  have j3 : win0_14.index t 3 = 0 := index_14 t 3
  have l1 : (i 1).val < 48 := (i 1).isLt
  have l2 : (i 2).val < 128 := (i 2).isLt
  have l3 : (i 3).val < 96 := (i 3).isLt
  intro a
  match a with
  | ⟨0, _⟩ =>
    show win0_14.index t 0 * 1 ≤ (i 0).val ∧ (i 0).val < win0_14.index t 0 * 1 + win0_14.xsize (grid0.coords t) 0
    rw [j0, x0]; omega
  | ⟨1, _⟩ =>
    show win0_14.index t 1 * 48 ≤ (i 1).val ∧ (i 1).val < win0_14.index t 1 * 48 + win0_14.xsize (grid0.coords t) 1
    rw [j1, x1]; omega
  | ⟨2, _⟩ =>
    show win0_14.index t 2 * 128 ≤ (i 2).val ∧ (i 2).val < win0_14.index t 2 * 128 + win0_14.xsize (grid0.coords t) 2
    rw [j2, x2]; omega
  | ⟨3, _⟩ =>
    show win0_14.index t 3 * 96 ≤ (i 3).val ∧ (i 3).val < win0_14.index t 3 * 96 + win0_14.xsize (grid0.coords t) 3
    rw [j3, x3]; omega

/-- The blocks of outputs cover their array. -/
theorem cover_13 (i : S6x256x6144.Idx) : ∃ t : Fin cfg0.N, (cfg0.win 13).flush t = true ∧ i ∈ ((cfg0.win 13).blk t).view.set := by
  have l0 : (i 0).val < 6 := (i 0).isLt
  have l1 : (i 1).val < 256 := (i 1).isLt
  have ht : 8 * (i 0).val + (i 1).val / 32 < cfg0.N := lt_of_lt_of_eq (show _ < 48 by omega) N_0.symm
  refine ⟨⟨_, ht⟩, flush0_13 _, mem_blk_13 _ i ?_ ?_⟩
  · show (i 0).val = (8 * (i 0).val + (i 1).val / 32) / 8; omega
  · show (i 1).val / 32 = (8 * (i 0).val + (i 1).val / 32) % 8; omega

/-- The blocks of states written back by the batches' last points cover theirs. -/
theorem cover_14 (i : S6x48x128x96.Idx) : ∃ t : Fin cfg0.N, (cfg0.win 14).flush t = true ∧ i ∈ ((cfg0.win 14).blk t).view.set := by
  have l0 : (i 0).val < 6 := (i 0).isLt
  have ht : 8 * (i 0).val + 7 < cfg0.N := lt_of_lt_of_eq (show _ < 48 by omega) N_0.symm
  refine ⟨⟨_, ht⟩, (flush0_14 _).mpr ?_, mem_blk_14 _ i ?_⟩
  · show (8 * (i 0).val + 7) % 8 = 7; omega
  · show (i 0).val = (8 * (i 0).val + 7) / 8; omega

/-- The first result array ends as the outputs, -/
theorem final_13 : (vdats m D lnw lnb s0 0 c).arrAt 13 cfg0.N = outArr D lnw lnb s0 :=
  (vdats m D lnw lnb s0 0 c).arrAt_eq_of_cover 13 (outArr D lnw lnb s0) (fun t _ => flushed_13 m D lnw lnb s0 c t) cover_13

/-- the second as the states after all tokens. -/
theorem final_14 : (vdats m D lnw lnb s0 0 c).arrAt 14 cfg0.N = stArr D s0 :=
  (vdats m D lnw lnb s0 0 c).arrAt_eq_of_cover 14 (stArr D s0) (fun t _ => flushed_14 m D lnw lnb s0 c t) cover_14

variable {m D lnw lnb s0}

/-- The kernel's run: both results at the recurrence's values, the arguments unchanged. -/
theorem run_values (A : ∀ c, Launched m c D lnw lnb s0) :
    θ_run defs (onTc (τ := τ) (main (F := Ideal))) ⟨m, fun _ => 0, ρ⟩ fun r => ∀ c : Dev nD,
        r.2.mem ((c : Thread nD τ).loc main_v6_0) = outArr D lnw lnb s0
        ∧ r.2.mem ((c : Thread nD τ).loc main_v6_1) = stArr D s0
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)
        ∧ r.2.mem ((c : Thread nD τ).loc main_arg7) = m ((c : Thread nD τ).loc main_arg7)
        ∧ r.2.mem ((c : Thread nD τ).loc main_arg8) = m ((c : Thread nD τ).loc main_arg8)
        ∧ r.2.mem ((c : Thread nD τ).loc main_arg9) = m ((c : Thread nD τ).loc main_arg9)
        ∧ r.2.mem ((c : Thread nD τ).loc main_arg10) = m ((c : Thread nD τ).loc main_arg10)
        ∧ r.2.mem ((c : Thread nD τ).loc main_arg11) = m ((c : Thread nD τ).loc main_arg11)
        ∧ r.2.mem ((c : Thread nD τ).loc main_arg12) = m ((c : Thread nD τ).loc main_arg12) :=
  (θ_run defs _ _).mono (fun r h c =>
    ⟨((h c).1 13).trans (final_13 m D lnw lnb s0 c), ((h c).1 14).trans (final_14 m D lnw lnb s0 c),
      ((h c).2 main_arg0 (Pipeline.mem_restRefs_of main_arg0 (by decide) (by decide))).trans (V_main_arg0 m c),
      ((h c).1 1).trans (((vdats m D lnw lnb s0 0 c).arrAt_in 1 rfl _).trans ((vA_eq m D lnw lnb s0 c 1).trans (V_main_arg1 m c))),
      ((h c).2 main_arg2 (Pipeline.mem_restRefs_of main_arg2 (by decide) (by decide))).trans (V_main_arg2 m c),
      ((h c).1 3).trans (((vdats m D lnw lnb s0 0 c).arrAt_in 3 rfl _).trans ((vA_eq m D lnw lnb s0 c 3).trans (V_main_arg3 m c))),
      ((h c).2 main_arg4 (Pipeline.mem_restRefs_of main_arg4 (by decide) (by decide))).trans (V_main_arg4 m c),
      ((h c).1 5).trans (((vdats m D lnw lnb s0 0 c).arrAt_in 5 rfl _).trans ((vA_eq m D lnw lnb s0 c 5).trans (V_main_arg5 m c))),
      ((h c).1 6).trans (((vdats m D lnw lnb s0 0 c).arrAt_in 6 rfl _).trans ((vA_eq m D lnw lnb s0 c 6).trans (V_main_arg6 m c))),
      ((h c).1 7).trans (((vdats m D lnw lnb s0 0 c).arrAt_in 7 rfl _).trans ((vA_eq m D lnw lnb s0 c 7).trans (V_main_arg7 m c))),
      ((h c).1 8).trans (((vdats m D lnw lnb s0 0 c).arrAt_in 8 rfl _).trans ((vA_eq m D lnw lnb s0 c 8).trans (V_main_arg8 m c))),
      ((h c).1 9).trans (((vdats m D lnw lnb s0 0 c).arrAt_in 9 rfl _).trans ((vA_eq m D lnw lnb s0 c 9).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩) (vrun_main ρ A)

end Cert.KernelIdeal.Hand

end
-- ==== Proof.Kern.RefStep.lean ====
/-
  One token of the reference, as numbers: from the state before the token and the token's rows, the state after it
  and the token's normed output, as the token recurrence gives them.
-/
module

public import proofs.«01_k».proof.Proof.Kern.TripSpec
public import proofs.«01_k».proof.Proof.Gen.ReferenceIdeal.Value

@[expose] public section

set_option maxRecDepth 16384
set_option maxHeartbeats 1000000

noncomputable section

namespace Cert.ReferenceIdeal.Hand

open Cert.ReferenceIdeal Cert.ReferenceIdeal.Gen Cert.Chunk
open Cert.KernelIdeal.Hand (ChunkR ew normed mean vari vari_nonneg eps eps_pos ceps c128 coe_sum)
open Idealize.ShloMosaic Finset

/-- A head's lane in a row of all heads. -/
abbrev col (h : Fin 48) (y : Fin 128) : Fin 6144 := ⟨128 * h.val + y.val, by omega⟩

/-- The rows the reference loads for one token. -/
structure Rows where
  r : Vec Ideal S6x1x48x96 .fp8e4m3
  rs : Vec Ideal S6x1x48 .f32
  k : Vec Ideal S6x1x48x96 .fp8e4m3
  ks : Vec Ideal S6x1x48 .f32
  v : Vec Ideal S6x1x48x128 .fp8e4m3
  vs : Vec Ideal S6x1x48 .f32
  a : Vec Ideal S6x1x48x96 .bf16
  b : Vec Ideal S6x1x48x96 .bf16
  rk : Vec Ideal S48x96 .f32
  w : Vec Ideal S6x1x48x96 .f32
  lnw : Vec Ideal S6144 .f32
  lnb : Vec Ideal S6144 .f32

/-- The rows hold the batch's reals of token `t`. -/
structure Rows.Is (X : Rows) (D : Fin 6 → ChunkR) (lnw lnb : Fin 48 → Fin 128 → EReal) (t : ℕ) : Prop where
  r : ∀ b h c, X.r (ix4 b 0 h c) = ((D b).r h t c : EReal)
  rs : ∀ b h, X.rs (ix3 b 0 h) = ((D b).rs h t : EReal)
  k : ∀ b h c, X.k (ix4 b 0 h c) = ((D b).k h t c : EReal)
  ks : ∀ b h, X.ks (ix3 b 0 h) = ((D b).ks h t : EReal)
  v : ∀ b h y, X.v (ix4 b 0 h y) = ((D b).v h t y : EReal)
  vs : ∀ b h, X.vs (ix3 b 0 h) = ((D b).vs h t : EReal)
  a : ∀ b h c, X.a (ix4 b 0 h c) = ((D b).a h t c : EReal)
  b : ∀ b h c, X.b (ix4 b 0 h c) = ((D b).b h t c : EReal)
  rk : ∀ b h c, X.rk (ix2 h c) = ((D b).rk h c : EReal)
  w : ∀ b h c, X.w (ix4 b 0 h c) = ((D b).w h t c : EReal)
  lnw : ∀ h y, X.lnw (ix1 (col h y)) = lnw h y
  lnb : ∀ h y, X.lnb (ix1 (col h y)) = lnb h y

namespace Rows
variable (X : Rows) (S : Vec Ideal S6x48x128x96 .f32) (o : FVec Ideal S6x256x6144 .f32)

abbrev rr : FVec Ideal S6x48x96 .f32 := k0_pay4 (F := Ideal) X.r X.rs
abbrev kk : FVec Ideal S6x48x96 .f32 := k0_pay5 (F := Ideal) X.k X.ks
abbrev vv : FVec Ideal S6x48x128 .f32 := k0_pay6 (F := Ideal) X.v X.vs
abbrev aa : FVec Ideal S6x48x96 .f32 := k0_pay7 (F := Ideal) X.a
abbrev bb : FVec Ideal S6x48x96 .f32 := k0_pay8 (F := Ideal) X.b
/-- The state after the token. -/
abbrev newS : FVec Ideal S6x48x128x96 .f32 := k0_pay10 (F := Ideal) S X.kk X.vv X.aa X.bb X.w
/-- The output array after the token, whose number is the word `n`. -/
abbrev newO (n : BitVec 32) : FVec Ideal S6x256x6144 .f32 :=
  k0_pay2 (F := Ideal) o n X.vv (k0_pay9 (F := Ideal) X.rr X.kk X.rk) (k0_pay11 (F := Ideal) S X.rr X.kk X.vv X.aa X.bb X.w)
    (k0_pay12 (F := Ideal) S X.rr X.kk X.vv X.aa X.bb X.w) X.lnw X.lnb

variable {X S o} {D : Fin 6 → ChunkR} {s0 : Fin 6 → Fin 48 → Fin 96 → Fin 128 → ℝ} {lnw lnb : Fin 48 → Fin 128 → EReal} {t : ℕ} (H : X.Is D lnw lnb t)
include H

/-- The dequantised `r`, -/
theorem rr_val (b : Fin 6) (h : Fin 48) (c : Fin 96) : X.rr (ix3 b h c) = (((D b).r h t c * (D b).rs h t : ℝ) : EReal) := by
  pointwise [rr, k0_pay4]; rw [H.r, H.rs, EReal.coe_mul]

/-- `k`, -/
theorem kk_val (b : Fin 6) (h : Fin 48) (c : Fin 96) : X.kk (ix3 b h c) = (((D b).k h t c * (D b).ks h t : ℝ) : EReal) := by
  pointwise [kk, k0_pay5]; rw [H.k, H.ks, EReal.coe_mul]

/-- and `v` of the token. -/
theorem vv_val (b : Fin 6) (h : Fin 48) (y : Fin 128) : X.vv (ix3 b h y) = (((D b).v h t y * (D b).vs h t : ℝ) : EReal) := by
  pointwise [vv, k0_pay6]; rw [H.v, H.vs, EReal.coe_mul]

/-- The token's removal vector, -/
theorem aa_val (b : Fin 6) (h : Fin 48) (c : Fin 96) : X.aa (ix3 b h c) = ((D b).a h t c : EReal) := by
  pointwise [aa, k0_pay7]; rw [H.a]

/-- and its replacement vector. -/
theorem bb_val (b : Fin 6) (h : Fin 48) (c : Fin 96) : X.bb (ix3 b h c) = ((D b).b h t c : EReal) := by
  pointwise [bb, k0_pay8]; rw [H.b]

/-- The bonus of the token. -/
theorem bonus_val (b : Fin 6) (h : Fin 48) : k0_pay9 (F := Ideal) X.rr X.kk X.rk (ix2 b h)
    = ((∑ c, (D b).r h t c * (D b).rs h t * ((D b).k h t c * (D b).ks h t) * (D b).rk h c : ℝ) : EReal) := by
  have e : ∀ c, X.rk (ix2 h c) = ((D b).rk h c : EReal) := fun c => H.rk b h c
  pointwise [k0_pay9]
  simp only [rr_val H, kk_val H, e, ← EReal.coe_mul, coe_sum]

variable (hS : ∀ b h c y, S (ix4 b h y c) = ((D b).state (s0 b) t h c y : EReal))
include hS

/-- The state after the token is the recurrence's. -/
theorem newS_val (b : Fin 6) (h : Fin 48) (c : Fin 96) (y : Fin 128) : X.newS S (ix4 b h y c) = ((D b).state (s0 b) (t + 1) h c y : EReal) := by
  pointwise [newS, k0_pay10]
  simp only [hS, H.w, kk_val H, vv_val H, aa_val H, bb_val H, ← EReal.coe_mul, coe_sum, Ideal.exp_coe, ← EReal.coe_add]
  rfl

/-- What the layer norm divides. -/
theorem centred_val (b : Fin 6) (h : Fin 48) (y : Fin 128) : k0_pay11 (F := Ideal) S X.rr X.kk X.vv X.aa X.bb X.w (ix3 b h y)
    = (((D b).raw (s0 b) t h y - mean ((D b).raw (s0 b) t h) : ℝ) : EReal) := by
  have n := newS_val H hS
  unfold newS at n
  pointwise [k0_pay11]
  simp only [n, rr_val H, ← EReal.coe_mul, coe_sum]
  rw [c128, Ideal.div_coe (by norm_num : (128 : ℝ) ≠ 0), ← EReal.coe_mul, ← EReal.coe_sub]
  congr 1
  unfold mean ChunkR.raw ot
  rw [mul_one_div]
  rfl

/-- The square root the layer norm divides by. -/
theorem dev_val (b : Fin 6) (h : Fin 48) : k0_pay12 (F := Ideal) S X.rr X.kk X.vv X.aa X.bb X.w (ix3 b h 0)
    = ((Real.sqrt (vari ((D b).raw (s0 b) t h) + eps) : ℝ) : EReal) := by
  pointwise [k0_pay12]
  simp only [centred_val H hS, ← EReal.coe_mul, coe_sum]
  rw [c128, ceps, Ideal.div_coe (by norm_num : (128 : ℝ) ≠ 0), ← EReal.coe_mul, ← EReal.coe_add, mul_one_div]
  have p : 0 < vari ((D b).raw (s0 b) t h) + eps := add_pos_of_nonneg_of_pos (vari_nonneg _) eps_pos
  exact (Ideal.sqrt_coe _).trans (if_neg (not_lt.mpr p.le))

/-- The output array after the token: the token's row is the recurrence's, the others are as before. -/
theorem newO_val (k : ℕ) (hk : k < 256) (b : Fin 6) (τ : Fin 256) (h : Fin 48) (y : Fin 128) : X.newO S o (BitVec.ofNat 32 k) (ix3 b τ (col h y))
    = if τ.val = k then (D b).out (s0 b) lnw lnb t h y else o (ix3 b τ (col h y)) := by
  have d := centred_val H hS b h y
  have q := dev_val H hS b h
  have z := bonus_val H b h
  have v := vv_val H b h y
  have p : 0 < vari ((D b).raw (s0 b) t h) + eps := add_pos_of_nonneg_of_pos (vari_nonneg _) eps_pos
  have e : (⟨h.val * 128 + y.val, by omega⟩ : Fin 6144) = col h y := Fin.ext (by dsimp only; omega)
  have lw : X.lnw (ix1 ⟨h.val * 128 + y.val, by omega⟩) = lnw h y := by rw [e]; exact H.lnw h y
  have lb : X.lnb (ix1 ⟨h.val * 128 + y.val, by omega⟩) = lnb h y := by rw [e]; exact H.lnb h y
  pointwise [newO, k0_pay2]
  rw [d, q, z, v, lw, lb, Ideal.div_coe (Real.sqrt_pos.mpr p).ne', one_div, ← EReal.coe_mul (∑ _, _)]
  have tk := τ.isLt
  by_cases E : τ.val = k
  · rw [if_pos E, E]
    exact if_pos (show BitVec.ofBool (BitVec.ofNat 32 k == BitVec.ofNat 32 k) = 1 by rw [beq_self_eq_true]; rfl)
  · have E' : BitVec.ofNat 32 τ.val ≠ BitVec.ofNat 32 k := by
      intro h'
      have := congrArg BitVec.toNat h'
      rw [BitVec.toNat_ofNat, BitVec.toNat_ofNat, Nat.mod_eq_of_lt (by omega), Nat.mod_eq_of_lt (by omega)] at this
      exact E this
    rw [if_neg E]
    exact if_neg (show ¬ BitVec.ofBool (BitVec.ofNat 32 τ.val == BitVec.ofNat 32 k) = 1 by rw [beq_false_of_ne E']; decide)

end Rows

end Cert.ReferenceIdeal.Hand

end
-- ==== Proof.Kern.RefLoop.lean ====
/-
  The reference's loop over the tokens: the carried state and the carried output array before each token, as the token
  recurrence gives them.
-/
module

public import proofs.«01_k».proof.Proof.Kern.RefStep

@[expose] public section

set_option maxRecDepth 16384
set_option maxHeartbeats 1000000

noncomputable section

namespace Cert.ReferenceIdeal.Hand

open Cert.ReferenceIdeal Cert.ReferenceIdeal.Gen Cert.Chunk
open Cert.KernelIdeal.Hand (ChunkR)
open Idealize.ShloMosaic Finset

/-- The buffers of the reference's body and what its inputs hold. -/
structure Refs where
  c : Dev nD
  arg0 : Memref sig .tc .vmem S6x256x48x96 .fp8e4m3
  harg0 : arg0.IsWhole
  arg1 : Memref sig .tc .vmem S6x256x48 .f32
  harg1 : arg1.IsWhole
  arg2 : Memref sig .tc .vmem S6x256x48x96 .fp8e4m3
  harg2 : arg2.IsWhole
  arg3 : Memref sig .tc .vmem S6x256x48 .f32
  harg3 : arg3.IsWhole
  arg4 : Memref sig .tc .vmem S6x256x48x128 .fp8e4m3
  harg4 : arg4.IsWhole
  arg5 : Memref sig .tc .vmem S6x256x48 .f32
  harg5 : arg5.IsWhole
  arg6 : Memref sig .tc .vmem S6x256x48x96 .bf16
  harg6 : arg6.IsWhole
  arg7 : Memref sig .tc .vmem S6x256x48x96 .bf16
  harg7 : arg7.IsWhole
  arg8 : Memref sig .tc .vmem S6x256x48x96 .f32
  harg8 : arg8.IsWhole
  arg9 : Memref sig .tc .vmem S6x48x128x96 .f32
  harg9 : arg9.IsWhole
  arg10 : Memref sig .tc .vmem S48x96 .f32
  harg10 : arg10.IsWhole
  arg11 : Memref sig .tc .vmem S6144 .f32
  harg11 : arg11.IsWhole
  arg12 : Memref sig .tc .vmem S6144 .f32
  harg12 : arg12.IsWhole
  arg13 : Memref sig .tc .vmem S6x256x6144 .bf16
  harg13 : arg13.IsWhole
  arg14 : Memref sig .tc .vmem S6x48x128x96 .f32
  harg14 : arg14.IsWhole
  f0 : BufTy.Contents (Elt Ideal) arg0.view.ty
  f1 : BufTy.Contents (Elt Ideal) arg1.view.ty
  f2 : BufTy.Contents (Elt Ideal) arg2.view.ty
  f3 : BufTy.Contents (Elt Ideal) arg3.view.ty
  f4 : BufTy.Contents (Elt Ideal) arg4.view.ty
  f5 : BufTy.Contents (Elt Ideal) arg5.view.ty
  f6 : BufTy.Contents (Elt Ideal) arg6.view.ty
  f7 : BufTy.Contents (Elt Ideal) arg7.view.ty
  f8 : BufTy.Contents (Elt Ideal) arg8.view.ty
  f10 : BufTy.Contents (Elt Ideal) arg10.view.ty
  f11 : BufTy.Contents (Elt Ideal) arg11.view.ty
  f12 : BufTy.Contents (Elt Ideal) arg12.view.ty

namespace Refs
variable (B : Refs)

/-- What a trip loads. -/
def rows (k : Fin k0_t1_loop.trips) : Rows where
  r := View.readAt (Elt Ideal) B.arg0.view (Rect.unit (s := S6x256x48x96) (k0_off1 k) S6x1x48x96.size (k0_off1_inb k)).toLoadRect B.f0
  rs := View.readAt (Elt Ideal) B.arg1.view (Rect.unit (s := S6x256x48) (k0_off2 k) S6x1x48.size (k0_off2_inb k)).toLoadRect B.f1
  k := View.readAt (Elt Ideal) B.arg2.view (Rect.unit (s := S6x256x48x96) (k0_off1 k) S6x1x48x96.size (k0_off1_inb k)).toLoadRect B.f2
  ks := View.readAt (Elt Ideal) B.arg3.view (Rect.unit (s := S6x256x48) (k0_off2 k) S6x1x48.size (k0_off2_inb k)).toLoadRect B.f3
  v := View.readAt (Elt Ideal) B.arg4.view (Rect.unit (s := S6x256x48x128) (k0_off3 k) S6x1x48x128.size (k0_off3_inb k)).toLoadRect B.f4
  vs := View.readAt (Elt Ideal) B.arg5.view (Rect.unit (s := S6x256x48) (k0_off2 k) S6x1x48.size (k0_off2_inb k)).toLoadRect B.f5
  a := View.readAt (Elt Ideal) B.arg6.view (Rect.unit (s := S6x256x48x96) (k0_off1 k) S6x1x48x96.size (k0_off1_inb k)).toLoadRect B.f6
  b := View.readAt (Elt Ideal) B.arg7.view (Rect.unit (s := S6x256x48x96) (k0_off1 k) S6x1x48x96.size (k0_off1_inb k)).toLoadRect B.f7
  rk := View.readAt (Elt Ideal) B.arg10.view (Rect.unit (s := S48x96) ![0, 0] S48x96.size inb_S48x96_S48x96_0_0).toLoadRect B.f10
  w := View.readAt (Elt Ideal) B.arg8.view (Rect.unit (s := S6x256x48x96) (k0_off1 k) S6x1x48x96.size (k0_off1_inb k)).toLoadRect B.f8
  lnw := View.readAt (Elt Ideal) B.arg11.view (Rect.unit (s := S6144) ![0] S6144.size inb_S6144_S6144_0).toLoadRect B.f11
  lnb := View.readAt (Elt Ideal) B.arg12.view (Rect.unit (s := S6144) ![0] S6144.size inb_S6144_S6144_0).toLoadRect B.f12

/-- The carried values before trip `n`. -/
def at_ (init : Vec Ideal S6x48x128x96 .f32 × FVec Ideal S6x256x6144 .f32) (n : ℕ) : Vec Ideal S6x48x128x96 .f32 × FVec Ideal S6x256x6144 .f32 :=
  st_k0_t1 (F := Ideal) Variants.none B.c none B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.f0 B.f1 B.f2 B.f3 B.f4 B.f5 B.f6 B.f7 B.f8 B.f10 B.f11 B.f12 init n

/-- The loop has one trip per token. -/
theorem trips : k0_t1_loop.trips = 256 := by decide +kernel

/-- One trip. -/
theorem at_succ (init : Vec Ideal S6x48x128x96 .f32 × FVec Ideal S6x256x6144 .f32) (k : Fin k0_t1_loop.trips) :
    B.at_ init (k.val + 1) = ((B.rows k).newS (B.at_ init k.val).1, (B.rows k).newO (B.at_ init k.val).1 (B.at_ init k.val).2 (Scf.iv 0#32 1#32 k)) := by
  unfold at_
  rw [st_k0_t1_succ (F := Ideal) Variants.none B.c none B.arg0 B.harg0 B.arg1 B.harg1 B.arg2 B.harg2 B.arg3 B.harg3 B.arg4 B.harg4 B.arg5 B.harg5 B.arg6 B.harg6 B.arg7 B.harg7 B.arg8 B.harg8 B.arg9 B.harg9 B.arg10 B.harg10 B.arg11 B.harg11 B.arg12 B.harg12 B.arg13 B.harg13 B.arg14 B.harg14 B.f0 B.f1 B.f2 B.f3 B.f4 B.f5 B.f6 B.f7 B.f8 B.f10 B.f11 B.f12 init k]
  unfold tripR_k0_t1 trip_k0_t1
  rfl

/-- The inputs hold the batches' reals. -/
structure Is (D : Fin 6 → ChunkR) (lnw lnb : Fin 48 → Fin 128 → EReal) : Prop where
  r : ∀ b (t : Fin 256) h c, B.arg0.view.read (Elt Ideal) B.f0 (ix4 b t h c) = ((D b).r h t c : EReal)
  rs : ∀ b (t : Fin 256) h, B.arg1.view.read (Elt Ideal) B.f1 (ix3 b t h) = ((D b).rs h t : EReal)
  k : ∀ b (t : Fin 256) h c, B.arg2.view.read (Elt Ideal) B.f2 (ix4 b t h c) = ((D b).k h t c : EReal)
  ks : ∀ b (t : Fin 256) h, B.arg3.view.read (Elt Ideal) B.f3 (ix3 b t h) = ((D b).ks h t : EReal)
  v : ∀ b (t : Fin 256) h y, B.arg4.view.read (Elt Ideal) B.f4 (ix4 b t h y) = ((D b).v h t y : EReal)
  vs : ∀ b (t : Fin 256) h, B.arg5.view.read (Elt Ideal) B.f5 (ix3 b t h) = ((D b).vs h t : EReal)
  a : ∀ b (t : Fin 256) h c, B.arg6.view.read (Elt Ideal) B.f6 (ix4 b t h c) = ((D b).a h t c : EReal)
  b : ∀ b (t : Fin 256) h c, B.arg7.view.read (Elt Ideal) B.f7 (ix4 b t h c) = ((D b).b h t c : EReal)
  w : ∀ b (t : Fin 256) h c, B.arg8.view.read (Elt Ideal) B.f8 (ix4 b t h c) = ((D b).w h t c : EReal)
  rk : ∀ b h c, B.arg10.view.read (Elt Ideal) B.f10 (ix2 h c) = ((D b).rk h c : EReal)
  lnw : ∀ h y, B.arg11.view.read (Elt Ideal) B.f11 (ix1 (col h y)) = lnw h y
  lnb : ∀ h y, B.arg12.view.read (Elt Ideal) B.f12 (ix1 (col h y)) = lnb h y

/-- The trip's number as the loop's index. -/
theorem iv_eq (k : Fin k0_t1_loop.trips) : Scf.iv 0#32 1#32 k = BitVec.ofNat 32 k.val :=
  (by decide +kernel : ∀ k : Fin k0_t1_loop.trips, Scf.iv 0#32 1#32 k = BitVec.ofNat 32 k.val) k
/-- The trip reads its own token of an array of codes, -/
theorem off1_eq (k : Fin k0_t1_loop.trips) : k0_off1 k = ![0, k.val, 0, 0] :=
  (by decide +kernel : ∀ k : Fin k0_t1_loop.trips, k0_off1 k = ![0, k.val, 0, 0]) k
/-- of an array of scales, -/
theorem off2_eq (k : Fin k0_t1_loop.trips) : k0_off2 k = ![0, k.val, 0] :=
  (by decide +kernel : ∀ k : Fin k0_t1_loop.trips, k0_off2 k = ![0, k.val, 0]) k
/-- of the values. -/
theorem off3_eq (k : Fin k0_t1_loop.trips) : k0_off3 k = ![0, k.val, 0, 0] :=
  (by decide +kernel : ∀ k : Fin k0_t1_loop.trips, k0_off3 k = ![0, k.val, 0, 0]) k

/-- A token's row of a four-axis input. -/
theorem row4 {e : EltTy} {n : ℕ} (m : Memref sig .tc .vmem ⟨4, ![6, 256, 48, n]⟩ e) (f : BufTy.Contents (Elt Ideal) m.view.ty) (k : Fin k0_t1_loop.trips)
    (o : Fin 4 → ℕ) (ho : o = ![0, k.val, 0, 0]) (inb : ∀ a, o a + (![6, 1, 48, n] : Fin 4 → ℕ) a ≤ (![6, 256, 48, n] : Fin 4 → ℕ) a) (b : Fin 6) (h : Fin 48) (x : Fin n) (hk : k.val < 256) :
    View.readAt (Elt Ideal) m.view (Rect.unit (s := ⟨4, ![6, 256, 48, n]⟩) o ![6, 1, 48, n] inb).toLoadRect f (ix4 b 0 h x)
      = m.view.read (Elt Ideal) f (ix4 b ⟨k.val, hk⟩ h x) := by
  subst ho
  rw [View.readAt_apply]
  refine congrArg (m.view.read (Elt Ideal) f) (funext fun a => Fin.ext ?_)
  match a with
  | ⟨0, _⟩ => show 0 + 1 * b.val = b.val; omega
  | ⟨1, _⟩ => show k.val + 1 * 0 = k.val; omega
  | ⟨2, _⟩ => show 0 + 1 * h.val = h.val; omega
  | ⟨3, _⟩ => show 0 + 1 * x.val = x.val; omega

/-- A token's row of scales. -/
theorem row3 {e : EltTy} (m : Memref sig .tc .vmem S6x256x48 e) (f : BufTy.Contents (Elt Ideal) m.view.ty) (k : Fin k0_t1_loop.trips)
    (o : Fin 3 → ℕ) (ho : o = ![0, k.val, 0]) (inb : ∀ a, o a + S6x1x48.size a ≤ S6x256x48.size a) (b : Fin 6) (h : Fin 48) (hk : k.val < 256) :
    View.readAt (Elt Ideal) m.view (Rect.unit (s := S6x256x48) o S6x1x48.size inb).toLoadRect f (ix3 b 0 h)
      = m.view.read (Elt Ideal) f (ix3 b ⟨k.val, hk⟩ h) := by
  subst ho
  rw [View.readAt_apply]
  refine congrArg (m.view.read (Elt Ideal) f) (funext fun a => Fin.ext ?_)
  match a with
  | ⟨0, _⟩ => show 0 + 1 * b.val = b.val; omega
  | ⟨1, _⟩ => show k.val + 1 * 0 = k.val; omega
  | ⟨2, _⟩ => show 0 + 1 * h.val = h.val; omega

variable {B} {D : Fin 6 → ChunkR} {lnw lnb : Fin 48 → Fin 128 → EReal} (H : B.Is D lnw lnb)
include H

/-- The rows a trip reads are its token's numbers. -/
theorem rows_is (k : Fin k0_t1_loop.trips) : (B.rows k).Is D lnw lnb k.val := by
  have hk : k.val < 256 := trips ▸ k.isLt
  constructor
  · exact fun b h c => (row4 B.arg0 B.f0 k _ (off1_eq k) _ b h c hk).trans (H.r b ⟨k.val, hk⟩ h c)
  · exact fun b h => (row3 B.arg1 B.f1 k _ (off2_eq k) _ b h hk).trans (H.rs b ⟨k.val, hk⟩ h)
  · exact fun b h c => (row4 B.arg2 B.f2 k _ (off1_eq k) _ b h c hk).trans (H.k b ⟨k.val, hk⟩ h c)
  · exact fun b h => (row3 B.arg3 B.f3 k _ (off2_eq k) _ b h hk).trans (H.ks b ⟨k.val, hk⟩ h)
  · exact fun b h c => (row4 B.arg4 B.f4 k _ (off3_eq k) _ b h c hk).trans (H.v b ⟨k.val, hk⟩ h c)
  · exact fun b h => (row3 B.arg5 B.f5 k _ (off2_eq k) _ b h hk).trans (H.vs b ⟨k.val, hk⟩ h)
  · exact fun b h c => (row4 B.arg6 B.f6 k _ (off1_eq k) _ b h c hk).trans (H.a b ⟨k.val, hk⟩ h c)
  · exact fun b h c => (row4 B.arg7 B.f7 k _ (off1_eq k) _ b h c hk).trans (H.b b ⟨k.val, hk⟩ h c)
  · intro b h c
    refine Eq.trans ?_ (H.rk b h c)
    show View.readAt (Elt Ideal) B.arg10.view _ B.f10 _ = _
    rw [View.readAt_apply]
    refine congrArg (B.arg10.view.read (Elt Ideal) B.f10) (funext fun a => Fin.ext ?_)
    match a with
    | ⟨0, _⟩ => show 0 + 1 * h.val = h.val; omega
    | ⟨1, _⟩ => show 0 + 1 * c.val = c.val; omega
  · exact fun b h c => (row4 B.arg8 B.f8 k _ (off1_eq k) _ b h c hk).trans (H.w b ⟨k.val, hk⟩ h c)
  · intro h y
    refine Eq.trans ?_ (H.lnw h y)
    show View.readAt (Elt Ideal) B.arg11.view _ B.f11 _ = _
    rw [View.readAt_apply]
    refine congrArg (B.arg11.view.read (Elt Ideal) B.f11) (funext fun a => Fin.ext ?_)
    match a with
    | ⟨0, _⟩ => show 0 + 1 * (128 * h.val + y.val) = 128 * h.val + y.val; omega
  · intro h y
    refine Eq.trans ?_ (H.lnb h y)
    show View.readAt (Elt Ideal) B.arg12.view _ B.f12 _ = _
    rw [View.readAt_apply]
    refine congrArg (B.arg12.view.read (Elt Ideal) B.f12) (funext fun a => Fin.ext ?_)
    match a with
    | ⟨0, _⟩ => show 0 + 1 * (128 * h.val + y.val) = 128 * h.val + y.val; omega

/-- Before token `n` the carried state is the recurrence's, and the rows of the tokens before are the outputs. -/
theorem at_val {s0 : Fin 6 → Fin 48 → Fin 96 → Fin 128 → ℝ} (init : Vec Ideal S6x48x128x96 .f32 × FVec Ideal S6x256x6144 .f32)
    (h0 : ∀ b h c y, init.1 (ix4 b h y c) = (s0 b h c y : EReal)) (n : ℕ) (hn : n ≤ 256) :
    (∀ b h c y, (B.at_ init n).1 (ix4 b h y c) = ((D b).state (s0 b) n h c y : EReal))
      ∧ ∀ b (t : Fin 256) h y, t.val < n → (B.at_ init n).2 (ix3 b t (col h y)) = (D b).out (s0 b) lnw lnb t h y := by
  induction n with
  | zero => exact ⟨h0, fun b t h y ht => absurd ht (Nat.not_lt_zero _)⟩
  | succ n ih =>
    obtain ⟨i1, i2⟩ := ih (by omega)
    have hk : n < k0_t1_loop.trips := by rw [trips]; omega
    have R := rows_is H ⟨n, hk⟩
    have e := B.at_succ init ⟨n, hk⟩
    rw [iv_eq] at e
    dsimp only at e R
    rw [e]
    refine ⟨fun b h c y => Rows.newS_val R i1 b h c y, fun b t h y ht => ?_⟩
    dsimp only
    rw [Rows.newO_val R i1 n (by omega) b t h y]
    split
    · rename_i E; rw [E]
    · exact i2 b t h y (by omega)

end Refs

end Cert.ReferenceIdeal.Hand

end
-- ==== Proof.Kern.RefValue.lean ====
/-
  The reference's run: its two result arrays hold the token recurrence's outputs and last state.
-/
module

public import proofs.«01_k».proof.Proof.Kern.RefLoop
public import Idealize.ShloMosaic.Lib.WritesUnit

@[expose] public section

set_option maxRecDepth 16384
set_option maxHeartbeats 4000000

noncomputable section

namespace Cert.ReferenceIdeal.Hand

open Cert.ReferenceIdeal Cert.ReferenceIdeal.Gen Cert.Chunk
open Cert.KernelIdeal.Hand (ChunkR)
open Idealize.ShloMosaic Idealize.ShloMosaic.TcCoe Finset

section
variable (c : Dev nD) (arg0 : Memref sig .tc .vmem S6x256x48x96 .fp8e4m3) (harg0 : arg0.IsWhole) (arg1 : Memref sig .tc .vmem S6x256x48 .f32) (harg1 : arg1.IsWhole) (arg2 : Memref sig .tc .vmem S6x256x48x96 .fp8e4m3) (harg2 : arg2.IsWhole) (arg3 : Memref sig .tc .vmem S6x256x48 .f32) (harg3 : arg3.IsWhole) (arg4 : Memref sig .tc .vmem S6x256x48x128 .fp8e4m3) (harg4 : arg4.IsWhole) (arg5 : Memref sig .tc .vmem S6x256x48 .f32) (harg5 : arg5.IsWhole) (arg6 : Memref sig .tc .vmem S6x256x48x96 .bf16) (harg6 : arg6.IsWhole) (arg7 : Memref sig .tc .vmem S6x256x48x96 .bf16) (harg7 : arg7.IsWhole) (arg8 : Memref sig .tc .vmem S6x256x48x96 .f32) (harg8 : arg8.IsWhole) (arg9 : Memref sig .tc .vmem S6x48x128x96 .f32) (harg9 : arg9.IsWhole) (arg10 : Memref sig .tc .vmem S48x96 .f32) (harg10 : arg10.IsWhole) (arg11 : Memref sig .tc .vmem S6144 .f32) (harg11 : arg11.IsWhole) (arg12 : Memref sig .tc .vmem S6144 .f32) (harg12 : arg12.IsWhole) (arg13 : Memref sig .tc .vmem S6x256x6144 .bf16) (harg13 : arg13.IsWhole) (arg14 : Memref sig .tc .vmem S6x48x128x96 .f32) (harg14 : arg14.IsWhole)
  (x0 : Vec Ideal S6x256x48x96 .fp8e4m3) (x1 : Vec Ideal S6x256x48 .f32) (x2 : Vec Ideal S6x256x48x96 .fp8e4m3) (x3 : Vec Ideal S6x256x48 .f32) (x4 : Vec Ideal S6x256x48x128 .fp8e4m3) (x5 : Vec Ideal S6x256x48 .f32) (x6 : Vec Ideal S6x256x48x96 .bf16) (x7 : Vec Ideal S6x256x48x96 .bf16) (x8 : Vec Ideal S6x256x48x96 .f32) (x9 : Vec Ideal S6x48x128x96 .f32) (x10 : Vec Ideal S48x96 .f32) (x11 : Vec Ideal S6144 .f32) (x12 : Vec Ideal S6144 .f32)

/-- The buffers at the point's blocks. -/
abbrev refs : Refs := { c := c, arg0 := arg0, harg0 := harg0, arg1 := arg1, harg1 := harg1, arg2 := arg2, harg2 := harg2, arg3 := arg3, harg3 := harg3, arg4 := arg4, harg4 := harg4, arg5 := arg5, harg5 := harg5, arg6 := arg6, harg6 := harg6, arg7 := arg7, harg7 := harg7, arg8 := arg8, harg8 := harg8, arg9 := arg9, harg9 := harg9, arg10 := arg10, harg10 := harg10, arg11 := arg11, harg11 := harg11, arg12 := arg12, harg12 := harg12, arg13 := arg13, harg13 := harg13, arg14 := arg14, harg14 := harg14, f0 := harg0.unread x0, f1 := harg1.unread x1, f2 := harg2.unread x2, f3 := harg3.unread x3, f4 := harg4.unread x4, f5 := harg5.unread x5, f6 := harg6.unread x6, f7 := harg7.unread x7, f8 := harg8.unread x8, f10 := harg10.unread x10, f11 := harg11.unread x11, f12 := harg12.unread x12 }

/-- The carried values the loop starts from. -/
abbrev start : Vec Ideal S6x48x128x96 .f32 × FVec Ideal S6x256x6144 .f32 := (View.readAt (Elt Ideal) arg9.view (Rect.unit (s := S6x48x128x96) ![0, 0, 0, 0] S6x48x128x96.size inb_S6x48x128x96_S6x48x128x96_0_0_0_0).toLoadRect (harg9.unread x9), k0_pay1 (F := Ideal))

/-- What the body writes to the outputs: one array, whole. -/
theorem run13 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12).1
    = [⟨Rect.unit (s := S6x256x6144) ![0, 0, 0] S6x256x6144.size inb_S6x256x6144_S6x256x6144_0_0_0, k0_pay3 (F := Ideal) ((refs c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x10 x11 x12).at_ (start arg9 harg9 x9) k0_t1_loop.trips).2⟩] := by
  unfold kernelRun0_A
  rfl

/-- What it writes to the states: one array, whole. -/
theorem run14 : (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12).2.1
    = [⟨Rect.unit (s := S6x48x128x96) ![0, 0, 0, 0] S6x48x128x96.size inb_S6x48x128x96_S6x48x128x96_0_0_0_0, ((refs c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x10 x11 x12).at_ (start arg9 harg9 x9) k0_t1_loop.trips).1⟩] := by
  unfold kernelRun0_A
  rfl

/-- The blocks hold the batches' reals. -/
structure Inp (D : Fin 6 → ChunkR) (lnw lnb : Fin 48 → Fin 128 → EReal) (s0 : Fin 6 → Fin 48 → Fin 96 → Fin 128 → ℝ) : Prop where
  r : ∀ b (t : Fin 256) h l, x0 (ix4 b t h l) = ((D b).r h t l : EReal)
  rs : ∀ b (t : Fin 256) h, x1 (ix3 b t h) = ((D b).rs h t : EReal)
  k : ∀ b (t : Fin 256) h l, x2 (ix4 b t h l) = ((D b).k h t l : EReal)
  ks : ∀ b (t : Fin 256) h, x3 (ix3 b t h) = ((D b).ks h t : EReal)
  v : ∀ b (t : Fin 256) h l, x4 (ix4 b t h l) = ((D b).v h t l : EReal)
  vs : ∀ b (t : Fin 256) h, x5 (ix3 b t h) = ((D b).vs h t : EReal)
  a : ∀ b (t : Fin 256) h l, x6 (ix4 b t h l) = ((D b).a h t l : EReal)
  b : ∀ b (t : Fin 256) h l, x7 (ix4 b t h l) = ((D b).b h t l : EReal)
  w : ∀ b (t : Fin 256) h l, x8 (ix4 b t h l) = ((D b).w h t l : EReal)
  rk : ∀ b h l, x10 (ix2 h l) = ((D b).rk h l : EReal)
  lnw : ∀ h y, x11 (ix1 (col h y)) = lnw h y
  lnb : ∀ h y, x12 (ix1 (col h y)) = lnb h y
  s0 : ∀ b h l y, x9 (ix4 b h y l) = (s0 b h l y : EReal)

variable {c} {arg0} {harg0} {arg1} {harg1} {arg2} {harg2} {arg3} {harg3} {arg4} {harg4} {arg5} {harg5} {arg6} {harg6} {arg7} {harg7} {arg8} {harg8} {arg9} {harg9} {arg10} {harg10} {arg11} {harg11} {arg12} {harg12} {arg13} {harg13} {arg14} {harg14} {x0} {x1} {x2} {x3} {x4} {x5} {x6} {x7} {x8} {x9} {x10} {x11} {x12} {D : Fin 6 → ChunkR} {lnw lnb : Fin 48 → Fin 128 → EReal} {s0 : Fin 6 → Fin 48 → Fin 96 → Fin 128 → ℝ}
variable (I : Inp x0 x1 x2 x3 x4 x5 x6 x7 x8 x9 x10 x11 x12 D lnw lnb s0)
include I

/-- The arrays the loop reads are the real numbers. -/
theorem refs_is : (refs c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x10 x11 x12).Is D lnw lnb where
  r b t h l := (congrFun (harg0.read_unread x0) _).trans (I.r b t h l)
  rs b t h := (congrFun (harg1.read_unread x1) _).trans (I.rs b t h)
  k b t h l := (congrFun (harg2.read_unread x2) _).trans (I.k b t h l)
  ks b t h := (congrFun (harg3.read_unread x3) _).trans (I.ks b t h)
  v b t h l := (congrFun (harg4.read_unread x4) _).trans (I.v b t h l)
  vs b t h := (congrFun (harg5.read_unread x5) _).trans (I.vs b t h)
  a b t h l := (congrFun (harg6.read_unread x6) _).trans (I.a b t h l)
  b b t h l := (congrFun (harg7.read_unread x7) _).trans (I.b b t h l)
  w b t h l := (congrFun (harg8.read_unread x8) _).trans (I.w b t h l)
  rk b h l := (congrFun (harg10.read_unread x10) _).trans (I.rk b h l)
  lnw h y := (congrFun (harg11.read_unread x11) _).trans (I.lnw h y)
  lnb h y := (congrFun (harg12.read_unread x12) _).trans (I.lnb h y)

/-- The loop starts from the first states. -/
theorem start_val (b : Fin 6) (h : Fin 48) (l : Fin 96) (y : Fin 128) : (start arg9 harg9 x9).1 (ix4 b h y l) = (s0 b h l y : EReal) := by
  refine Eq.trans ?_ ((congrFun (harg9.read_unread x9) (ix4 b h y l)).trans (I.s0 b h l y))
  show View.readAt (Elt Ideal) arg9.view _ (harg9.unread x9) _ = _
  rw [View.readAt_apply]
  refine congrArg (arg9.view.read (Elt Ideal) (harg9.unread x9)) (funext fun a => Fin.ext ?_)
  match a with
  | ⟨0, _⟩ => show 0 + 1 * b.val = b.val; omega
  | ⟨1, _⟩ => show 0 + 1 * h.val = h.val; omega
  | ⟨2, _⟩ => show 0 + 1 * y.val = y.val; omega
  | ⟨3, _⟩ => show 0 + 1 * l.val = l.val; omega

/-- The first output block. -/
theorem out13_val (b : Fin 6) (t : Fin 256) (h : Fin 48) (y : Fin 128) : out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 (ix3 b t (col h y)) = (D b).out (s0 b) lnw lnb t h y := by
  unfold out0_A_13
  rw [run13]
  refine (View.read_writes_cons_unit_of_mem VO0_13 VO0_13.junk inb_S6x256x6144_S6x256x6144_0_0_0 _ [] (ix3 b t (col h y)) (ix3 b t (col h y)) rfl fun a => by
    match a with
    | ⟨0, _⟩ => exact (Nat.zero_add _).symm
    | ⟨1, _⟩ => exact (Nat.zero_add _).symm
    | ⟨2, _⟩ => exact (Nat.zero_add _).symm).trans ?_
  have A := (Refs.at_val (refs_is (c := c) (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) I) (start arg9 harg9 x9) (start_val (harg9 := harg9) I) 256 le_rfl).2 b t h y t.isLt
  rw [Refs.trips]
  exact A

/-- The second output block. -/
theorem out14_val (b : Fin 6) (h : Fin 48) (l : Fin 96) (y : Fin 128) : out0_A_14 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 (ix4 b h y l) = ((D b).state (s0 b) 256 h l y : EReal) := by
  unfold out0_A_14
  rw [run14]
  refine (View.read_writes_cons_unit_of_mem VO0_14 VO0_14.junk inb_S6x48x128x96_S6x48x128x96_0_0_0_0 _ [] (ix4 b h y l) (ix4 b h y l) rfl fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm).trans ?_
  have A := (Refs.at_val (refs_is (c := c) (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) I) (start arg9 harg9 x9) (start_val (harg9 := harg9) I) 256 le_rfl).1 b h l y
  rw [Refs.trips]
  exact A

end

variable (m : (ℓ : Loc nD τ sig) → Buf (Elt Ideal) ℓ)

/-- Window 13's one block is the whole array, -/
theorem blk13 (t : Fin cfg0.N) (G : S6x256x6144.Idx → EReal) (y : S6x256x6144.Idx) : ((cfg0.win 13).blk t).view.read (Elt Ideal) G y = G y :=
  congrArg G (funext fun a => Fin.ext (by show 0 * S6x256x6144.size a + 1 * (y a).val = (y a).val; omega))
/-- The one block of the states is their array. -/
theorem blk14 (t : Fin cfg0.N) (G : S6x48x128x96.Idx → EReal) (y : S6x48x128x96.Idx) : ((cfg0.win 14).blk t).view.read (Elt Ideal) G y = G y :=
  congrArg G (funext fun a => Fin.ext (by show 0 * S6x48x128x96.size a + 1 * (y a).val = (y a).val; omega))
/-- Window 0's block, read from its array. -/
theorem iblk0 (c : Dev nD) (t : Fin cfg0.N) : iblk m c 0 t = V m c (Pipeline.arrRef spec0 0) :=
  funext fun y => congrArg (V m c (Pipeline.arrRef spec0 0)) (funext fun a => Fin.ext (by show 0 * S6x256x48x96.size a + 1 * (y a).val = (y a).val; omega))
/-- Window 1's block, read from its array. -/
theorem iblk1 (c : Dev nD) (t : Fin cfg0.N) : iblk m c 1 t = V m c (Pipeline.arrRef spec0 1) :=
  funext fun y => congrArg (V m c (Pipeline.arrRef spec0 1)) (funext fun a => Fin.ext (by show 0 * S6x256x48.size a + 1 * (y a).val = (y a).val; omega))
/-- Window 2's block, read from its array. -/
theorem iblk2 (c : Dev nD) (t : Fin cfg0.N) : iblk m c 2 t = V m c (Pipeline.arrRef spec0 2) :=
  funext fun y => congrArg (V m c (Pipeline.arrRef spec0 2)) (funext fun a => Fin.ext (by show 0 * S6x256x48x96.size a + 1 * (y a).val = (y a).val; omega))
/-- Window 3's block, read from its array. -/
theorem iblk3 (c : Dev nD) (t : Fin cfg0.N) : iblk m c 3 t = V m c (Pipeline.arrRef spec0 3) :=
  funext fun y => congrArg (V m c (Pipeline.arrRef spec0 3)) (funext fun a => Fin.ext (by show 0 * S6x256x48.size a + 1 * (y a).val = (y a).val; omega))
/-- Window 4's block, read from its array. -/
theorem iblk4 (c : Dev nD) (t : Fin cfg0.N) : iblk m c 4 t = V m c (Pipeline.arrRef spec0 4) :=
  funext fun y => congrArg (V m c (Pipeline.arrRef spec0 4)) (funext fun a => Fin.ext (by show 0 * S6x256x48x128.size a + 1 * (y a).val = (y a).val; omega))
/-- Window 5's block, read from its array. -/
theorem iblk5 (c : Dev nD) (t : Fin cfg0.N) : iblk m c 5 t = V m c (Pipeline.arrRef spec0 5) :=
  funext fun y => congrArg (V m c (Pipeline.arrRef spec0 5)) (funext fun a => Fin.ext (by show 0 * S6x256x48.size a + 1 * (y a).val = (y a).val; omega))
/-- Window 6's block, read from its array. -/
theorem iblk6 (c : Dev nD) (t : Fin cfg0.N) : iblk m c 6 t = V m c (Pipeline.arrRef spec0 6) :=
  funext fun y => congrArg (V m c (Pipeline.arrRef spec0 6)) (funext fun a => Fin.ext (by show 0 * S6x256x48x96.size a + 1 * (y a).val = (y a).val; omega))
/-- Window 7's block, read from its array. -/
theorem iblk7 (c : Dev nD) (t : Fin cfg0.N) : iblk m c 7 t = V m c (Pipeline.arrRef spec0 7) :=
  funext fun y => congrArg (V m c (Pipeline.arrRef spec0 7)) (funext fun a => Fin.ext (by show 0 * S6x256x48x96.size a + 1 * (y a).val = (y a).val; omega))
/-- Window 8's block, read from its array. -/
theorem iblk8 (c : Dev nD) (t : Fin cfg0.N) : iblk m c 8 t = V m c (Pipeline.arrRef spec0 8) :=
  funext fun y => congrArg (V m c (Pipeline.arrRef spec0 8)) (funext fun a => Fin.ext (by show 0 * S6x256x48x96.size a + 1 * (y a).val = (y a).val; omega))
/-- Window 9's block, read from its array. -/
theorem iblk9 (c : Dev nD) (t : Fin cfg0.N) : iblk m c 9 t = V m c (Pipeline.arrRef spec0 9) :=
  funext fun y => congrArg (V m c (Pipeline.arrRef spec0 9)) (funext fun a => Fin.ext (by show 0 * S6x48x128x96.size a + 1 * (y a).val = (y a).val; omega))
/-- Window 10's block, read from its array. -/
theorem iblk10 (c : Dev nD) (t : Fin cfg0.N) : iblk m c 10 t = V m c (Pipeline.arrRef spec0 10) :=
  funext fun y => congrArg (V m c (Pipeline.arrRef spec0 10)) (funext fun a => Fin.ext (by show 0 * S48x96.size a + 1 * (y a).val = (y a).val; omega))
/-- Window 11's block, read from its array. -/
theorem iblk11 (c : Dev nD) (t : Fin cfg0.N) : iblk m c 11 t = V m c (Pipeline.arrRef spec0 11) :=
  funext fun y => congrArg (V m c (Pipeline.arrRef spec0 11)) (funext fun a => Fin.ext (by show 0 * S6144.size a + 1 * (y a).val = (y a).val; omega))
/-- Window 12's block, read from its array. -/
theorem iblk12 (c : Dev nD) (t : Fin cfg0.N) : iblk m c 12 t = V m c (Pipeline.arrRef spec0 12) :=
  funext fun y => congrArg (V m c (Pipeline.arrRef spec0 12)) (funext fun a => Fin.ext (by show 0 * S6144.size a + 1 * (y a).val = (y a).val; omega))

/-- The arrays the region finds hold the batches' reals. -/
abbrev Holds (c : Dev nD) (D : Fin 6 → ChunkR) (lnw lnb : Fin 48 → Fin 128 → EReal) (s0 : Fin 6 → Fin 48 → Fin 96 → Fin 128 → ℝ) : Prop :=
  Inp (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6)) (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12)) D lnw lnb s0

variable {m} {c : Dev nD} {D : Fin 6 → ChunkR} {lnw lnb : Fin 48 → Fin 128 → EReal} {s0 : Fin 6 → Fin 48 → Fin 96 → Fin 128 → ℝ} (I : Holds m c D lnw lnb s0)
include I

/-- The first result: the recurrence's outputs. -/
theorem final13 (b : Fin 6) (t : Fin 256) (h : Fin 48) (y : Fin 128) : (dats m 0 c).arrAt 13 cfg0.N (ix3 b t (col h y)) = (D b).out (s0 b) lnw lnb t h y := by
  have ht : 0 < cfg0.N := by rw [show cfg0.N = 1 from N_0]; decide
  have e := congrFun (Value.blocks13 (F := Ideal) m c ⟨0, ht⟩ (flush0_13 _)) (ix3 b t (col h y))
  rw [blk13, Value.flushed13_A] at e
  refine e.trans ?_
  simp only [iblk0, iblk1, iblk2, iblk3, iblk4, iblk5, iblk6, iblk7, iblk8, iblk9, iblk10, iblk11, iblk12]
  exact out13_val I b t h y

/-- The second result: the state after the last token. -/
theorem final14 (b : Fin 6) (h : Fin 48) (l : Fin 96) (y : Fin 128) : (dats m 0 c).arrAt 14 cfg0.N (ix4 b h y l) = ((D b).state (s0 b) 256 h l y : EReal) := by
  have ht : 0 < cfg0.N := by rw [show cfg0.N = 1 from N_0]; decide
  have e := congrFun (Value.blocks14 (F := Ideal) m c ⟨0, ht⟩ (flush0_14 _)) (ix4 b h y l)
  rw [blk14, Value.flushed14_A] at e
  refine e.trans ?_
  simp only [iblk0, iblk1, iblk2, iblk3, iblk4, iblk5, iblk6, iblk7, iblk8, iblk9, iblk10, iblk11, iblk12]
  exact out14_val I b h l y

end Cert.ReferenceIdeal.Hand

end
-- ==== Proof.Kern.RefResult.lean ====
/-
  The reference's run over real arguments: its two result arrays are the same outputs and last states.
-/
module

public import proofs.«01_k».proof.Proof.Kern.RefValue
public import proofs.«01_k».proof.Proof.Kern.ValueBody
public import Idealize.ShloMosaic.Lib.KernelVsHost

@[expose] public section

set_option maxRecDepth 16384
set_option maxHeartbeats 4000000

noncomputable section

namespace Cert.ReferenceIdeal.Hand

open Cert.ReferenceIdeal Cert.ReferenceIdeal.Gen Cert.Chunk
open Cert.KernelIdeal.Hand (ChunkR Args outArr stArr)
open Idealize.ShloMosaic Idealize.ShloMosaic.TcCoe Idealize.ShloMosaic.Tactic

variable (m : (ℓ : Loc nD τ sig) → Buf (Elt Ideal) ℓ) (c : Dev nD)

/-- The host's conversion of the first codes leaves them what they were, -/
theorem V_main_v0 (i : S6x256x48x96.Idx) : V m c main_v0 i = m ((c : Thread nD τ).loc main_arg0) i := by
  show StableHlo.after hostOps0 _ (Proc.devRef .tc main_v0) i = _
  after_results
  rfl

/-- of the second codes, -/
theorem V_main_v1 (i : S6x256x48x96.Idx) : V m c main_v1 i = m ((c : Thread nD τ).loc main_arg2) i := by
  show StableHlo.after hostOps0 _ (Proc.devRef .tc main_v1) i = _
  after_results
  rfl

/-- and of the third. -/
theorem V_main_v2 (i : S6x256x48x128.Idx) : V m c main_v2 i = m ((c : Thread nD τ).loc main_arg4) i := by
  show StableHlo.after hostOps0 _ (Proc.devRef .tc main_v2) i = _
  after_results
  rfl

variable {m} {c} {D : Fin 6 → ChunkR} {lnw lnb : Fin 48 → Fin 128 → EReal} {s0 : Fin 6 → Fin 48 → Fin 96 → Fin 128 → ℝ}

/-- The launched arguments are the real numbers `D`, `s0`. -/
abbrev Launched (m : (ℓ : Loc nD τ sig) → Buf (Elt Ideal) ℓ) (c : Dev nD) (D : Fin 6 → ChunkR) (lnw lnb : Fin 48 → Fin 128 → EReal)
    (s0 : Fin 6 → Fin 48 → Fin 96 → Fin 128 → ℝ) : Prop :=
  Args D lnw lnb s0 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-- So are the arrays the reference's windows read. -/
theorem Launched.holds (A : Launched m c D lnw lnb s0) : Holds m c D lnw lnb s0 where
  r b t h l := (V_main_v0 m c _).trans (A.r b t h l)
  rs b t h := (congrFun (V_main_arg1 m c) _).trans (A.rs b t h)
  k b t h l := (V_main_v1 m c _).trans (A.k b t h l)
  ks b t h := (congrFun (V_main_arg3 m c) _).trans (A.ks b t h)
  v b t h l := (V_main_v2 m c _).trans (A.v b t h l)
  vs b t h := (congrFun (V_main_arg5 m c) _).trans (A.vs b t h)
  a b t h l := (congrFun (V_main_arg6 m c) _).trans (A.a b t h l)
  b b t h l := (congrFun (V_main_arg7 m c) _).trans (A.b b t h l)
  w b t h l := (congrFun (V_main_arg8 m c) _).trans (A.w b t h l)
  s0 b h l y := (congrFun (V_main_arg9 m c) _).trans (A.s0 b h l y)
  rk b h l := (congrFun (V_main_arg10 m c) _).trans (A.rk b h l)
  lnw h y := (congrFun (V_main_arg11 m c) _).trans (A.lnw h y)
  lnb h y := (congrFun (V_main_arg12 m c) _).trans (A.lnb h y)

/-- The first result array ends as the outputs, -/
theorem result13 (A : Launched m c D lnw lnb s0) : (dats m 0 c).arrAt 13 cfg0.N = outArr D lnw lnb s0 := by
  funext i
  obtain ⟨b, t, h, y, rfl⟩ : ∃ (b : Fin 6) (t : Fin 256) (h : Fin 48) (y : Fin 128), i = ix3 b t (col h y) := by
    have h2 : (i 2).val < 6144 := (i 2).isLt
    refine ⟨i 0, i 1, ⟨(i 2).val / 128, by omega⟩, ⟨(i 2).val % 128, by omega⟩, funext fun a => Fin.ext ?_⟩
    match a with
    | ⟨0, _⟩ => rfl
    | ⟨1, _⟩ => rfl
    | ⟨2, _⟩ => show (i 2).val = 128 * ((i 2).val / 128) + (i 2).val % 128; omega
  exact (final13 A.holds b t h y).trans (Cert.KernelIdeal.Hand.outArr_col D lnw lnb s0 b t h y).symm

/-- the second as the states after all tokens. -/
theorem result14 (A : Launched m c D lnw lnb s0) : (dats m 0 c).arrAt 14 cfg0.N = stArr D s0 := by
  funext i
  obtain ⟨b, h, y, l, rfl⟩ : ∃ (b : Fin 6) (h : Fin 48) (y : Fin 128) (l : Fin 96), i = ix4 b h y l := by
    refine ⟨i 0, i 1, i 2, i 3, funext fun a => ?_⟩
    match a with
    | ⟨0, _⟩ => rfl
    | ⟨1, _⟩ => rfl
    | ⟨2, _⟩ => rfl
    | ⟨3, _⟩ => rfl
  exact final14 A.holds b h l y

end Cert.ReferenceIdeal.Hand

end
-- ==== Proof.Kern.Equation.lean ====
/-
  The equation: from finite arguments the kernel and the reference end with the same outputs and the same last states.
  The arguments' numbers are read off as reals, both runs are at the token recurrence over them, and so they agree.
-/
module

public import proofs.«01_k».proof.Defs
public import proofs.«01_k».proof.Proof.Kern.Finite
public import proofs.«01_k».proof.Proof.Kern.KernelValue
public import proofs.«01_k».proof.Proof.Kern.RefResult

@[expose] public section

set_option maxRecDepth 16384
set_option maxHeartbeats 4000000

noncomputable section

namespace Cert.Equation

open Idealize.ShloMosaic Idealize.ShloMosaic.TcCoe Idealize.SL.Sem Cert.Chunk
open Cert.KernelIdeal.Hand (ChunkR Args outArr stArr)

section
variable (a0 : Cert.KernelIdeal.S6x256x48x96.Idx → EReal) (a1 : Cert.KernelIdeal.S6x256x48.Idx → EReal) (a2 : Cert.KernelIdeal.S6x256x48x96.Idx → EReal) (a3 : Cert.KernelIdeal.S6x256x48.Idx → EReal) (a4 : Cert.KernelIdeal.S6x256x48x128.Idx → EReal) (a5 : Cert.KernelIdeal.S6x256x48.Idx → EReal) (a6 : Cert.KernelIdeal.S6x256x48x96.Idx → EReal) (a7 : Cert.KernelIdeal.S6x256x48x96.Idx → EReal) (a8 : Cert.KernelIdeal.S6x256x48x96.Idx → EReal) (a9 : Cert.KernelIdeal.S6x48x128x96.Idx → EReal) (a10 : Cert.KernelIdeal.S48x96.Idx → EReal) (a11 : Cert.KernelIdeal.S6144.Idx → EReal) (a12 : Cert.KernelIdeal.S6144.Idx → EReal)

/-- The token arrays' numbers as reals, batch by batch. A token past the last has zeros: no result reads it. -/
def chunks (b : Fin 6) : ChunkR where
  r h t l := if ht : t < 256 then (a0 (ix4 b ⟨t, ht⟩ h l)).toReal else 0
  rs h t := if ht : t < 256 then (a1 (ix3 b ⟨t, ht⟩ h)).toReal else 0
  k h t l := if ht : t < 256 then (a2 (ix4 b ⟨t, ht⟩ h l)).toReal else 0
  ks h t := if ht : t < 256 then (a3 (ix3 b ⟨t, ht⟩ h)).toReal else 0
  v h t l := if ht : t < 256 then (a4 (ix4 b ⟨t, ht⟩ h l)).toReal else 0
  vs h t := if ht : t < 256 then (a5 (ix3 b ⟨t, ht⟩ h)).toReal else 0
  a h t l := if ht : t < 256 then (a6 (ix4 b ⟨t, ht⟩ h l)).toReal else 0
  b h t l := if ht : t < 256 then (a7 (ix4 b ⟨t, ht⟩ h l)).toReal else 0
  w h t l := if ht : t < 256 then (a8 (ix4 b ⟨t, ht⟩ h l)).toReal else 0
  rk h l := (a10 (ix2 h l)).toReal

/-- The first states' numbers as reals. -/
def starts (b : Fin 6) (h : Fin 48) (l : Fin 96) (y : Fin 128) : ℝ := (a9 (ix4 b h y l)).toReal

/-- A layer-norm vector in rows, one per head. -/
def rows (x : Cert.KernelIdeal.S6144.Idx → EReal) (h : Fin 48) (y : Fin 128) : EReal := x (ix1 ⟨128 * h.val + y.val, by omega⟩)
end

/-- Arrays whose entries are all real are those numbers. -/
theorem args_of (a0 : Cert.KernelIdeal.S6x256x48x96.Idx → EReal) (a1 : Cert.KernelIdeal.S6x256x48.Idx → EReal) (a2 : Cert.KernelIdeal.S6x256x48x96.Idx → EReal) (a3 : Cert.KernelIdeal.S6x256x48.Idx → EReal) (a4 : Cert.KernelIdeal.S6x256x48x128.Idx → EReal) (a5 : Cert.KernelIdeal.S6x256x48.Idx → EReal) (a6 : Cert.KernelIdeal.S6x256x48x96.Idx → EReal) (a7 : Cert.KernelIdeal.S6x256x48x96.Idx → EReal) (a8 : Cert.KernelIdeal.S6x256x48x96.Idx → EReal) (a9 : Cert.KernelIdeal.S6x48x128x96.Idx → EReal) (a10 : Cert.KernelIdeal.S48x96.Idx → EReal) (a11 : Cert.KernelIdeal.S6144.Idx → EReal) (a12 : Cert.KernelIdeal.S6144.Idx → EReal)
    (f0 : ∀ i, ((a0 i : EReal).toReal : EReal) = a0 i)
    (f1 : ∀ i, ((a1 i : EReal).toReal : EReal) = a1 i)
    (f2 : ∀ i, ((a2 i : EReal).toReal : EReal) = a2 i)
    (f3 : ∀ i, ((a3 i : EReal).toReal : EReal) = a3 i)
    (f4 : ∀ i, ((a4 i : EReal).toReal : EReal) = a4 i)
    (f5 : ∀ i, ((a5 i : EReal).toReal : EReal) = a5 i)
    (f6 : ∀ i, ((a6 i : EReal).toReal : EReal) = a6 i)
    (f7 : ∀ i, ((a7 i : EReal).toReal : EReal) = a7 i)
    (f8 : ∀ i, ((a8 i : EReal).toReal : EReal) = a8 i)
    (f9 : ∀ i, ((a9 i : EReal).toReal : EReal) = a9 i)
    (f10 : ∀ i, ((a10 i : EReal).toReal : EReal) = a10 i) :
    Args (chunks a0 a1 a2 a3 a4 a5 a6 a7 a8 a10) (rows a11) (rows a12) (starts a9) a0 a1 a2 a3 a4 a5 a6 a7 a8 a9 a10 a11 a12 where
  r b t h l := ((congrArg _ (dif_pos t.isLt)).trans (f0 _)).symm
  rs b t h := ((congrArg _ (dif_pos t.isLt)).trans (f1 _)).symm
  k b t h l := ((congrArg _ (dif_pos t.isLt)).trans (f2 _)).symm
  ks b t h := ((congrArg _ (dif_pos t.isLt)).trans (f3 _)).symm
  v b t h l := ((congrArg _ (dif_pos t.isLt)).trans (f4 _)).symm
  vs b t h := ((congrArg _ (dif_pos t.isLt)).trans (f5 _)).symm
  a b t h l := ((congrArg _ (dif_pos t.isLt)).trans (f6 _)).symm
  b b t h l := ((congrArg _ (dif_pos t.isLt)).trans (f7 _)).symm
  w b t h l := ((congrArg _ (dif_pos t.isLt)).trans (f8 _)).symm
  s0 b h l y := (f9 _).symm
  rk b h l := (f10 _).symm
  lnw h y := rfl
  lnb h y := rfl

/-- Equal arrays are the same numbers. -/
theorem args_congr {D : Fin 6 → ChunkR} {lnw lnb : Fin 48 → Fin 128 → EReal} {s0 : Fin 6 → Fin 48 → Fin 96 → Fin 128 → ℝ}
    {a0 b0 : Cert.KernelIdeal.S6x256x48x96.Idx → EReal} {a1 b1 : Cert.KernelIdeal.S6x256x48.Idx → EReal} {a2 b2 : Cert.KernelIdeal.S6x256x48x96.Idx → EReal} {a3 b3 : Cert.KernelIdeal.S6x256x48.Idx → EReal} {a4 b4 : Cert.KernelIdeal.S6x256x48x128.Idx → EReal} {a5 b5 : Cert.KernelIdeal.S6x256x48.Idx → EReal} {a6 b6 : Cert.KernelIdeal.S6x256x48x96.Idx → EReal} {a7 b7 : Cert.KernelIdeal.S6x256x48x96.Idx → EReal} {a8 b8 : Cert.KernelIdeal.S6x256x48x96.Idx → EReal} {a9 b9 : Cert.KernelIdeal.S6x48x128x96.Idx → EReal} {a10 b10 : Cert.KernelIdeal.S48x96.Idx → EReal} {a11 b11 : Cert.KernelIdeal.S6144.Idx → EReal} {a12 b12 : Cert.KernelIdeal.S6144.Idx → EReal}
    (A : Args D lnw lnb s0 a0 a1 a2 a3 a4 a5 a6 a7 a8 a9 a10 a11 a12) (e0 : b0 = a0) (e1 : b1 = a1) (e2 : b2 = a2) (e3 : b3 = a3) (e4 : b4 = a4) (e5 : b5 = a5) (e6 : b6 = a6) (e7 : b7 = a7) (e8 : b8 = a8) (e9 : b9 = a9) (e10 : b10 = a10) (e11 : b11 = a11) (e12 : b12 = a12) : Args D lnw lnb s0 b0 b1 b2 b3 b4 b5 b6 b7 b8 b9 b10 b11 b12 := by
  subst e0 e1 e2 e3 e4 e5 e6 e7 e8 e9 e10 e11 e12
  exact A

/-- From finite arguments both programs run and end with equal results: the token recurrence's outputs, and its states
    after the last token. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Finite.facts) := by
  intro m g m' g' hpre hagree
  haveI := Cert.Finite.facts
  have c₀ : Dev Cert.KernelIdeal.nD := (⟨0, Nat.one_pos⟩ : Fin 1)
  obtain ⟨D, lnw, lnb, s0, A₀⟩ : ∃ D lnw lnb s0, Cert.KernelIdeal.Hand.Launched m c₀ D lnw lnb s0 := by
    obtain ⟨f0, f1, f2, f3, f4, f5, f6, f7, f8, f9, f10⟩ := Cert.Finite.all_real _ _ _ _ _ _ _ _ _ _ _ _ _ (fun a => a.elim0) (congrFun (hpre c₀) _)
    exact ⟨_, _, _, _, args_of _ _ _ _ _ _ _ _ _ _ _ _ _ f0 f1 f2 f3 f4 f5 f6 f7 f8 f9 f10⟩
  have one : ∀ c : Dev Cert.KernelIdeal.nD, c = c₀ := fun c => Subsingleton.elim (α := Fin 1) c c₀
  have A : ∀ c, Cert.KernelIdeal.Hand.Launched m c D lnw lnb s0 := fun c => by rw [one c]; exact A₀
  have A' : ∀ c, Cert.ReferenceIdeal.Hand.Launched m' c D lnw lnb s0 := fun c => by
    obtain ⟨e0, e1, e2, e3, e4, e5, e6, e7, e8, e9, e10, e11, e12⟩ := hagree c
    exact args_congr (A c) e0 e1 e2 e3 e4 e5 e6 e7 e8 e9 e10 e11 e12
  refine ⟨fun _ => outArr D lnw lnb s0, fun _ => stArr D s0, Cert.KernelIdeal.Hand.run_values g A, ?_⟩
  refine (θ_run _ _ _).mono (fun r h c => ?_) (Cert.ReferenceIdeal.Value.run_blocks (F := Ideal) m' g')
  exact ⟨(h c).1.trans (Cert.ReferenceIdeal.Hand.result13 (A' c)), (h c).2.1.trans (Cert.ReferenceIdeal.Hand.result14 (A' c)), (h c).2.2⟩

end Cert.Equation

end
-- ==== Proof.lean ====
/-
  The claims about the RWKV-7 time mix, assembled.
-/
module

public import proofs.«01_k».proof.Proof.Gen.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kern.Body
public import proofs.«01_k».proof.Proof.Kern.BodyIdeal
public import proofs.«01_k».proof.Proof.Kern.Equation
public import Idealize.ShloMosaic.Adequacy
public import Idealize.ShloMosaic.Init

@[expose] public section

noncomputable section

namespace Cert.Proof

open Idealize.ShloMosaic Idealize.SL.Sem Cert.Kernel

/-- The frame of the kernel at the bit-exact instance. -/
theorem frame_kernel : Cert.quiescent_Kernel := fun m ρ _ => Cert.Kernel.Hand.frame m ρ

/-- The frame of the kernel over the reals. -/
theorem frame_kernelIdeal : Cert.quiescent_KernelIdeal := fun m ρ _ => Cert.KernelIdeal.Hand.frame m ρ

/-- The frame of the reference over the reals. -/
theorem frame_referenceIdeal : Cert.quiescent_ReferenceIdeal := fun m ρ _ => Cert.ReferenceIdeal.Gen.frame m ρ

/-- The one rewrite, the constant log2 e named, is the named constant's own statement. -/
theorem preserves : Cert.preserves_Kernel_KernelIdeal :=
  IdealRules.named_const.statement Cert.KernelIdeal.κ "log2e" .f32 _ _ rfl

/-- The claims, together. The two that hold under the finiteness of the arguments hold without it. -/
theorem claim : Cert.Claim :=
  ⟨Cert.Kernel.Gen.facts, Cert.KernelIdeal.Gen.facts, Cert.ReferenceIdeal.Gen.facts, Cert.Finite.facts,
    frame_kernel, frame_kernelIdeal, fun m ρ _ => Cert.KernelIdeal.Hand.frame m ρ,
    frame_referenceIdeal, fun m ρ _ => Cert.ReferenceIdeal.Gen.frame m ρ, preserves, Cert.Equation.algebraic⟩

end Cert.Proof

end
